-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v22)) (v1 : (c : Dev Cert.Kernel4Ideal.nD) → Buf (Elt Ideal) ((c.tc : Thread Cert.Kernel4Ideal.nD Cert.Kernel4Ideal.τ).loc Cert.Kernel4Ideal.main_v24)) (v2 : (c : Dev Cert.Kernel4Ideal.nD) → Buf (Elt Ideal) ((c.tc : Thread Cert.Kernel4Ideal.nD Cert.Kernel4Ideal.τ).loc Cert.Kernel4Ideal.main_v26)) (v3 : (c : Dev Cert.Kernel4Ideal.nD) → Buf (Elt Ideal) ((c.tc : Thread Cert.Kernel4Ideal.nD Cert.Kernel4Ideal.τ).loc Cert.Kernel4Ideal.main_v28)) (v4 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_v24) = v1 c
          ∧ r.2.mem ((c.tc : Thread Cert.Kernel4Ideal.nD Cert.Kernel4Ideal.τ).loc Cert.Kernel4Ideal.main_v26) = v2 c
          ∧ r.2.mem ((c.tc : Thread Cert.Kernel4Ideal.nD Cert.Kernel4Ideal.τ).loc Cert.Kernel4Ideal.main_v28) = v3 c
          ∧ r.2.mem ((c.tc : Thread Cert.Kernel4Ideal.nD Cert.Kernel4Ideal.τ).loc Cert.Kernel4Ideal.main_v31) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v21)) (v1 : (c : Dev Cert.Kernel6Ideal.nD) → Buf (Elt Ideal) ((c.tc : Thread Cert.Kernel6Ideal.nD Cert.Kernel6Ideal.τ).loc Cert.Kernel6Ideal.main_v25)) (v2 : (c : Dev Cert.Kernel6Ideal.nD) → Buf (Elt Ideal) ((c.tc : Thread Cert.Kernel6Ideal.nD Cert.Kernel6Ideal.τ).loc Cert.Kernel6Ideal.main_v26)) (v3 : (c : Dev Cert.Kernel6Ideal.nD) → Buf (Elt Ideal) ((c.tc : Thread Cert.Kernel6Ideal.nD Cert.Kernel6Ideal.τ).loc Cert.Kernel6Ideal.main_v28)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21) = v0 c
          ∧ r.2.mem ((c.tc : Thread Cert.Kernel6Ideal.nD Cert.Kernel6Ideal.τ).loc Cert.Kernel6Ideal.main_v25) = v1 c
          ∧ r.2.mem ((c.tc : Thread Cert.Kernel6Ideal.nD Cert.Kernel6Ideal.τ).loc Cert.Kernel6Ideal.main_v26) = v2 c
          ∧ r.2.mem ((c.tc : Thread Cert.Kernel6Ideal.nD Cert.Kernel6Ideal.τ).loc Cert.Kernel6Ideal.main_v28) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v43) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S16x2048x8x64 : Shape := ⟨4, ![16, 2048, 8, 64]⟩
abbrev S8 : Shape := ⟨1, ![8]⟩
abbrev S_ : Shape := ⟨0, ![]⟩

class Facts : Prop where
  bcast_S_S16x2048x8x64 : S_.BroadcastsInDim S16x2048x8x64 (![] : Fin 0 → Fin S16x2048x8x64.rank)
  bcast_S_S8 : S_.BroadcastsInDim S8 (![] : Fin 0 → Fin S8.rank)

variable [Facts]

def fn {F : FTy → Type} [FloatOps F] (main_arg0 : FVec F S16x2048x8x64 .f32) (main_arg1 : FVec F S16x2048x8x64 .f32) (main_arg2 : FVec F S16x2048x8x64 .f32) (main_arg3 : FVec F S8 .f32) : IVec S16x2048x8x64 1 × IVec S8 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : IVec S16x2048x8x64 1 := andi main_v2 main_v5
  let main_v7 : FVec F S8 .f32 := Host.absf main_arg3
  let main_cst_1 : FVec F S_ .f32 := constant S_ .f32 0x7F800000#32
  let main_v8 : FVec F S8 .f32 := broadcastInDim S8 ![] bcast_S_S8 main_cst_1
  let main_v9 : IVec S8 1 := cmpf .olt main_v7 main_v8
  (main_v6, main_v9)
-- ==== Kernel.lean ====
abbrev S16x2048x8x64 : Shape := ⟨4, ![16, 2048, 8, 64]⟩
abbrev S8 : Shape := ⟨1, ![8]⟩
abbrev S_ : Shape := ⟨0, ![]⟩
abbrev S16x2048x512 : Shape := ⟨3, ![16, 2048, 512]⟩
abbrev S16x512x2048 : Shape := ⟨3, ![16, 512, 2048]⟩
abbrev S16x8x8x32x512 : Shape := ⟨5, ![16, 8, 8, 32, 512]⟩
abbrev S16x8x32x8x512 : Shape := ⟨5, ![16, 8, 32, 8, 512]⟩
abbrev S32768x512 : Shape := ⟨2, ![32768, 512]⟩
abbrev S16x8x256x512 : Shape := ⟨4, ![16, 8, 256, 512]⟩
abbrev S16x8x512x256 : Shape := ⟨4, ![16, 8, 512, 256]⟩
abbrev S1x128x512 : Shape := ⟨3, ![1, 128, 512]⟩
abbrev S2048x128 : Shape := ⟨2, ![2048, 128]⟩
abbrev S1x8x128x256 : Shape := ⟨4, ![1, 8, 128, 256]⟩
abbrev S512x128 : Shape := ⟨2, ![512, 128]⟩
abbrev S128x512 : Shape := ⟨2, ![128, 512]⟩
abbrev S128x256 : Shape := ⟨2, ![128, 256]⟩
abbrev S1x512 : Shape := ⟨2, ![1, 512]⟩
abbrev S1 : Shape := ⟨1, ![1]⟩
abbrev S256x512 : Shape := ⟨2, ![256, 512]⟩
abbrev S1x1x128x256 : Shape := ⟨4, ![1, 1, 128, 256]⟩
abbrev S128x1792 : Shape := ⟨2, ![128, 1792]⟩
abbrev S1792x128 : Shape := ⟨2, ![1792, 128]⟩
abbrev S1792x512 : Shape := ⟨2, ![1792, 512]⟩
abbrev S8x512 : Shape := ⟨2, ![8, 512]⟩
abbrev S64x256 : Shape := ⟨2, ![64, 256]⟩
abbrev S256x128 : Shape := ⟨2, ![256, 128]⟩
abbrev S128x2048 : Shape := ⟨2, ![128, 2048]⟩
abbrev S2048x512 : Shape := ⟨2, ![2048, 512]⟩
abbrev S128x1280 : Shape := ⟨2, ![128, 1280]⟩
abbrev S1280x128 : Shape := ⟨2, ![1280, 128]⟩
abbrev S1280x512 : Shape := ⟨2, ![1280, 512]⟩
abbrev S128x1536 : Shape := ⟨2, ![128, 1536]⟩
abbrev S1536x128 : Shape := ⟨2, ![1536, 128]⟩
abbrev S1536x512 : Shape := ⟨2, ![1536, 512]⟩
abbrev S128x768 : Shape := ⟨2, ![128, 768]⟩
abbrev S768x128 : Shape := ⟨2, ![768, 128]⟩
abbrev S768x512 : Shape := ⟨2, ![768, 512]⟩
abbrev S128x1024 : Shape := ⟨2, ![128, 1024]⟩
abbrev S1024x128 : Shape := ⟨2, ![1024, 128]⟩
abbrev S1024x512 : Shape := ⟨2, ![1024, 512]⟩
abbrev S512x512 : Shape := ⟨2, ![512, 512]⟩

abbrev nBuf : Space → Nat
  | .hbm => 20
  | .vmem => 8
  | .smem => 1
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S8, .f32⟩
  | .hbm, ⟨4, _⟩ => ⟨S_, .f32⟩
  | .hbm, ⟨5, _⟩ => ⟨S16x2048x8x64, .f32⟩
  | .hbm, ⟨6, _⟩ => ⟨S16x2048x8x64, .f32⟩
  | .hbm, ⟨7, _⟩ => ⟨S16x2048x512, .f32⟩
  | .hbm, ⟨8, _⟩ => ⟨S16x512x2048, .f32⟩
  | .hbm, ⟨9, _⟩ => ⟨S16x512x2048, .bf16⟩
  | .hbm, ⟨10, _⟩ => ⟨S16x8x8x32x512, .f32⟩
  | .hbm, ⟨11, _⟩ => ⟨S16x8x32x8x512, .f32⟩
  | .hbm, ⟨12, _⟩ => ⟨S32768x512, .f32⟩
  | .hbm, ⟨13, _⟩ => ⟨S32768x512, .bf16⟩
  | .hbm, ⟨14, _⟩ => ⟨S16x8x8x32x512, .f32⟩
  | .hbm, ⟨15, _⟩ => ⟨S16x8x32x8x512, .f32⟩
  | .hbm, ⟨16, _⟩ => ⟨S16x8x256x512, .f32⟩
  | .hbm, ⟨17, _⟩ => ⟨S16x8x512x256, .f32⟩
  | .hbm, ⟨18, _⟩ => ⟨S16x8x512x256, .bf16⟩
  | .hbm, ⟨19, _⟩ => ⟨S32768x512, .bf16⟩
  | .local _ .vmem, ⟨0, _⟩ => ⟨S1x128x512, .bf16⟩
  | .local _ .vmem, ⟨1, _⟩ => ⟨S1x128x512, .bf16⟩
  | .local _ .vmem, ⟨2, _⟩ => ⟨S2048x128, .bf16⟩
  | .local _ .vmem, ⟨3, _⟩ => ⟨S2048x128, .bf16⟩
  | .local _ .vmem, ⟨4, _⟩ => ⟨S1x8x128x256, .bf16⟩
  | .local _ .vmem, ⟨5, _⟩ => ⟨S1x8x128x256, .bf16⟩
  | .local _ .vmem, ⟨6, _⟩ => ⟨S512x128, .bf16⟩
  | .local _ .vmem, ⟨7, _⟩ => ⟨S512x128, .bf16⟩
  | .local _ .smem, ⟨0, _⟩ => ⟨S8, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 4], ![false, false, false]⟩

def k0_off1 (i : grid0.Coords) : Fin 1 → Nat :=
  let c2_i32 : BitVec 32 := 2#32
  let arg1 : BitVec 32 := BitVec.ofNat 32 (i 1).val
  let v7 : BitVec 32 := Scalar.muli c2_i32 arg1
  let v8 : Index := Scalar.indexCast v7
  ![v8.toNat]
def k0_off2 (i : grid0.Coords) : Fin 1 → Nat :=
  let c2_i32_2 : BitVec 32 := 2#32
  let arg1 : BitVec 32 := BitVec.ofNat 32 (i 1).val
  let v10 : BitVec 32 := Scalar.muli c2_i32_2 arg1
  let c1_i32 : BitVec 32 := 1#32
  let v11 : BitVec 32 := Scalar.addi v10 c1_i32
  let v12 : Index := Scalar.indexCast v11
  ![v12.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16x2048x8x64 : Shape := ⟨4, ![16, 2048, 8, 64]⟩
abbrev S8 : Shape := ⟨1, ![8]⟩
abbrev S16x8x2048x2048 : Shape := ⟨4, ![16, 8, 2048, 2048]⟩
abbrev S_ : Shape := ⟨0, ![]⟩
abbrev S1x8x1x1 : Shape := ⟨4, ![1, 8, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x64x2048 : Shape := ⟨4, ![16, 8, 64, 2048]⟩
abbrev S32768x512 : Shape := ⟨2, ![32768, 512]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S8, .f32⟩
  | .hbm, ⟨4, _⟩ => ⟨S16x8x2048x2048, .f32⟩
  | .hbm, ⟨5, _⟩ => ⟨S_, .f32⟩
  | .hbm, ⟨6, _⟩ => ⟨S16x8x2048x2048, .f32⟩
  | .hbm, ⟨7, _⟩ => ⟨S16x8x2048x2048, .f32⟩
  | .hbm, ⟨8, _⟩ => ⟨S1x8x1x1, .f32⟩
  | .hbm, ⟨9, _⟩ => ⟨S16x8x2048x2048, .f32⟩
  | .hbm, ⟨10, _⟩ => ⟨S16x8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x8x2048x2048, .f32⟩
  | .hbm, ⟨19, _⟩ => ⟨S16x8x2048x2048, .f32⟩
  | .hbm, ⟨20, _⟩ => ⟨S_, .f32⟩
  | .hbm, ⟨21, _⟩ => ⟨S16x8x2048x2048, .f32⟩
  | .hbm, ⟨22, _⟩ => ⟨S16x8x2048x2048, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .i1⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S_, .f32⟩
  | .hbm, ⟨37, _⟩ => ⟨S16x8x2048x2048, .i1⟩
  | .hbm, ⟨38, _⟩ => ⟨S16x8x2048x2048, .f32⟩
  | .hbm, ⟨39, _⟩ => ⟨S16x8x2048x2048, .f32⟩
  | .hbm, ⟨40, _⟩ => ⟨S_, .f32⟩
  | .hbm, ⟨41, _⟩ => ⟨S_, .f32⟩
  | .hbm, ⟨42, _⟩ => ⟨S16x8x2048x2048, .f32⟩
  | .hbm, ⟨43, _⟩ => ⟨S16x8x2048x2048, .f32⟩
  | .hbm, ⟨44, _⟩ => ⟨S16x8x2048x2048, .f32⟩
  | .hbm, ⟨45, _⟩ => ⟨S_, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .i1⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S_, .f32⟩
  | .hbm, ⟨63, _⟩ => ⟨S_, .f32⟩
  | .hbm, ⟨64, _⟩ => ⟨S16x8x2048x2048, .i1⟩
  | .hbm, ⟨65, _⟩ => ⟨S16x8x2048x2048, .f32⟩
  | .hbm, ⟨66, _⟩ => ⟨S16x8x2048x2048, .f32⟩
  | .hbm, ⟨67, _⟩ => ⟨S16x8x64x2048, .f32⟩
  | .hbm, ⟨68, _⟩ => ⟨S16x2048x8x64, .f32⟩
  | .hbm, ⟨69, _⟩ => ⟨S32768x512, .f32⟩
  | .hbm, ⟨70, _⟩ => ⟨S32768x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6144 : Shape := ⟨2, ![16, 6144]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S16x6x1024 : Shape := ⟨3, ![16, 6, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S16x6x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x2048x1024 : Shape := ⟨3, ![16, 2048, 1024]⟩
abbrev S16x6144 : Shape := ⟨2, ![16, 6144]⟩
abbrev S1024 : Shape := ⟨1, ![1024]⟩
abbrev S1024x2816 : Shape := ⟨2, ![1024, 2816]⟩
abbrev S2816x1024 : Shape := ⟨2, ![2816, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S16x1x6144, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S_, .f32⟩
  | .hbm, ⟨41, _⟩ => ⟨S16x2048x2816, .f32⟩
  | .hbm, ⟨42, _⟩ => ⟨S16x2048x2816, .f32⟩
  | .hbm, ⟨43, _⟩ => ⟨S_, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | .hbm, ⟨69, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6144 : Shape := ⟨2, ![16, 6144]⟩
abbrev S1024 : Shape := ⟨1, ![1024]⟩
abbrev S1024x7184 : Shape := ⟨2, ![1024, 7184]⟩
abbrev S16x2048x512 : Shape := ⟨3, ![16, 2048, 512]⟩
abbrev S512x1024 : Shape := ⟨2, ![512, 1024]⟩
abbrev S1024x1024 : Shape := ⟨2, ![1024, 1024]⟩
abbrev S1024x3072 : Shape := ⟨2, ![1024, 3072]⟩
abbrev S1x512x1024 : Shape := ⟨3, ![1, 512, 1024]⟩
abbrev S3x512x1024 : Shape := ⟨3, ![3, 512, 1024]⟩
abbrev S32768x1024 : Shape := ⟨2, ![32768, 1024]⟩
abbrev S16x6x1024 : Shape := ⟨3, ![16, 6, 1024]⟩
abbrev S1x1024 : Shape := ⟨2, ![1, 1024]⟩
abbrev S32768x512 : Shape := ⟨2, ![32768, 512]⟩
abbrev S1x6x1024 : Shape := ⟨3, ![1, 6, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 32
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x7184, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x3072, .f32⟩
  | .hbm, ⟨15, _⟩ => ⟨S1024x3072, .bf16⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S3x512x1024, .f32⟩
  | .hbm, ⟨20, _⟩ => ⟨S3x512x1024, .bf16⟩
  | .hbm, ⟨21, _⟩ => ⟨S32768x1024, .f32⟩
  | .hbm, ⟨22, _⟩ => ⟨S16x6x1024, .f32⟩
  | .hbm, ⟨23, _⟩ => ⟨S1x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S32768x512, .f32⟩
  | .hbm, ⟨29, _⟩ => ⟨S32768x512, .bf16⟩
  | .hbm, ⟨30, _⟩ => ⟨S1024x1024, .bf16⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x3072, .bf16⟩
  | .local _ .vmem, ⟨12, _⟩ => ⟨S3x512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S16x6144 : Shape := ⟨2, ![16, 6144]⟩
abbrev S1024 : Shape := ⟨1, ![1024]⟩
abbrev S1024x7184 : Shape := ⟨2, ![1024, 7184]⟩
abbrev S16x2048x512 : Shape := ⟨3, ![16, 2048, 512]⟩
abbrev S512x1024 : Shape := ⟨2, ![512, 1024]⟩
abbrev S1024x1024 : Shape := ⟨2, ![1024, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x7184 : Shape := ⟨3, ![16, 2048, 7184]⟩
abbrev S16x2048x256 : Shape := ⟨3, ![16, 2048, 256]⟩
abbrev S16x2048x16 : Shape := ⟨3, ![16, 2048, 16]⟩
abbrev S32768x1024 : Shape := ⟨2, ![32768, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x7184, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16x1x6144, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x7184, .f32⟩
  | .hbm, ⟨42, _⟩ => ⟨S16x2048x512, .f32⟩
  | .hbm, ⟨43, _⟩ => ⟨S16x2048x512, .f32⟩
  | .hbm, ⟨44, _⟩ => ⟨S16x2048x512, .f32⟩
  | .hbm, ⟨45, _⟩ => ⟨S16x2048x512, .f32⟩
  | .hbm, ⟨46, _⟩ => ⟨S16x2048x512, .f32⟩
  | .hbm, ⟨47, _⟩ => ⟨S16x2048x256, .f32⟩
  | .hbm, ⟨48, _⟩ => ⟨S16x2048x256, .f32⟩
  | .hbm, ⟨49, _⟩ => ⟨S16x2048x512, .f32⟩
  | .hbm, ⟨50, _⟩ => ⟨S16x2048x512, .f32⟩
  | .hbm, ⟨51, _⟩ => ⟨S16x2048x16, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S_, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel4.lean ====
abbrev S32x4x1024 : Shape := ⟨3, ![32, 4, 1024]⟩
abbrev S32x6144 : Shape := ⟨2, ![32, 6144]⟩
abbrev S1024 : Shape := ⟨1, ![1024]⟩
abbrev S1024x7184 : Shape := ⟨2, ![1024, 7184]⟩
abbrev S1024x16 : Shape := ⟨2, ![1024, 16]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S1024x4224 : Shape := ⟨2, ![1024, 4224]⟩
abbrev S32x8x1024 : Shape := ⟨3, ![32, 8, 1024]⟩
abbrev S256x1024 : Shape := ⟨2, ![256, 1024]⟩
abbrev S32x6x1024 : Shape := ⟨3, ![32, 6, 1024]⟩
abbrev S32x8x6x1024 : Shape := ⟨4, ![32, 8, 6, 1024]⟩
abbrev S256x6x1024 : Shape := ⟨3, ![256, 6, 1024]⟩
abbrev S6x256x1024 : Shape := ⟨3, ![6, 256, 1024]⟩
abbrev S1x1024 : Shape := ⟨2, ![1, 1024]⟩
abbrev S256x512 : Shape := ⟨2, ![256, 512]⟩
abbrev S256x1664 : Shape := ⟨2, ![256, 1664]⟩
abbrev S1x256x1024 : Shape := ⟨3, ![1, 256, 1024]⟩
abbrev S256 : Shape := ⟨1, ![256]⟩
abbrev S256x1 : Shape := ⟨2, ![256, 1]⟩
abbrev S1024x1024 : Shape := ⟨2, ![1024, 1024]⟩
abbrev S1024x1664 : Shape := ⟨2, ![1024, 1664]⟩
abbrev S32x8x512 : Shape := ⟨3, ![32, 8, 512]⟩
abbrev S32x4x512 : Shape := ⟨3, ![32, 4, 512]⟩
abbrev S32x8x1664 : Shape := ⟨3, ![32, 8, 1664]⟩
abbrev S32x4x1664 : Shape := ⟨3, ![32, 4, 1664]⟩
abbrev S32x4x1552 : Shape := ⟨3, ![32, 4, 1552]⟩

abbrev nBuf : Space → Nat
  | .hbm => 46
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1024, .f32⟩
  | .hbm, ⟨3, _⟩ => ⟨S1024x7184, .f32⟩
  | .hbm, ⟨4, _⟩ => ⟨S1024x16, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x512, .f32⟩
  | .hbm, ⟨17, _⟩ => ⟨S1024x4224, .f32⟩
  | .hbm, ⟨18, _⟩ => ⟨S1024x4224, .bf16⟩
  | .hbm, ⟨19, _⟩ => ⟨S_, .i32⟩
  | .hbm, ⟨20, _⟩ => ⟨S_, .f32⟩
  | .hbm, ⟨21, _⟩ => ⟨S32x8x1024, .f32⟩
  | .hbm, ⟨22, _⟩ => ⟨S256x1024, .f32⟩
  | .hbm, ⟨23, _⟩ => ⟨S32x6x1024, .f32⟩
  | .hbm, ⟨24, _⟩ => ⟨S32x8x6x1024, .f32⟩
  | .hbm, ⟨25, _⟩ => ⟨S256x6x1024, .f32⟩
  | .hbm, ⟨26, _⟩ => ⟨S6x256x1024, .f32⟩
  | .hbm, ⟨27, _⟩ => ⟨S1x1024, .f32⟩
  | .hbm, ⟨28, _⟩ => ⟨S256x512, .bf16⟩
  | .hbm, ⟨29, _⟩ => ⟨S256x512, .f32⟩
  | .hbm, ⟨30, _⟩ => ⟨S256x512, .f32⟩
  | .hbm, ⟨31, _⟩ => ⟨S256x512, .bf16⟩
  | .hbm, ⟨32, _⟩ => ⟨S256x512, .bf16⟩
  | .hbm, ⟨33, _⟩ => ⟨S256x1024, .f32⟩
  | .hbm, ⟨34, _⟩ => ⟨S256x1664, .f32⟩
  | .hbm, ⟨35, _⟩ => ⟨S32x8x512, .bf16⟩
  | .hbm, ⟨36, _⟩ => ⟨S32x4x512, .bf16⟩
  | .hbm, ⟨37, _⟩ => ⟨S32x8x512, .f32⟩
  | .hbm, ⟨38, _⟩ => ⟨S32x4x512, .f32⟩
  | .hbm, ⟨39, _⟩ => ⟨S32x8x512, .f32⟩
  | .hbm, ⟨40, _⟩ => ⟨S32x4x512, .f32⟩
  | .hbm, ⟨41, _⟩ => ⟨S32x8x1024, .f32⟩
  | .hbm, ⟨42, _⟩ => ⟨S32x4x1024, .f32⟩
  | .hbm, ⟨43, _⟩ => ⟨S32x8x1664, .f32⟩
  | .hbm, ⟨44, _⟩ => ⟨S32x4x1664, .f32⟩
  | .hbm, ⟨45, _⟩ => ⟨S32x4x1552, .f32⟩
  | .local _ .vmem, ⟨0, _⟩ => ⟨S256x1024, .f32⟩
  | .local _ .vmem, ⟨1, _⟩ => ⟨S6x256x1024, .f32⟩
  | .local _ .vmem, ⟨2, _⟩ => ⟨S1x1024, .f32⟩
  | .local _ .vmem, ⟨3, _⟩ => ⟨S1024x4224, .bf16⟩
  | .local _ .vmem, ⟨4, _⟩ => ⟨S256x512, .bf16⟩
  | .local _ .vmem, ⟨5, _⟩ => ⟨S256x512, .f32⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | .local _ .vmem, ⟨9, _⟩ => ⟨S256x1024, .f32⟩
  | .local _ .vmem, ⟨10, _⟩ => ⟨S256x1664, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v20_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1664 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference4Ideal.lean ====
abbrev S32x4x1024 : Shape := ⟨3, ![32, 4, 1024]⟩
abbrev S32x6144 : Shape := ⟨2, ![32, 6144]⟩
abbrev S1024 : Shape := ⟨1, ![1024]⟩
abbrev S1024x7184 : Shape := ⟨2, ![1024, 7184]⟩
abbrev S32x1x6144 : Shape := ⟨3, ![32, 1, 6144]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x7184 : Shape := ⟨3, ![32, 4, 7184]⟩
abbrev S32x4x512 : Shape := ⟨3, ![32, 4, 512]⟩
abbrev S32x4x256 : Shape := ⟨3, ![32, 4, 256]⟩
abbrev S32x4x16 : Shape := ⟨3, ![32, 4, 16]⟩
abbrev S32x4x1552 : Shape := ⟨3, ![32, 4, 1552]⟩

abbrev nBuf : Space → Nat
  | .hbm => 54
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1024, .f32⟩
  | .hbm, ⟨3, _⟩ => ⟨S1024x7184, .f32⟩
  | .hbm, ⟨4, _⟩ => ⟨S32x1x6144, .f32⟩
  | .hbm, ⟨5, _⟩ => ⟨S32x1x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x4x1024, .f32⟩
  | .hbm, ⟨12, _⟩ => ⟨S_, .f32⟩
  | .hbm, ⟨13, _⟩ => ⟨S32x4, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S32x4x1, .f32⟩
  | .hbm, ⟨22, _⟩ => ⟨S32x4x1024, .f32⟩
  | .hbm, ⟨23, _⟩ => ⟨S32x4x1024, .f32⟩
  | .hbm, ⟨24, _⟩ => ⟨S1x1x1024, .f32⟩
  | .hbm, ⟨25, _⟩ => ⟨S32x4x1024, .f32⟩
  | .hbm, ⟨26, _⟩ => ⟨S32x4x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x4x1024, .f32⟩
  | .hbm, ⟨31, _⟩ => ⟨S32x4x1024, .f32⟩
  | .hbm, ⟨32, _⟩ => ⟨S32x4x1024, .f32⟩
  | .hbm, ⟨33, _⟩ => ⟨S32x4x1024, .f32⟩
  | .hbm, ⟨34, _⟩ => ⟨S32x4x7184, .f32⟩
  | .hbm, ⟨35, _⟩ => ⟨S32x4x512, .f32⟩
  | .hbm, ⟨36, _⟩ => ⟨S32x4x512, .f32⟩
  | .hbm, ⟨37, _⟩ => ⟨S32x4x512, .f32⟩
  | .hbm, ⟨38, _⟩ => ⟨S32x4x512, .f32⟩
  | .hbm, ⟨39, _⟩ => ⟨S32x4x512, .f32⟩
  | .hbm, ⟨40, _⟩ => ⟨S32x4x256, .f32⟩
  | .hbm, ⟨41, _⟩ => ⟨S32x4x256, .f32⟩
  | .hbm, ⟨42, _⟩ => ⟨S32x4x512, .f32⟩
  | .hbm, ⟨43, _⟩ => ⟨S32x4x512, .f32⟩
  | .hbm, ⟨44, _⟩ => ⟨S32x4x16, .f32⟩
  | .hbm, ⟨45, _⟩ => ⟨S32x4x1024, .f32⟩
  | .hbm, ⟨46, _⟩ => ⟨S32x4x1024, .f32⟩
  | .hbm, ⟨47, _⟩ => ⟨S32x4x1024, .f32⟩
  | .hbm, ⟨48, _⟩ => ⟨S_, .f32⟩
  | .hbm, ⟨49, _⟩ => ⟨S32x4x512, .f32⟩
  | .hbm, ⟨50, _⟩ => ⟨S32x4x512, .f32⟩
  | .hbm, ⟨51, _⟩ => ⟨S32x4x512, .bf16⟩
  | .hbm, ⟨52, _⟩ => ⟨S32x4x1024, .f32⟩
  | .hbm, ⟨53, _⟩ => ⟨S32x4x1552, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel5.lean ====
abbrev S32x4x1024 : Shape := ⟨3, ![32, 4, 1024]⟩
abbrev S32x6144 : Shape := ⟨2, ![32, 6144]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x8x1024 : Shape := ⟨3, ![32, 8, 1024]⟩
abbrev S256x1024 : Shape := ⟨2, ![256, 1024]⟩
abbrev S32x6x1024 : Shape := ⟨3, ![32, 6, 1024]⟩
abbrev S32x8x6x1024 : Shape := ⟨4, ![32, 8, 6, 1024]⟩
abbrev S256x6x1024 : Shape := ⟨3, ![256, 6, 1024]⟩
abbrev S6x256x1024 : Shape := ⟨3, ![6, 256, 1024]⟩
abbrev S1x1024 : Shape := ⟨2, ![1, 1024]⟩
abbrev S1x256x1024 : Shape := ⟨3, ![1, 256, 1024]⟩
abbrev S256 : Shape := ⟨1, ![256]⟩
abbrev S256x1 : Shape := ⟨2, ![256, 1]⟩
abbrev S256x2816 : Shape := ⟨2, ![256, 2816]⟩

abbrev nBuf : Space → Nat
  | .hbm => 23
  | .vmem => 10
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S32x8x1024, .f32⟩
  | .hbm, ⟨10, _⟩ => ⟨S256x1024, .f32⟩
  | .hbm, ⟨11, _⟩ => ⟨S32x6x1024, .f32⟩
  | .hbm, ⟨12, _⟩ => ⟨S32x8x6x1024, .f32⟩
  | .hbm, ⟨13, _⟩ => ⟨S256x6x1024, .f32⟩
  | .hbm, ⟨14, _⟩ => ⟨S6x256x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S256x1024, .f32⟩
  | .hbm, ⟨21, _⟩ => ⟨S32x8x1024, .f32⟩
  | .hbm, ⟨22, _⟩ => ⟨S32x4x1024, .f32⟩
  | .local _ .vmem, ⟨0, _⟩ => ⟨S256x1024, .f32⟩
  | .local _ .vmem, ⟨1, _⟩ => ⟨S6x256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_14 : BitVec 32 := 0#32
  let v22 : BitVec 1 := Scalar.cmpi .eq arg1 c0_i32_14
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S6x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference5Ideal.lean ====
abbrev S32x4x1024 : Shape := ⟨3, ![32, 4, 1024]⟩
abbrev S32x6144 : Shape := ⟨2, ![32, 6144]⟩
abbrev S1024 : Shape := ⟨1, ![1024]⟩
abbrev S1024x2816 : Shape := ⟨2, ![1024, 2816]⟩
abbrev S2816x1024 : Shape := ⟨2, ![2816, 1024]⟩
abbrev S32x1x6144 : Shape := ⟨3, ![32, 1, 6144]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2816 : Shape := ⟨3, ![32, 4, 2816]⟩

abbrev nBuf : Space → Nat
  | .hbm => 69
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S32x1x6144, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x4x1024, .f32⟩
  | .hbm, ⟨15, _⟩ => ⟨S_, .f32⟩
  | .hbm, ⟨16, _⟩ => ⟨S32x4, .f32⟩
  | .hbm, ⟨17, _⟩ => ⟨S32x4x1, .f32⟩
  | .hbm, ⟨18, _⟩ => ⟨S_, .f32⟩
  | .hbm, ⟨19, _⟩ => ⟨S32x4x1, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S32x4x1, .f32⟩
  | .hbm, ⟨25, _⟩ => ⟨S32x4x1024, .f32⟩
  | .hbm, ⟨26, _⟩ => ⟨S32x4x1024, .f32⟩
  | .hbm, ⟨27, _⟩ => ⟨S1x1x1024, .f32⟩
  | .hbm, ⟨28, _⟩ => ⟨S32x4x1024, .f32⟩
  | .hbm, ⟨29, _⟩ => ⟨S32x4x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x4x1024, .f32⟩
  | .hbm, ⟨34, _⟩ => ⟨S32x4x1024, .f32⟩
  | .hbm, ⟨35, _⟩ => ⟨S32x4x1024, .f32⟩
  | .hbm, ⟨36, _⟩ => ⟨S32x4x1024, .f32⟩
  | .hbm, ⟨37, _⟩ => ⟨S32x4x2816, .f32⟩
  | .hbm, ⟨38, _⟩ => ⟨S32x4x2816, .f32⟩
  | .hbm, ⟨39, _⟩ => ⟨S32x4x2816, .f32⟩
  | .hbm, ⟨40, _⟩ => ⟨S_, .f32⟩
  | .hbm, ⟨41, _⟩ => ⟨S32x4x2816, .f32⟩
  | .hbm, ⟨42, _⟩ => ⟨S32x4x2816, .f32⟩
  | .hbm, ⟨43, _⟩ => ⟨S_, .f32⟩
  | .hbm, ⟨44, _⟩ => ⟨S32x4x2816, .f32⟩
  | .hbm, ⟨45, _⟩ => ⟨S32x4x2816, .f32⟩
  | .hbm, ⟨46, _⟩ => ⟨S32x4x2816, .f32⟩
  | .hbm, ⟨47, _⟩ => ⟨S32x4x2816, .f32⟩
  | .hbm, ⟨48, _⟩ => ⟨S32x4x2816, .f32⟩
  | .hbm, ⟨49, _⟩ => ⟨S32x4x1024, .f32⟩
  | .hbm, ⟨50, _⟩ => ⟨S32x4x1024, .f32⟩
  | .hbm, ⟨51, _⟩ => ⟨S32x4x1024, .f32⟩
  | .hbm, ⟨52, _⟩ => ⟨S32x4x1024, .f32⟩
  | .hbm, ⟨53, _⟩ => ⟨S32x4x1024, .f32⟩
  | .hbm, ⟨54, _⟩ => ⟨S_, .f32⟩
  | .hbm, ⟨55, _⟩ => ⟨S32x4, .f32⟩
  | .hbm, ⟨56, _⟩ => ⟨S32x4x1, .f32⟩
  | .hbm, ⟨57, _⟩ => ⟨S_, .f32⟩
  | .hbm, ⟨58, _⟩ => ⟨S32x4x1, .f32⟩
  | .hbm, ⟨59, _⟩ => ⟨S32x4x1, .f32⟩
  | .hbm, ⟨60, _⟩ => ⟨S_, .f32⟩
  | .hbm, ⟨61, _⟩ => ⟨S32x4x1, .f32⟩
  | .hbm, ⟨62, _⟩ => ⟨S32x4x1, .f32⟩
  | .hbm, ⟨63, _⟩ => ⟨S32x4x1, .f32⟩
  | .hbm, ⟨64, _⟩ => ⟨S32x4x1024, .f32⟩
  | .hbm, ⟨65, _⟩ => ⟨S32x4x1024, .f32⟩
  | .hbm, ⟨66, _⟩ => ⟨S1x1x1024, .f32⟩
  | .hbm, ⟨67, _⟩ => ⟨S32x4x1024, .f32⟩
  | .hbm, ⟨68, _⟩ => ⟨S32x4x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== Kernel6.lean ====
abbrev S16x2048x1024 : Shape := ⟨3, ![16, 2048, 1024]⟩
abbrev S16x6144 : Shape := ⟨2, ![16, 6144]⟩
abbrev S1024 : Shape := ⟨1, ![1024]⟩
abbrev S1024x7184 : Shape := ⟨2, ![1024, 7184]⟩
abbrev S256x256 : Shape := ⟨2, ![256, 256]⟩
abbrev S1024x16 : Shape := ⟨2, ![1024, 16]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S1024x4224 : Shape := ⟨2, ![1024, 4224]⟩
abbrev S32768x1024 : Shape := ⟨2, ![32768, 1024]⟩
abbrev S16x6x1024 : Shape := ⟨3, ![16, 6, 1024]⟩
abbrev S1x1024 : Shape := ⟨2, ![1, 1024]⟩
abbrev S16x512x2048 : Shape := ⟨3, ![16, 512, 2048]⟩
abbrev S2x16x512x2048 : Shape := ⟨4, ![2, 16, 512, 2048]⟩
abbrev S32768x512 : Shape := ⟨2, ![32768, 512]⟩
abbrev S16x8x512x256 : Shape := ⟨4, ![16, 8, 512, 256]⟩
abbrev S32768x1664 : Shape := ⟨2, ![32768, 1664]⟩
abbrev S512x1024 : Shape := ⟨2, ![512, 1024]⟩
abbrev S1x6x1024 : Shape := ⟨3, ![1, 6, 1024]⟩
abbrev S1x512x512 : Shape := ⟨3, ![1, 512, 512]⟩
abbrev S1x1x512x512 : Shape := ⟨4, ![1, 1, 512, 512]⟩
abbrev S512x512 : Shape := ⟨2, ![512, 512]⟩
abbrev S1x2x512x256 : Shape := ⟨4, ![1, 2, 512, 256]⟩
abbrev S512x1664 : Shape := ⟨2, ![512, 1664]⟩
abbrev S1x1x1024 : Shape := ⟨3, ![1, 1, 1024]⟩
abbrev S512 : Shape := ⟨1, ![512]⟩
abbrev S512x1 : Shape := ⟨2, ![512, 1]⟩
abbrev S256x512 : Shape := ⟨2, ![256, 512]⟩
abbrev S512x256 : Shape := ⟨2, ![512, 256]⟩
abbrev S1x1x512x256 : Shape := ⟨4, ![1, 1, 512, 256]⟩
abbrev S1024x1024 : Shape := ⟨2, ![1024, 1024]⟩
abbrev S1024x1664 : Shape := ⟨2, ![1024, 1664]⟩
abbrev S1x16x512x2048 : Shape := ⟨4, ![1, 16, 512, 2048]⟩
abbrev S16x8x64x2048 : Shape := ⟨4, ![16, 8, 64, 2048]⟩
abbrev S16x2048x8x64 : Shape := ⟨4, ![16, 2048, 8, 64]⟩
abbrev S16x2048x1664 : Shape := ⟨3, ![16, 2048, 1664]⟩
abbrev S16x2048x1552 : Shape := ⟨3, ![16, 2048, 1552]⟩

abbrev nBuf : Space → Nat
  | .hbm => 42
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x7184, .f32⟩
  | .hbm, ⟨4, _⟩ => ⟨S256x256, .bf16⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x512, .f32⟩
  | .hbm, ⟨18, _⟩ => ⟨S1024x4224, .f32⟩
  | .hbm, ⟨19, _⟩ => ⟨S1024x4224, .bf16⟩
  | .hbm, ⟨20, _⟩ => ⟨S32768x1024, .f32⟩
  | .hbm, ⟨21, _⟩ => ⟨S16x6x1024, .f32⟩
  | .hbm, ⟨22, _⟩ => ⟨S1x1024, .f32⟩
  | .hbm, ⟨23, _⟩ => ⟨S256x256, .bf16⟩
  | .hbm, ⟨24, _⟩ => ⟨S16x512x2048, .bf16⟩
  | .hbm, ⟨25, _⟩ => ⟨S2x16x512x2048, .f32⟩
  | .hbm, ⟨26, _⟩ => ⟨S2x16x512x2048, .f32⟩
  | .hbm, ⟨27, _⟩ => ⟨S32768x512, .bf16⟩
  | .hbm, ⟨28, _⟩ => ⟨S16x8x512x256, .bf16⟩
  | .hbm, ⟨29, _⟩ => ⟨S32768x1024, .f32⟩
  | .hbm, ⟨30, _⟩ => ⟨S32768x1664, .f32⟩
  | .hbm, ⟨31, _⟩ => ⟨S1x16x512x2048, .f32⟩
  | .hbm, ⟨32, _⟩ => ⟨S16x512x2048, .f32⟩
  | .hbm, ⟨33, _⟩ => ⟨S16x8x64x2048, .f32⟩
  | .hbm, ⟨34, _⟩ => ⟨S16x2048x8x64, .f32⟩
  | .hbm, ⟨35, _⟩ => ⟨S1x16x512x2048, .f32⟩
  | .hbm, ⟨36, _⟩ => ⟨S16x512x2048, .f32⟩
  | .hbm, ⟨37, _⟩ => ⟨S16x8x64x2048, .f32⟩
  | .hbm, ⟨38, _⟩ => ⟨S16x2048x8x64, .f32⟩
  | .hbm, ⟨39, _⟩ => ⟨S16x2048x1024, .f32⟩
  | .hbm, ⟨40, _⟩ => ⟨S16x2048x1664, .f32⟩
  | .hbm, ⟨41, _⟩ => ⟨S16x2048x1552, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4224, .bf16⟩
  | .local _ .vmem, ⟨6, _⟩ => ⟨S256x256, .bf16⟩
  | .local _ .vmem, ⟨7, _⟩ => ⟨S256x256, .bf16⟩
  | .local _ .vmem, ⟨8, _⟩ => ⟨S1x512x512, .bf16⟩
  | .local _ .vmem, ⟨9, _⟩ => ⟨S1x512x512, .bf16⟩
  | .local _ .vmem, ⟨10, _⟩ => ⟨S1x1x512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S512x512, .bf16⟩
  | .local _ .vmem, ⟨15, _⟩ => ⟨S512x512, .bf16⟩
  | .local _ .vmem, ⟨16, _⟩ => ⟨S1x2x512x256, .bf16⟩
  | .local _ .vmem, ⟨17, _⟩ => ⟨S1x2x512x256, .bf16⟩
  | .local _ .vmem, ⟨18, _⟩ => ⟨S512x1024, .f32⟩
  | .local _ .vmem, ⟨19, _⟩ => ⟨S512x1024, .f32⟩
  | .local _ .vmem, ⟨20, _⟩ => ⟨S512x1664, .f32⟩
  | .local _ .vmem, ⟨21, _⟩ => ⟨S512x1664, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev main_v17_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1664 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16x2048x1024 : Shape := ⟨3, ![16, 2048, 1024]⟩
abbrev S16x6144 : Shape := ⟨2, ![16, 6144]⟩
abbrev S1024 : Shape := ⟨1, ![1024]⟩
abbrev S1024x7184 : Shape := ⟨2, ![1024, 7184]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x7184 : Shape := ⟨3, ![16, 2048, 7184]⟩
abbrev S16x2048x512 : Shape := ⟨3, ![16, 2048, 512]⟩
abbrev S16x2048x256 : Shape := ⟨3, ![16, 2048, 256]⟩
abbrev S16x2048x16 : Shape := ⟨3, ![16, 2048, 16]⟩
abbrev S16x2048x8x64 : Shape := ⟨4, ![16, 2048, 8, 64]⟩
abbrev S16x2048x1552 : Shape := ⟨3, ![16, 2048, 1552]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x7184, .f32⟩
  | .hbm, ⟨4, _⟩ => ⟨S16x1x6144, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x7184, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S16x2048x512, .f32⟩
  | .hbm, ⟨40, _⟩ => ⟨S16x2048x256, .f32⟩
  | .hbm, ⟨41, _⟩ => ⟨S16x2048x256, .f32⟩
  | .hbm, ⟨42, _⟩ => ⟨S16x2048x512, .f32⟩
  | .hbm, ⟨43, _⟩ => ⟨S16x2048x512, .f32⟩
  | .hbm, ⟨44, _⟩ => ⟨S16x2048x16, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x8x64, .f32⟩
  | .hbm, ⟨49, _⟩ => ⟨S16x2048x8x64, .f32⟩
  | .hbm, ⟨50, _⟩ => ⟨S16x2048x1024, .f32⟩
  | .hbm, ⟨51, _⟩ => ⟨S16x2048x1552, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.Spec.lean ====
/- What one grid point of the kernel computes, written once for any number of key tiles. -/
module

public import proofs.«01_k».proof.KernelIdeal

@[expose] public section

noncomputable section

namespace Cert.KernelIdeal.Spec

open Idealize.ShloMosaic Idealize.SL.Sem

variable {F : FTy → Type} [FloatOps F]

/-- Eight rows of keys by the two heads' 256 queries each. -/
abbrev V8 (F : FTy → Type) : Type := FVec F S8x512 .f32

/-- The rows of `m + 1` tiles of 256 keys. -/
abbrev Rows (m : Nat) : Shape := ⟨2, ![(m + 1) * 256, 512]⟩

theorem slices_rows (m j r : Nat) : (Rows m).Slices ![(m - j) * 256 + 8 * (r % 32), 0] S8x512 := by
  refine ⟨rfl, fun a => ?_⟩
  match a with
  | 0 => show (m - j) * 256 + 8 * (r % 32) + 8 ≤ (m + 1) * 256; omega
  | 1 => show 0 + 512 ≤ 512; omega

theorem cat_rows {α : Type} (m : Nat) (f : Nat → S256x512.Idx → α) :
    Shape.Concatenates (((List.range (m + 2)).map fun t => (⟨S256x512, f t⟩ : (s : Shape) × (s.Idx → α))).map (·.1))
      (Rows (m + 1)) 0 := by
  refine ⟨by simp, ?_, ?_⟩
  · intro s hs
    simp at hs
    obtain ⟨_, rfl⟩ := hs
    refine ⟨rfl, fun b hb => ?_⟩
    match b with
    | 0 => exact absurd rfl hb
    | 1 => rfl
  · simp [Function.comp_def, S256x512, Rows]

theorem cat_cols {α : Type} (m : Nat) (f : Nat → S128x256.Idx → α) :
    Shape.Concatenates (((List.range (m + 2)).map fun t => (⟨S128x256, f t⟩ : (s : Shape) × (s.Idx → α))).map (·.1))
      ⟨2, ![128, (m + 2) * 256]⟩ 1 := by
  refine ⟨by simp, ?_, ?_⟩
  · intro s hs
    simp at hs
    obtain ⟨_, rfl⟩ := hs
    refine ⟨rfl, fun b hb => ?_⟩
    match b with
    | 0 => rfl
    | 1 => exact absurd rfl hb
  · simp [Function.comp_def, S128x256]

theorem bcast_bias (m : Nat) : S1x512.Broadcasts (Rows m) := by
  refine ⟨Nat.le_refl _, fun a => ?_⟩
  match a with
  | 0 => exact .inl rfl
  | 1 => exact .inr fun _ => rfl

theorem cat8 : Shape.Concatenates (List.replicate 32 S8x512) S256x512 0 := by decide

/-- Tiles one below the other. -/
def catRows (m : Nat) (f : Nat → FVec F S256x512 .f32) : FVec F (Rows (m + 1)) .f32 :=
  concatenate (Rows (m + 1)) 0 ((List.range (m + 2)).map fun t => ⟨S256x512, f t⟩) (cat_rows m f)

/-- Tiles side by side. -/
def catCols (m : Nat) (f : Nat → FVec F S128x256 .bf16) : FVec F ⟨2, ![128, (m + 2) * 256]⟩ .bf16 :=
  concatenate ⟨2, ![128, (m + 2) * 256]⟩ 1 ((List.range (m + 2)).map fun t => ⟨S128x256, f t⟩) (cat_cols m f)

/-- Eight rows of zeros. -/
def zero8 : V8 F := broadcast S8x512 (Scalar.ofBits .f32 0x00000000#32)

/-- Group `r` of the tile `j` below the top one, of the rows of `m + 1` tiles. -/
def grp {m : Nat} (x : FVec F (Rows m) .f32) (j r : Nat) : V8 F :=
  extractStridedSlice S8x512 ![(m - j) * 256 + 8 * (r % 32), 0] x (slices_rows m j r)

/-- The sum of the last `k` groups of a tile, the last one first. -/
def run (lk : Nat → V8 F) : Nat → V8 F
  | 0 => zero8
  | k + 1 => addf (run lk k) (lk (31 - k))

/-- The groups of the diagonal tile with the keys that a query does not see set to zero. -/
def msk (mask : IVec S256x512 1) (x : Nat → V8 F) (r : Nat) : V8 F :=
  select (extractStridedSlice S8x512 ![(0 - 0) * 256 + 8 * (r % 32), 0] mask (slices_rows 0 0 r)) (x r) zero8

variable [Facts]
open Facts Shapes1.Facts₀ Shapes2.Facts₀

/-- One step of the scan over the eight rows: add the row `8 - w` below, while there is one. -/
def step (w : BitVec 32) (x : V8 F) : V8 F :=
  addf x (select (cmpi .slt (iota .tc S8x512 32 [0] iota_S8x512_d0_w32) (broadcast S8x512 w))
    (dynamicRotate 0 w none x rotates_S8x512_d0) zero8)

/-- The sums over the rows from one on. -/
def inc (x : V8 F) : V8 F := step 4#32 (step 6#32 (step 7#32 x))

def later (tot carry : V8 F) : V8 F := addf (subf (inc tot) tot) carry

def nextCarry (tot carry : V8 F) : V8 F :=
  addf carry (broadcastTo S8x512 (shapeCast S1x512
    (extractStridedSlice S1x512 ![0, 0] (inc tot) slices_S8x512_o0_0_S1x512) shapeCasts_S1x512_S1x512)
    broadcasts_S1x512_S8x512)

/-- The weights of one group of keys. -/
def wgt (lb lk : Nat → V8 F) (carry : V8 F) (r : Nat) : V8 F :=
  exp (subf (subf (lb r) (run lk (31 - r))) (later (run lk 32) carry))

/-- The 32 groups of a tile, one below the other. -/
def stack (a : Nat → V8 F) : FVec F S256x512 .f32 :=
  concatenate S256x512 0 [⟨S8x512, a 0⟩, ⟨S8x512, a 1⟩, ⟨S8x512, a 2⟩, ⟨S8x512, a 3⟩, ⟨S8x512, a 4⟩, ⟨S8x512, a 5⟩,
    ⟨S8x512, a 6⟩, ⟨S8x512, a 7⟩, ⟨S8x512, a 8⟩, ⟨S8x512, a 9⟩, ⟨S8x512, a 10⟩, ⟨S8x512, a 11⟩, ⟨S8x512, a 12⟩,
    ⟨S8x512, a 13⟩, ⟨S8x512, a 14⟩, ⟨S8x512, a 15⟩, ⟨S8x512, a 16⟩, ⟨S8x512, a 17⟩, ⟨S8x512, a 18⟩, ⟨S8x512, a 19⟩,
    ⟨S8x512, a 20⟩, ⟨S8x512, a 21⟩, ⟨S8x512, a 22⟩, ⟨S8x512, a 23⟩, ⟨S8x512, a 24⟩, ⟨S8x512, a 25⟩, ⟨S8x512, a 26⟩,
    ⟨S8x512, a 27⟩, ⟨S8x512, a 28⟩, ⟨S8x512, a 29⟩, ⟨S8x512, a 30⟩, ⟨S8x512, a 31⟩] cat8

variable (mask : IVec S256x512 1)

/-- The log-keeps of the tile `j` below the top one, those of the top one masked. -/
def keep {m : Nat} (nk : FVec F (Rows m) .f32) : Nat → Nat → V8 F
  | 0 => msk mask (grp nk 0)
  | j + 1 => grp nk (j + 1)

/-- What the tiles above the tile `j` below the top one add up to. -/
def carry {m : Nat} (nk : FVec F (Rows m) .f32) : Nat → V8 F
  | 0 => zero8
  | j + 1 => nextCarry (run (keep mask nk j) 32) (carry nk j)

/-- The weights of the tile `j` below the top one. -/
def tile {m : Nat} (lb nk : FVec F (Rows m) .f32) : Nat → FVec F S256x512 .f32
  | 0 => stack (msk mask (wgt (grp lb 0) (keep mask nk 0) (carry mask nk 0)))
  | j + 1 => stack (wgt (grp lb (j + 1)) (keep mask nk (j + 1)) (carry mask nk (j + 1)))

/-- The weights of one tile alone. -/
def weights1 (lb nk : FVec F (Rows 0) .f32) : FVec F (Rows 0) .f32 := tile (m := 0) mask lb nk 0

/-- The weights of two tiles or more. -/
def weights2 (m : Nat) (lb nk : FVec F (Rows (m + 1)) .f32) : FVec F (Rows (m + 1)) .f32 :=
  catRows m fun t => tile (m := m + 1) mask lb nk (m + 1 - t)

/-- The weights of all `m + 1` tiles. -/
def weights : (m : Nat) → (lb nk : FVec F (Rows m) .f32) → FVec F (Rows m) .f32
  | 0 => weights1 mask
  | m + 1 => weights2 mask m

/-- The value tiles side by side. -/
def values : (m : Nat) → (vt : Nat → FVec F S128x256 .bf16) → FVec F ⟨2, ![128, (m + 1) * 256]⟩ .bf16
  | 0, vt => vt 0
  | m + 1, vt => catCols m vt

/-- The scores. -/
def scores (m : Nat) (q2 : FVec F S128x512 .bf16) (k : FVec F ⟨2, ![(m + 1) * 256, 128]⟩ .bf16) (bias : FVec F S1x512 .f32) :
    FVec F (Rows m) .f32 :=
  addf (matmul (DotDims.plain ((m + 1) * 256) 128 512) none k q2 (constant (Rows m) .f32 0x00000000#32))
    (broadcastTo (Rows m) bias (bcast_bias m))

def negKeep {s : Shape} (z : FVec F s .f32) : FVec F s .f32 :=
  addf (maximumf z (broadcast s (Scalar.ofBits .f32 0x00000000#32)))
    (log (addf (broadcast s (Scalar.ofBits .f32 0x3F800000#32))
      (exp (subf (broadcast s (Scalar.ofBits .f32 0x00000000#32)) (absf z)))))

/-- The result of one block of 256 queries, from its scores. -/
def attend (m : Nat) (z : FVec F (Rows m) .f32) (vt : Nat → FVec F S128x256 .bf16) : FVec F S128x512 .f32 :=
  matmul (DotDims.plain 128 ((m + 1) * 256) 512) none (values m vt)
    (truncf .bf16 (weights mask m (subf z (negKeep z)) (negKeep z)) bitsLt_bf16_f32)
    (constant S128x512 .f32 0x00000000#32)

/-- The two heads of a block, one below the other, with the queries as rows. -/
def heads (x : FVec F S128x512 .f32) : FVec F S256x128 .f32 :=
  transpose S256x128 [1, 0] (concatenate S128x256 0
    [⟨S64x256, extractStridedSlice S64x256 ![0, 0] x slices_S128x512_o0_0_S64x256⟩,
      ⟨S64x256, extractStridedSlice S64x256 ![64, 256] x slices_S128x512_o64_256_S64x256⟩]
    concatenates_S64x256_S64x256_S128x256_d0) transposes_S128x256_p1_0_S256x128

/-- A block's queries, once for either head, the other head's features set to zero. -/
def twice (q : FVec F S128x256 .f32) : FVec F S128x512 .bf16 :=
  truncf .bf16 (concatenate S128x512 1
    [⟨S128x256, select (cmpi .slt (iota .tc S128x256 32 [0] iota_S128x256_d0_w32) (broadcast S128x256 64#32)) q
        (broadcast S128x256 (Scalar.ofBits .f32 0x00000000#32))⟩,
      ⟨S128x256, select (cmpi .sge (iota .tc S128x256 32 [0] iota_S128x256_d0_w32) (broadcast S128x256 64#32)) q
        (broadcast S128x256 (Scalar.ofBits .f32 0x00000000#32))⟩]
    concatenates_S128x256_S128x256_S128x512_d1) bitsLt_bf16_f32

end Cert.KernelIdeal.Spec
-- ==== Proof.Body.lean ====
/- The kernel's body written with the functions of `Spec`: the same accesses in the same order. -/
module

public import proofs.«01_k».proof.Proof.Spec

@[expose] public section

noncomputable section

namespace Cert.KernelIdeal.Spec

open Idealize.ShloMosaic Idealize.SL.Sem

variable {F : FTy → Type} [FloatOps F]
variable [Facts]
open Facts Shapes1.Facts₀ Shapes2.Facts₀ K0.Facts₀

theorem fits_k (m : Nat) (h : m < 8) : ∀ a, (![0, 0] : Fin 2 → Nat) a + (![(m + 1) * 256, 128] : Fin 2 → Nat) a ≤ S2048x128.size a := by
  intro a
  match a with
  | 0 => show 0 + (m + 1) * 256 ≤ 2048; omega
  | 1 => show 0 + 128 ≤ 128; omega

theorem fits_v (t : Nat) (h : t < 8) : ∀ a, (![0, t, 0, 0] : Fin 4 → Nat) a + S1x1x128x256.size a ≤ S1x8x128x256.size a := by
  intro a
  match a with
  | 0 => show 0 + 1 ≤ 1; omega
  | 1 => show t + 1 ≤ 8; omega
  | 2 => show 0 + 128 ≤ 128; omega
  | 3 => show 0 + 256 ≤ 256; omega

theorem pos_k (m : Nat) : 0 < (⟨2, ![(m + 1) * 256, 128]⟩ : Shape).numel := by
  simp [Shape.numel, Fin.prod_univ_two]

def loadK (arg5 : Memref sig .tc .vmem S2048x128 .bf16) (m : Nat) (h : m < 8) :
    Prog (TpuEff nD τ sig (Elt F) Λ₀ .tc) (FVec F ⟨2, ![(m + 1) * 256, 128]⟩ .bf16) := do
  let v : Vec F ⟨2, ![(m + 1) * 256, 128]⟩ .bf16 ← Prog.lift (.load arg5 (Rect.unit (s := S2048x128) ![0, 0] ![(m + 1) * 256, 128] (fits_k m h)).toLoadRect (View.loadsAt_vmem (pos_k m)))
  pure (shapeCast _ v rfl)

def loadV (arg6 : Memref sig .tc .vmem S1x8x128x256 .bf16) (t : Nat) (h : t < 8) :
    Prog (TpuEff nD τ sig (Elt F) Λ₀ .tc) (FVec F S128x256 .bf16) := do
  let v : Vec F S1x1x128x256 .bf16 ← Prog.lift (.load arg6 (Rect.unit (s := S1x8x128x256) ![0, t, 0, 0] S1x1x128x256.size (fits_v t h)).toLoadRect (View.loadsAt_vmem h_S1x1x128x256))
  pure (shapeCast S128x256 v shapeCasts_S1x1x128x256_S128x256)

/-- The `n` value tiles from the tile `t` on. -/
def loadVs (arg6 : Memref sig .tc .vmem S1x8x128x256 .bf16) : (n t : Nat) → (h : t + n ≤ 8) →
    Prog (TpuEff nD τ sig (Elt F) Λ₀ .tc) (List (FVec F S128x256 .bf16))
  | 0, _, _ => pure []
  | n + 1, t, h => do
    let v ← loadV arg6 t (by omega)
    let vs ← loadVs arg6 n (t + 1) (by omega)
    pure (v :: vs)

def block (arg5 : Memref sig .tc .vmem S2048x128 .bf16) (arg6 : Memref sig .tc .vmem S1x8x128x256 .bf16) (m : Nat) (h : m < 8)
    (q : FVec F S128x256 .f32) (v16 : FVec F S1x512 .f32) (v28 : IVec S256x512 1) :
    Prog (TpuEff nD τ sig (Elt F) Λ₀ .tc) (FVec F S256x128 .f32) := do
  let vs ← loadVs arg6 (m + 1) 0 (by omega)
  let k ← loadK arg5 m h
  pure (heads (attend v28 m (scores m (twice q) k v16) fun t => vs.getD t (broadcast _ (Scalar.ofBits .bf16 0x0000#16))))

def pair (arg5 : Memref sig .tc .vmem S2048x128 .bf16) (arg6 : Memref sig .tc .vmem S1x8x128x256 .bf16) (g : Nat) (h : g < 4)
    (v2 : FVec F S128x512 .f32) (v16 : FVec F S1x512 .f32) (v28 : IVec S256x512 1) :
    Prog (TpuEff nD τ sig (Elt F) Λ₀ .tc) (FVec F S512x128 .f32) := do
  let a ← block arg5 arg6 (2 * g) (by omega) (extractStridedSlice S128x256 ![0, 0] v2 slices_S128x512_o0_0_S128x256) v16 v28
  let b ← block arg5 arg6 (2 * g + 1) (by omega) (extractStridedSlice S128x256 ![0, 256] v2 slices_S128x512_o0_256_S128x256) v16 v28
  pure (concatenate S512x128 0 [⟨S256x128, a⟩, ⟨S256x128, b⟩] concatenates_S256x128_S256x128_S512x128_d0)

/-- The bias row: the first head's bias under its 256 queries, the second's under its. -/
def biasRow (b0 b1 : Elt F .f32) : FVec F S1x512 .f32 :=
  select (cmpi .slt (iota .tc S1x512 32 [1] iota_S1x512_d1_w32) (broadcast S1x512 256#32)) (broadcast S1x512 b0) (broadcast S1x512 b1)

/-- Which keys of the diagonal tile, in the order they are stored in, a query sees. -/
def diag : IVec S256x512 1 :=
  cmpi .slt
    (addi (muli (andi (iota .tc S256x512 32 [0] iota_S256x512_d0_w32) (broadcast S256x512 7#32)) (broadcast S256x512 32#32))
      (shrsi (iota .tc S256x512 32 [0] iota_S256x512_d0_w32) (broadcast S256x512 3#32)))
    (andi (iota .tc S256x512 32 [1] iota_S256x512_d1_w32) (broadcast S256x512 255#32))

/-- Which of the four branches a point takes. -/
def branch (i : grid0.Coords) : BitVec 32 := Scalar.minsi (Scalar.maxsi (BitVec.ofNat 32 (i 2).val) 0#32) 3#32

/-- The kernel's body. -/
def body (i : grid0.Coords) (arg3 : Memref sig .tc .smem S8 .f32) (harg3 : arg3.IsWhole) (arg4 : Memref sig .tc .vmem S1x128x512 .bf16) (harg4 : arg4.IsWhole) (arg5 : Memref sig .tc .vmem S2048x128 .bf16) (harg5 : arg5.IsWhole) (arg6 : Memref sig .tc .vmem S1x8x128x256 .bf16) (harg6 : arg6.IsWhole) (arg7 : Memref sig .tc .vmem S512x128 .bf16) (harg7 : arg7.IsWhole) :
    Prog (TpuEff nD τ sig (Elt F) Λ₀ .tc) PUnit := do
  let v0 : Vec F S1x128x512 .bf16 ← Prog.lift (.load arg4 (Rect.unit (s := S1x128x512) ![0, 0, 0] S1x128x512.size inb_S1x128x512_S1x128x512_0_0_0).toLoadRect (View.loadsAt_vmem h_S1x128x512))
  let v9 : Elt F .f32 ← smemLoad arg3 (Rect.unit (s := S8) (k0_off1 i) S1.size (k0_off1_inb i)) numel1_S1 rfl
  let v13 : Elt F .f32 ← smemLoad arg3 (Rect.unit (s := S8) (k0_off2 i) S1.size (k0_off2_inb i)) numel1_S1 rfl
  have v2 : FVec F S128x512 .f32 := extf .f32 (shapeCast S128x512 v0 shapeCasts_S1x128x512_S128x512) bitsLt_bf16_f32
  let v32 : FVec F S512x128 .f32 ← if _h1 : Scalar.cmpi .ne (branch i) 0#32 = 1#1 then do
      let v37 : FVec F S512x128 .f32 ← if _h2 : Scalar.cmpi .ne (Scalar.subi (branch i) 1#32) 0#32 = 1#1 then do
          let v40 : FVec F S512x128 .f32 ←
            if _h3 : Scalar.cmpi .ne (Scalar.subi (Scalar.subi (branch i) 1#32) 1#32) 0#32 = 1#1 then
              pair arg5 arg6 3 (by omega) v2 (biasRow v9 v13) diag
            else pair arg5 arg6 2 (by omega) v2 (biasRow v9 v13) diag
          pure v40
        else pair arg5 arg6 1 (by omega) v2 (biasRow v9 v13) diag
      pure v37
    else pair arg5 arg6 0 (by omega) v2 (biasRow v9 v13) diag
  let _v34 : Vec F S512x128 .bf16 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0) (truncf .bf16 v32 bitsLt_bf16_f32) Finset.univ (View.stores_vmem h_S512x128 (harg7.storeExact_slice rfl _ packedbf16_S512x128_S512x128_0_0) (fun _ => rfl)) (.inl rfl))
  pure ⟨⟩

/-- The bias the scalar load at the offset `o` reads. -/
def biasAt (x3 : Vec F S8 .f32) (o : Fin S8.rank → Nat) (h : ∀ a, o a + S1.size a ≤ S8.size a) : Elt F .f32 :=
  x3 ((Rect.unit (s := S8) o S1.size h).toLoadRect.idx (Shape.Idx.first (numel1_S1.symm ▸ Nat.one_pos)))

/-- The first `m + 1` tiles of keys. -/
def keysOf (x5 : Vec F S2048x128 .bf16) (m : Nat) (h : m < 8) : FVec F ⟨2, ![(m + 1) * 256, 128]⟩ .bf16 :=
  shapeCast _ (fun j => x5 ((Rect.unit (s := S2048x128) ![0, 0] ![(m + 1) * 256, 128] (fits_k m h)).toLoadRect.idx j)) rfl

/-- The value tile `t`. -/
def valuesOf (x6 : Vec F S1x8x128x256 .bf16) (t : Nat) (h : t < 8) : FVec F S128x256 .bf16 :=
  shapeCast S128x256 (fun j => x6 ((Rect.unit (s := S1x8x128x256) ![0, t, 0, 0] S1x1x128x256.size (fits_v t h)).toLoadRect.idx j))
    shapeCasts_S1x1x128x256_S128x256

/-- The `n` value tiles from the tile `t` on. -/
def valuesFrom (x6 : Vec F S1x8x128x256 .bf16) : (n t : Nat) → (h : t + n ≤ 8) → List (FVec F S128x256 .bf16)
  | 0, _, _ => []
  | n + 1, t, h => valuesOf x6 t (by omega) :: valuesFrom x6 n (t + 1) (by omega)

/-- The queries of the point, as numbers. -/
def queriesOf (x4 : Vec F S1x128x512 .bf16) : FVec F S128x512 .f32 :=
  extf .f32 (shapeCast S128x512 (fun j => x4 ((Rect.unit (s := S1x128x512) ![0, 0, 0] S1x128x512.size inb_S1x128x512_S1x128x512_0_0_0).toLoadRect.idx j))
    shapeCasts_S1x128x512_S128x512) bitsLt_bf16_f32

/-- One block of 256 queries, from what the point's windows hold. -/
def blockOf (x5 : Vec F S2048x128 .bf16) (x6 : Vec F S1x8x128x256 .bf16) (m : Nat) (h : m < 8)
    (q : FVec F S128x256 .f32) (bias : FVec F S1x512 .f32) : FVec F S256x128 .f32 :=
  heads (attend diag m (scores m (twice q) (keysOf x5 m h) bias)
    fun t => (valuesFrom x6 (m + 1) 0 (by omega)).getD t (broadcast _ (Scalar.ofBits .bf16 0x0000#16)))

/-- What the body leaves in its result when it takes the branch `g`. -/
def outOf (i : grid0.Coords) (g : Nat) (h : g < 4) (x3 : Vec F S8 .f32) (x4 : Vec F S1x128x512 .bf16)
    (x5 : Vec F S2048x128 .bf16) (x6 : Vec F S1x8x128x256 .bf16) : Vec F S512x128 .bf16 :=
  have bias := biasRow (biasAt x3 (k0_off1 i) (k0_off1_inb i)) (biasAt x3 (k0_off2 i) (k0_off2_inb i))
  truncf .bf16 (concatenate S512x128 0
    [⟨S256x128, blockOf x5 x6 (2 * g) (by omega) (extractStridedSlice S128x256 ![0, 0] (queriesOf x4) slices_S128x512_o0_0_S128x256) bias⟩,
      ⟨S256x128, blockOf x5 x6 (2 * g + 1) (by omega) (extractStridedSlice S128x256 ![0, 256] (queriesOf x4) slices_S128x512_o0_256_S128x256) bias⟩]
    concatenates_S256x128_S256x128_S512x128_d0) bitsLt_bf16_f32

end Cert.KernelIdeal.Spec
-- ==== Proof.Branch.lean ====
/- The body at a point whose branch is known. -/
module

public import proofs.«01_k».proof.Proof.Body

@[expose] public section

noncomputable section

namespace Cert.KernelIdeal.Spec

open Idealize.ShloMosaic Idealize.SL.Sem

variable {F : FTy → Type} [FloatOps F]
variable [Facts]
open Facts Shapes1.Facts₀ Shapes2.Facts₀ K0.Facts₀

/-- The branch a point takes is its last coordinate. -/
theorem branch_eq (i : grid0.Coords) (g : Nat) (hg : g < 4) (hi : (i 2).val = g) : branch i = BitVec.ofNat 32 g := by
  unfold branch; rw [hi]
  obtain rfl | rfl | rfl | rfl : g = 0 ∨ g = 1 ∨ g = 2 ∨ g = 3 := by omega
  all_goals rfl

/-- The body with its branch taken. -/
def bodyOf (g : Nat) (hg : g < 4) (i : grid0.Coords) (arg3 : Memref sig .tc .smem S8 .f32) (harg3 : arg3.IsWhole) (arg4 : Memref sig .tc .vmem S1x128x512 .bf16) (harg4 : arg4.IsWhole) (arg5 : Memref sig .tc .vmem S2048x128 .bf16) (harg5 : arg5.IsWhole) (arg6 : Memref sig .tc .vmem S1x8x128x256 .bf16) (harg6 : arg6.IsWhole) (arg7 : Memref sig .tc .vmem S512x128 .bf16) (harg7 : arg7.IsWhole) :
    Prog (TpuEff nD τ sig (Elt F) Λ₀ .tc) PUnit := do
  let v0 : Vec F S1x128x512 .bf16 ← Prog.lift (.load arg4 (Rect.unit (s := S1x128x512) ![0, 0, 0] S1x128x512.size inb_S1x128x512_S1x128x512_0_0_0).toLoadRect (View.loadsAt_vmem h_S1x128x512))
  let v9 : Elt F .f32 ← smemLoad arg3 (Rect.unit (s := S8) (k0_off1 i) S1.size (k0_off1_inb i)) numel1_S1 rfl
  let v13 : Elt F .f32 ← smemLoad arg3 (Rect.unit (s := S8) (k0_off2 i) S1.size (k0_off2_inb i)) numel1_S1 rfl
  let v32 : FVec F S512x128 .f32 ← pair arg5 arg6 g hg
    (extf .f32 (shapeCast S128x512 v0 shapeCasts_S1x128x512_S128x512) bitsLt_bf16_f32) (biasRow v9 v13) diag
  let _v34 : Vec F S512x128 .bf16 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0) (truncf .bf16 v32 bitsLt_bf16_f32) Finset.univ (View.stores_vmem h_S512x128 (harg7.storeExact_slice rfl _ packedbf16_S512x128_S512x128_0_0) (fun _ => rfl)) (.inl rfl))
  pure ⟨⟩

theorem body_branch (g : Nat) (hg : g < 4) (i : grid0.Coords) (arg3 : Memref sig .tc .smem S8 .f32) (harg3 : arg3.IsWhole) (arg4 : Memref sig .tc .vmem S1x128x512 .bf16) (harg4 : arg4.IsWhole) (arg5 : Memref sig .tc .vmem S2048x128 .bf16) (harg5 : arg5.IsWhole) (arg6 : Memref sig .tc .vmem S1x8x128x256 .bf16) (harg6 : arg6.IsWhole) (arg7 : Memref sig .tc .vmem S512x128 .bf16) (harg7 : arg7.IsWhole) (hi : (i 2).val = g) :
    body (F := F) i arg3 harg3 arg4 harg4 arg5 harg5 arg6 harg6 arg7 harg7 = bodyOf g hg i arg3 harg3 arg4 harg4 arg5 harg5 arg6 harg6 arg7 harg7 := by
  have hb := branch_eq i g hg hi
  unfold body bodyOf
  rw [hb]
  clear hb hi
  obtain rfl | rfl | rfl | rfl : g = 0 ∨ g = 1 ∨ g = 2 ∨ g = 3 := by omega
  · simp only [show ¬ Scalar.cmpi .ne (BitVec.ofNat 32 0) 0#32 = 1#1 by decide, dite_false]
  · simp only [show Scalar.cmpi .ne (BitVec.ofNat 32 1) 0#32 = 1#1 by decide,
      show ¬ Scalar.cmpi .ne (Scalar.subi (BitVec.ofNat 32 1) 1#32) 0#32 = 1#1 by decide, dite_true, dite_false]
    rfl
  · simp only [show Scalar.cmpi .ne (BitVec.ofNat 32 2) 0#32 = 1#1 by decide,
      show Scalar.cmpi .ne (Scalar.subi (BitVec.ofNat 32 2) 1#32) 0#32 = 1#1 by decide,
      show ¬ Scalar.cmpi .ne (Scalar.subi (Scalar.subi (BitVec.ofNat 32 2) 1#32) 1#32) 0#32 = 1#1 by decide,
      dite_true, dite_false]
    rfl
  · simp only [show Scalar.cmpi .ne (BitVec.ofNat 32 3) 0#32 = 1#1 by decide,
      show Scalar.cmpi .ne (Scalar.subi (BitVec.ofNat 32 3) 1#32) 0#32 = 1#1 by decide,
      show Scalar.cmpi .ne (Scalar.subi (Scalar.subi (BitVec.ofNat 32 3) 1#32) 1#32) 0#32 = 1#1 by decide,
      dite_true]
    rfl

end Cert.KernelIdeal.Spec
-- ==== Proof.Run.lean ====
/- The body run once for each branch, on any buffers. -/
module

public import proofs.«01_k».proof.Proof.Branch
public import proofs.«01_k».proof.Proof.Gen.KernelIdeal.Frame
public import Idealize.ShloMosaic.Lib.Tactic
public import Idealize.ShloMosaic.Lib.Tactic.Stretches
public import Idealize.ShloMosaic.Lib.WholeRead
public import Idealize.ShloMosaic.Lib.Pipeline.ValueKit

@[expose] public section

noncomputable section

namespace Cert.KernelIdeal.Spec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The body at a point whose last coordinate is `g`, on any whole buffers: it leaves the inputs as they are and
    `outOf` in the result. -/
theorem run_body (c : Dev nD) (i : grid0.Coords) (g : Nat) (hg : g < 4) (hi : (i 2).val = g)
    (arg3 : Memref sig .tc .smem S8 .f32) (harg3 : arg3.IsWhole) (arg4 : Memref sig .tc .vmem S1x128x512 .bf16) (harg4 : arg4.IsWhole) (arg5 : Memref sig .tc .vmem S2048x128 .bf16) (harg5 : arg5.IsWhole) (arg6 : Memref sig .tc .vmem S1x8x128x256 .bf16) (harg6 : arg6.IsWhole) (arg7 : Memref sig .tc .vmem S512x128 .bf16) (harg7 : arg7.IsWhole)
    (x3 : Vec F S8 .f32) (x4 : Vec F S1x128x512 .bf16) (x5 : Vec F S2048x128 .bf16) (x6 : Vec F S1x8x128x256 .bf16)
    (E : Set ℕ) (K : PUnit → sProp 𝕄) :
    iprop(owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d)
        ∗ (iprop(owns (c : Thread nD τ) arg3 fullShare x3 ∗ owns (c : Thread nD τ) arg4 fullShare x4
          ∗ owns (c : Thread nD τ) arg5 fullShare x5 ∗ owns (c : Thread nD τ) arg6 fullShare x6
          ∗ owns (c : Thread nD τ) arg7 fullShare (outOf i g hg x3 x4 x5 x6)) -∗ K ⟨⟩))
      ⊢ wp frame (wpE (defs₀ (F := F)) 𝒱₀ c none) E (body i arg3 harg3 arg4 harg4 arg5 harg5 arg6 harg6 arg7 harg7) K := by
  rw [body_branch g hg i arg3 harg3 arg4 harg4 arg5 harg5 arg6 harg6 arg7 harg7 hi]
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4
  obtain rfl := harg5.eq_unread hf5; obtain rfl := harg6.eq_unread hf6
  have r3 : ∀ B, View.readAt (Elt F) arg3.view B (harg3.unread x3) = fun j => x3 (B.idx j) :=
    fun B => funext (harg3.readAt_unread x3 B)
  have r4 : ∀ B, View.readAt (Elt F) arg4.view B (harg4.unread x4) = fun j => x4 (B.idx j) :=
    fun B => funext (harg4.readAt_unread x4 B)
  have r5 : ∀ B, View.readAt (Elt F) arg5.view B (harg5.unread x5) = fun j => x5 (B.idx j) :=
    fun B => funext (harg5.readAt_unread x5 B)
  have r6 : ∀ B, View.readAt (Elt F) arg6.view B (harg6.unread x6) = fun j => x6 (B.idx j) :=
    fun B => funext (harg6.readAt_unread x6 B)
  obtain rfl | rfl | rfl | rfl : g = 0 ∨ g = 1 ∨ g = 2 ∨ g = 3 := by omega
  all_goals
    unfold bodyOf pair block loadK
    repeat unfold loadVs
    unfold loadV
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; swap; · iexact H7
    ipureintro
    rw [View.read_writes_eq_canon _ _ _ (View.cover_of_tiled _ S512x128.size (by rfl))]
    sl_open_run
    rw [View.canon_cons_unit_lit _ _ _ (by decide)]
    simp only [r3, r4, r5, r6]
    rfl

end Cert.KernelIdeal.Spec
-- ==== Proof.Same.lean ====
/- The printed body is the body of `Body`. -/
module

public import proofs.«01_k».proof.Proof.Body

@[expose] public section

set_option maxRecDepth 100000
set_option maxHeartbeats 0

noncomputable section

namespace Cert.KernelIdeal.Spec

open Idealize.ShloMosaic Idealize.SL.Sem

variable {F : FTy → Type} [FloatOps F]
variable [Facts]

theorem body_eq (i : grid0.Coords) (arg3 : Memref sig .tc .smem S8 .f32) (harg3 : arg3.IsWhole) (arg4 : Memref sig .tc .vmem S1x128x512 .bf16) (harg4 : arg4.IsWhole) (arg5 : Memref sig .tc .vmem S2048x128 .bf16) (harg5 : arg5.IsWhole) (arg6 : Memref sig .tc .vmem S1x8x128x256 .bf16) (harg6 : arg6.IsWhole) (arg7 : Memref sig .tc .vmem S512x128 .bf16) (harg7 : arg7.IsWhole) :
    cc0__sb_prompt_kernel (F := F) i arg3 harg3 arg4 harg4 arg5 harg5 arg6 harg6 arg7 harg7 =
      body i arg3 harg3 arg4 harg4 arg5 harg5 arg6 harg6 arg7 harg7 := by exact rfl

end Cert.KernelIdeal.Spec
-- ==== Proof.Frame.lean ====
/- The frames of the kernel: the body's run at every point of the grid. -/
module

public import proofs.«01_k».proof.Proof.Run
public import proofs.«01_k».proof.Proof.Same

@[expose] public section

noncomputable section

namespace Cert.KernelIdeal.Spec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's buffer at point `t`. -/
def outAt (c : Dev nD) (t : Fin cfg0.N) : Vec F S512x128 .bf16 :=
  outOf (grid0.coords t) (grid0.coords t 2).val (grid0.coords t 2).isLt
    (iblk m c 0 t) (iblk m c 1 t) (iblk m c 2 t) (iblk m c 3 t)

/-- The proof data: every input's buffer at its block, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At every point the body takes the buffers from what they hold before it to what they hold after it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outAt
  rw [body_eq]
  iintro ⟨HΦ, Ho, ⟨%d0, H0⟩, ⟨%d1, H1⟩, ⟨%d2, H2⟩, ⟨%d3, H3⟩, ⟨%d4, H4⟩⟩
  iapply (run_body c (grid0.coords t) (grid0.coords t 2).val (grid0.coords t 2).isLt rfl _ _ _ _ _ _ _ _ _ _
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
/-- The whole program runs to its end from any memory; every array of the call is then what the proof data say and
    every counter is zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments as they were and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Spec
-- ==== Proof.Text.lean ====
/- The kernel and its idealization have the same text. -/
module

public import proofs.«01_k».proof.Defs
public import proofs.«01_k».proof.Proof.Gen.Kernel
public import proofs.«01_k».proof.Proof.Gen.KernelIdeal
public import Idealize.ShloMosaic.PureOps.BitExact

@[expose] public section

noncomputable section

namespace Cert.KernelIdeal.Spec

open Idealize.ShloMosaic Idealize.SL.Sem

set_option maxHeartbeats 0
set_option maxRecDepth 100000

theorem cc0_text : @Cert.Kernel.cc0__sb_prompt_kernel Bits _ Cert.Kernel.Gen.facts =
    @Cert.KernelIdeal.cc0__sb_prompt_kernel Bits _ Cert.KernelIdeal.Gen.facts := by exact rfl

theorem defs₀_text : @Cert.Kernel.defs₀ Bits _ Cert.Kernel.Gen.facts =
    @Cert.KernelIdeal.defs₀ Bits _ Cert.KernelIdeal.Gen.facts := by
  refine congrArg (Defs.onTc (nD := Cert.Kernel.nD) (τ := Cert.Kernel.τ) (sig := Cert.Kernel.sig) (Val := Elt Bits) (Λ := Cert.Kernel.Λ₀)) ?_
  funext l a
  match l, a with
  | 0, (t, s) =>
    exact congrFun (congrFun (congrFun (congrFun (congrFun (congrFun (congrFun (congrFun (congrFun (congrFun (congrFun cc0_text _) _) _) _) _) _) _) _) _) _) _
  | ⟨_ + 1, h⟩, _ => exact absurd h (Nat.not_lt.2 (Nat.le_add_left _ _))

theorem defs_text : @Cert.Kernel.defs Bits _ Cert.Kernel.Gen.facts =
    @Cert.KernelIdeal.defs Bits _ Cert.KernelIdeal.Gen.facts :=
  congrArg (Pipeline.defs Cert.Kernel.pcfgs) defs₀_text

theorem main_text : @Cert.Kernel.main Bits _ Cert.Kernel.Gen.facts  = @Cert.KernelIdeal.main Bits _ Cert.KernelIdeal.Gen.facts := by exact rfl

/-- A run of one text is a run of the other. -/
theorem run_text (m : (ℓ : Loc Cert.Kernel.nD Cert.Kernel.τ Cert.Kernel.sig) → Buf (Elt Bits) ℓ) (ρ : Dev Cert.Kernel.nD → PrngReg)
    (post : PUnit × MemSt Cert.Kernel.nD Cert.Kernel.τ Cert.Kernel.sig (Elt Bits) → Prop)
    (h : θ_run (@Cert.KernelIdeal.defs Bits _ Cert.KernelIdeal.Gen.facts) (onTc (τ := Cert.KernelIdeal.τ) (@Cert.KernelIdeal.main Bits _ Cert.KernelIdeal.Gen.facts)) ⟨m, fun _ => 0, ρ⟩ post) :
    θ_run (@Cert.Kernel.defs Bits _ Cert.Kernel.Gen.facts) (onTc (τ := Cert.Kernel.τ) (@Cert.Kernel.main Bits _ Cert.Kernel.Gen.facts)) ⟨m, fun _ => 0, ρ⟩ post := by
  rw [defs_text]
  exact h

end Cert.KernelIdeal.Spec
-- ==== Proof.Frames.lean ====
/- The frame claims: of the kernel and of its idealization out of the one run, and of the reference. -/
module

public import proofs.«01_k».proof.Defs
public import proofs.«01_k».proof.Proof.Gen.Kernel
public import proofs.«01_k».proof.Proof.Frame
public import proofs.«01_k».proof.Proof.Text
public import proofs.«01_k».proof.Proof.Gen.ReferenceIdeal.Run

@[expose] public section

noncomputable section

namespace Cert.KernelIdeal.Spec

open Idealize.ShloMosaic Idealize.SL.Sem

theorem frame_ideal : @Cert.quiescent_KernelIdeal Cert.KernelIdeal.Gen.facts :=
  fun m ρ _ => frame_any (F := Ideal) m ρ

theorem frame_kernel : @Cert.quiescent_Kernel Cert.Kernel.Gen.facts :=
  fun m ρ _ => run_text m ρ _ (frame_any (F := Bits) m ρ)

/-- The reference declares no counter. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Spec
-- ==== Proof.Groups.lean ====
/- Groups of eight rows at the ideal instance, their entries real numbers. -/
module

public import proofs.«01_k».proof.Proof.Body
public import Idealize.ShloMosaic.Lib.Pointwise
public import Idealize.ShloMosaic.Lib.Pipeline.Value

@[expose] public section

noncomputable section

namespace Cert.KernelIdeal.Spec

open Idealize.ShloMosaic

/-- The array with the real entries `f`. -/
def up {a b : Nat} (f : Nat → Nat → ℝ) : FVec Ideal (⟨2, ![a, b]⟩ : Shape) .f32 := fun i => ((f (i 0).val (i 1).val : ℝ) : EReal)

theorem up_apply {a b : Nat} (f : Nat → Nat → ℝ) (i : (⟨2, ![a, b]⟩ : Shape).Idx) :
    up f i = ((f (i 0).val (i 1).val : ℝ) : EReal) := rfl

theorem up_congr {a b : Nat} {f g : Nat → Nat → ℝ} (h : ∀ s l, s < a → l < b → f s l = g s l) :
    (up f : FVec Ideal (⟨2, ![a, b]⟩ : Shape) .f32) = up g :=
  funext fun i => by rw [up_apply, up_apply, h _ _ (i 0).isLt (i 1).isLt]

theorem up_add {a b : Nat} (f g : Nat → Nat → ℝ) :
    addf (up f : FVec Ideal (⟨2, ![a, b]⟩ : Shape) .f32) (up g) = up fun s l => f s l + g s l :=
  funext fun i => (EReal.coe_add _ _).symm

theorem up_sub {a b : Nat} (f g : Nat → Nat → ℝ) :
    subf (up f : FVec Ideal (⟨2, ![a, b]⟩ : Shape) .f32) (up g) = up fun s l => f s l - g s l :=
  funext fun i => (EReal.coe_sub _ _).symm

theorem up_exp {a b : Nat} (f : Nat → Nat → ℝ) :
    exp (up f : FVec Ideal (⟨2, ![a, b]⟩ : Shape) .f32) = up fun s l => Real.exp (f s l) :=
  funext fun i => rfl

theorem zero8_eq : (zero8 : V8 Ideal) = up fun _ _ => 0 :=
  funext fun i => by
    pointwise [zero8, up]
    exact EReal.coe_zero.symm

theorem run_up (n : Nat → Nat → Nat → ℝ) (k : Nat) :
    run (fun r => (up (n r) : V8 Ideal)) k = up fun s l => ∑ i ∈ Finset.range k, n (31 - i) s l := by
  induction k with
  | zero => exact zero8_eq
  | succ k ih =>
    rw [run, ih, up_add]
    exact up_congr fun s l _ _ => (Finset.sum_range_succ _ _).symm

theorem grp_up {m : Nat} (f : Nat → Nat → ℝ) (j r : Nat) :
    grp (up f : FVec Ideal (Rows m) .f32) j r = up fun s l => f ((m - j) * 256 + 8 * (r % 32) + s) l := by
  funext i
  show ((f _ _ : ℝ) : EReal) = ((f _ _ : ℝ) : EReal)
  congr 2
  exact Nat.zero_add _

variable [Facts]
open Facts Shapes1.Facts₀ Shapes2.Facts₀

theorem step_up7 (f : Nat → Nat → ℝ) :
    step 7#32 (up f : V8 Ideal) = up fun s l => f s l + if s < 7 then f (s + 1) l else 0 := by
  funext i
  idx_vars i
  pointwise [step, zero8, up]
  fin_vals i0 with h <;> simp [h] <;> first | rfl | exact add_zero _

theorem step_up6 (f : Nat → Nat → ℝ) :
    step 6#32 (up f : V8 Ideal) = up fun s l => f s l + if s < 6 then f (s + 2) l else 0 := by
  funext i
  idx_vars i
  pointwise [step, zero8, up]
  fin_vals i0 with h <;> simp [h] <;> first | rfl | exact add_zero _

theorem step_up4 (f : Nat → Nat → ℝ) :
    step 4#32 (up f : V8 Ideal) = up fun s l => f s l + if s < 4 then f (s + 4) l else 0 := by
  funext i
  idx_vars i
  pointwise [step, zero8, up]
  fin_vals i0 with h <;> simp [h] <;> first | rfl | exact add_zero _

theorem inc_up (f : Nat → Nat → ℝ) :
    inc (up f : V8 Ideal) = up fun s l => ∑ s' ∈ Finset.Ico s 8, f s' l := by
  rw [inc, step_up7, step_up6, step_up4]
  refine up_congr fun s l hs _ => ?_
  obtain rfl | rfl | rfl | rfl | rfl | rfl | rfl | rfl : s = 0 ∨ s = 1 ∨ s = 2 ∨ s = 3 ∨ s = 4 ∨ s = 5 ∨ s = 6 ∨ s = 7 := by
    omega
  all_goals
    simp [Finset.sum_Ico_eq_sum_range, Finset.sum_range_succ]
    try ring

theorem later_up (tot c : Nat → Nat → ℝ) :
    later (up tot : V8 Ideal) (up c) = up fun s l => (∑ s' ∈ Finset.Ico (s + 1) 8, tot s' l) + c s l := by
  rw [later, inc_up, up_sub, up_add]
  refine up_congr fun s l hs _ => ?_
  rw [Finset.sum_eq_sum_Ico_succ_bot hs]
  ring

theorem nextCarry_up (tot c : Nat → Nat → ℝ) :
    nextCarry (up tot : V8 Ideal) (up c) = up fun s l => c s l + ∑ s' ∈ Finset.range 8, tot s' l := by
  rw [nextCarry, inc_up, Finset.range_eq_Ico]
  funext i
  idx_vars i
  pointwise [up]
  exact (EReal.coe_add _ _).symm

theorem stack_up (f : Nat → Nat → Nat → ℝ) :
    stack (fun r => (up (f r) : V8 Ideal)) = up fun k l => f (k / 8) (k % 8) l := by
  funext i
  have h0 : (i 0).val < 256 := (i 0).isLt
  have e := concatenate_apply_piece (t := S256x512) (0 : Fin 2)
    ((List.range 32).map fun r => (⟨S8x512, (up (f r) : V8 Ideal)⟩ : (s : Shape) × (s.Idx → EReal))) cat8 i
    ((i 0).val / 8) (by simp; omega) S8x512 (up (f ((i 0).val / 8))) (by simp) rfl (8 * ((i 0).val / 8))
    (by
      rw [← List.map_take, List.take_range, List.map_map, List.map_map]
      simp [Function.comp_def, S8x512]
      omega)
    (ix2 (n0 := 8) (n1 := 512) ⟨(i 0).val % 8, Nat.mod_lt _ (by decide)⟩ (i 1))
    (fun b hb => by
      match b with
      | 0 => exact absurd rfl hb
      | 1 => rfl)
    (by show 8 * ((i 0).val / 8) + (i 0).val % 8 = (i 0).val; omega)
  exact e

end Cert.KernelIdeal.Spec
-- ==== Proof.Tiles.lean ====
/- A tile's weights at the ideal instance, from real scores: the running sums in closed form. -/
module

public import proofs.«01_k».proof.Proof.Groups
public import Idealize.ShloMosaic.Lib.WordCmp

@[expose] public section

noncomputable section

namespace Cert.KernelIdeal.Spec

open Idealize.ShloMosaic

theorem sum_last (f : Nat → ℝ) (r : Nat) (hr : r < 32) :
    ∑ i ∈ Finset.range (31 - r), f (31 - i) = ∑ i ∈ Finset.Ico (r + 1) 32, f i := by
  rw [Finset.sum_Ico_eq_sum_range, ← Finset.sum_range_reflect]
  refine Finset.sum_congr (by congr 1; omega) fun i hi => ?_
  have := Finset.mem_range.mp hi
  congr 1
  omega

theorem sum_tile (f : Nat → ℝ) : ∑ i ∈ Finset.range 32, f (31 - i) = ∑ i ∈ Finset.range 32, f i :=
  Finset.sum_range_reflect f 32

theorem sum_blocks (f : Nat → ℝ) (a b : Nat) (h : a ≤ b) :
    ∑ s ∈ Finset.Ico a b, ∑ r ∈ Finset.range 32, f (32 * s + r) = ∑ k ∈ Finset.Ico (32 * a) (32 * b), f k := by
  induction b, h using Nat.le_induction with
  | base => simp
  | succ b h ih =>
    rw [Finset.sum_Ico_succ_top h, ih, ← Finset.sum_Ico_consecutive f (Nat.mul_le_mul_left 32 h) (Nat.mul_le_mul_left 32 (Nat.le_succ b))]
    congr 1
    rw [Finset.sum_Ico_eq_sum_range]
    exact Finset.sum_congr (by congr 1; omega) fun _ _ => rfl

theorem sum_shift (f : Nat → ℝ) (c a b : Nat) : ∑ k ∈ Finset.Ico a b, f (c + k) = ∑ k ∈ Finset.Ico (c + a) (c + b), f k := by
  rw [Finset.sum_Ico_eq_sum_range, Finset.sum_Ico_eq_sum_range]
  exact Finset.sum_congr (by congr 1; omega) fun i _ => by rw [Nat.add_assoc]

/-- The row the key `J` is stored in. -/
def perm (J : Nat) : Nat := J / 256 * 256 + 8 * (J % 32) + J % 256 / 32

/-- The key the row `R` holds. -/
def inv (R : Nat) : Nat := R / 256 * 256 + 32 * (R % 8) + R % 256 / 8

/-- The log-keep of the key `J` for the lane's query, zero for a key that the query does not see. -/
def nOf (m : Nat) (n : Nat → Nat → ℝ) (J l : Nat) : ℝ := if J < m * 256 + l % 256 then n (perm J) l else 0

/-- The weight of the key `J` for the lane's query. -/
def wOf (m : Nat) (b n : Nat → Nat → ℝ) (J l : Nat) : ℝ :=
  if J < m * 256 + l % 256 then Real.exp (b (perm J) l - ∑ k ∈ Finset.Ico (J + 1) ((m + 1) * 256), nOf m n k l) else 0

theorem perm_key (t s r : Nat) (hs : s < 8) : perm (t * 256 + 32 * s + r % 32) = t * 256 + 8 * (r % 32) + s := by
  unfold perm; omega

variable [Facts]
open Facts Shapes1.Facts₀ Shapes2.Facts₀

theorem diag_apply (i0 : Fin 256) (i1 : Fin 512) :
    diag (ix2 i0 i1) = if i0.val % 8 * 32 + i0.val / 8 < i1.val % 256 then 1#1 else 0#1 := by
  have hk : ∀ i0 : Fin 256, IntOp.addi (IntOp.muli (IntOp.andi (BitVec.ofNat 32 i0.val) 7#32) 32#32)
        (IntOp.shrsi ArithUnit.vector (BitVec.ofNat 32 i0.val) 3#32) = BitVec.ofNat 32 (i0.val % 8 * 32 + i0.val / 8) := by
    decide +kernel
  have hl : ∀ i1 : Fin 512, IntOp.andi (BitVec.ofNat 32 i1.val) 255#32 = BitVec.ofNat 32 (i1.val % 256) := by
    decide +kernel
  pointwise [diag]
  rw [hk i0, hl i1, WordCmp.cmpi_slt_ofNat (by omega) (by omega), WordCmp.ofBool_decide_eq_ite]

theorem msk_up (f : Nat → Nat → Nat → ℝ) (r : Nat) :
    msk diag (fun r => (up (f r) : V8 Ideal)) r =
      up fun s l => if s * 32 + r % 32 < l % 256 then f r s l else 0 := by
  funext i
  idx_vars i
  pointwise [msk, zero8, up]
  rw [diag_apply]
  have e1 : (8 * (r % 32) + i0.val) % 8 = i0.val := by omega
  have e2 : (8 * (r % 32) + i0.val) / 8 = r % 32 := by omega
  simp only [e1, e2]
  split <;> rfl

theorem keep_up {m : Nat} (n : Nat → Nat → ℝ) (j r : Nat) (hj : j ≤ m) :
    keep diag (up n : FVec Ideal (Rows m) .f32) j r = up fun s l => nOf m n ((m - j) * 256 + 32 * s + r % 32) l := by
  cases j with
  | zero =>
    have e : grp (up n : FVec Ideal (Rows m) .f32) 0 = fun r => up fun s l => n ((m - 0) * 256 + 8 * (r % 32) + s) l :=
      funext fun r => grp_up n 0 r
    rw [keep, e, msk_up]
    refine up_congr fun s l hs _ => ?_
    rw [nOf, perm_key _ _ _ hs]
    exact if_congr (by omega) rfl rfl
  | succ j =>
    rw [keep, grp_up]
    refine up_congr fun s l hs _ => ?_
    rw [nOf, perm_key _ _ _ hs, if_pos (by omega)]

theorem keep_fun {m : Nat} (n : Nat → Nat → ℝ) (j : Nat) (hj : j ≤ m) :
    keep diag (up n : FVec Ideal (Rows m) .f32) j = fun r => up fun s l => nOf m n ((m - j) * 256 + 32 * s + r % 32) l :=
  funext fun r => keep_up n j r hj

theorem tot_up {m : Nat} (n : Nat → Nat → ℝ) (j : Nat) (hj : j ≤ m) :
    run (keep diag (up n : FVec Ideal (Rows m) .f32) j) 32 =
      up fun s l => ∑ r ∈ Finset.range 32, nOf m n ((m - j) * 256 + (32 * s + r)) l := by
  rw [keep_fun n j hj, run_up]
  refine up_congr fun s l hs _ => ?_
  refine (sum_tile fun r => nOf m n ((m - j) * 256 + 32 * s + r % 32) l).trans (Finset.sum_congr rfl fun r hr => ?_)
  rw [Nat.mod_eq_of_lt (Finset.mem_range.mp hr), Nat.add_assoc]

theorem carry_up {m : Nat} (n : Nat → Nat → ℝ) (j : Nat) (hj : j ≤ m) :
    carry diag (up n : FVec Ideal (Rows m) .f32) j =
      up fun _ l => ∑ k ∈ Finset.Ico ((m - j + 1) * 256) ((m + 1) * 256), nOf m n k l := by
  induction j with
  | zero =>
    rw [carry, zero8_eq]
    exact up_congr fun s l _ _ => by simp
  | succ j ih =>
    rw [carry, tot_up n j (by omega), ih (by omega), nextCarry_up]
    refine up_congr fun s l _ _ => ?_
    have e := sum_blocks (fun k => nOf m n ((m - j) * 256 + k) l) 0 8 (by omega)
    rw [← Finset.range_eq_Ico] at e
    have e3 : (m - j + 1) * 256 = (m - j) * 256 + 32 * 8 := by omega
    have e4 : (m - (j + 1) + 1) * 256 = (m - j) * 256 + 32 * 0 := by omega
    rw [e, sum_shift (fun k => nOf m n k l), add_comm, e3, e4, Finset.sum_Ico_consecutive _ (by omega) (by omega)]

theorem wgt_up {m : Nat} (b n : Nat → Nat → ℝ) (j r : Nat) (hj : j ≤ m) :
    wgt (grp (up b : FVec Ideal (Rows m) .f32) j) (keep diag (up n : FVec Ideal (Rows m) .f32) j)
        (carry diag (up n : FVec Ideal (Rows m) .f32) j) (r % 32) =
      up fun s l => Real.exp (b ((m - j) * 256 + 8 * (r % 32) + s) l -
        ∑ k ∈ Finset.Ico ((m - j) * 256 + 32 * s + r % 32 + 1) ((m + 1) * 256), nOf m n k l) := by
  have hr : r % 32 < 32 := Nat.mod_lt _ (by decide)
  rw [wgt, tot_up n j hj, carry_up n j hj, keep_fun n j hj, later_up, run_up, grp_up, up_sub, up_sub, up_exp]
  refine up_congr fun s l hs _ => ?_
  rw [sum_last (fun r => nOf m n ((m - j) * 256 + 32 * s + r % 32) l) _ hr]
  have e := sum_blocks (fun k => nOf m n ((m - j) * 256 + k) l) (s + 1) 8 (by omega)
  rw [e, sum_shift (fun k => nOf m n k l)]
  have e2 : ∑ i ∈ Finset.Ico (r % 32 + 1) 32, nOf m n ((m - j) * 256 + 32 * s + i % 32) l =
      ∑ k ∈ Finset.Ico ((m - j) * 256 + 32 * s + (r % 32 + 1)) ((m - j) * 256 + 32 * s + 32), nOf m n k l := by
    rw [← sum_shift (fun k => nOf m n k l)]
    refine Finset.sum_congr rfl fun i hi => ?_
    rw [Nat.mod_eq_of_lt (Finset.mem_Ico.mp hi).2]
  rw [e2, sub_sub, ← Nat.add_assoc]
  congr 2
  · rw [Nat.mod_mod]
  · have c1 := Finset.sum_Ico_consecutive (fun k => nOf m n k l)
      (show (m - j) * 256 + 32 * (s + 1) ≤ (m - j) * 256 + 32 * 8 by omega) (show (m - j) * 256 + 32 * 8 ≤ (m + 1) * 256 by omega)
    have c2 := Finset.sum_Ico_consecutive (fun k => nOf m n k l)
      (show (m - j) * 256 + 32 * s + r % 32 + 1 ≤ (m - j) * 256 + 32 * (s + 1) by omega)
      (show (m - j) * 256 + 32 * (s + 1) ≤ (m + 1) * 256 by omega)
    rw [← c2, ← c1]
    have e3 : (m - j + 1) * 256 = (m - j) * 256 + 32 * 8 := by omega
    have e4 : (m - j) * 256 + 32 * s + 32 = (m - j) * 256 + 32 * (s + 1) := by omega
    rw [e3, e4]

theorem tile_up {m : Nat} (b n : Nat → Nat → ℝ) (j : Nat) (hj : j ≤ m) :
    tile diag (up b : FVec Ideal (Rows m) .f32) (up n) j =
      up fun k l => wOf m b n ((m - j) * 256 + 32 * (k % 8) + k / 8) l := by
  have hw : (fun r => wgt (grp (up b : FVec Ideal (Rows m) .f32) j) (keep diag (up n : FVec Ideal (Rows m) .f32) j)
      (carry diag (up n : FVec Ideal (Rows m) .f32) j) (r % 32)) = _ := funext fun r => wgt_up b n j r hj
  have hk : ∀ k, k < 256 → k / 8 % 32 = k / 8 := fun k hk => by omega
  have hp : ∀ k, k < 256 → perm ((m - j) * 256 + 32 * (k % 8) + k / 8) = (m - j) * 256 + 8 * (k / 8) + k % 8 := fun k h => by
    have e := perm_key (m - j) (k % 8) (k / 8) (by omega)
    rwa [hk k h] at e
  cases j with
  | zero =>
    have e : tile diag (up b : FVec Ideal (Rows m) .f32) (up n) 0 =
        stack (fun r => msk diag (fun r => wgt (grp (up b : FVec Ideal (Rows m) .f32) 0)
          (keep diag (up n : FVec Ideal (Rows m) .f32) 0) (carry diag (up n : FVec Ideal (Rows m) .f32) 0) (r % 32)) r) := rfl
    rw [e, hw]
    have e2 := funext fun r => msk_up (fun r s l => Real.exp (b ((m - 0) * 256 + 8 * (r % 32) + s) l -
        ∑ k ∈ Finset.Ico ((m - 0) * 256 + 32 * s + r % 32 + 1) ((m + 1) * 256), nOf m n k l)) r
    rw [e2, stack_up]
    refine up_congr fun k l hk' _ => ?_
    rw [wOf, hp k hk', hk k hk']
    exact if_congr (by omega) rfl rfl
  | succ j =>
    have e : tile diag (up b : FVec Ideal (Rows m) .f32) (up n) (j + 1) =
        stack (fun r => wgt (grp (up b : FVec Ideal (Rows m) .f32) (j + 1))
          (keep diag (up n : FVec Ideal (Rows m) .f32) (j + 1)) (carry diag (up n : FVec Ideal (Rows m) .f32) (j + 1)) (r % 32)) := rfl
    rw [e, hw, stack_up]
    refine up_congr fun k l hk' _ => ?_
    rw [wOf, hp k hk', hk k hk', if_pos (by omega)]

theorem weights_up (m : Nat) (b n : Nat → Nat → ℝ) :
    weights diag m (up b : FVec Ideal (Rows m) .f32) (up n) = up fun R l => wOf m b n (inv R) l := by
  cases m with
  | zero =>
    refine (tile_up b n 0 (Nat.le_refl _)).trans (up_congr fun R l hR _ => ?_)
    congr 1
    unfold inv; omega
  | succ m =>
    show catRows m (fun t => tile diag (up b : FVec Ideal (Rows (m + 1)) .f32) (up n) (m + 1 - t)) = _
    funext i
    have h0 : (i 0).val < (m + 2) * 256 := (i 0).isLt
    have hp : (tile diag (up b : FVec Ideal (Rows (m + 1)) .f32) (up n) (m + 1 - (i 0).val / 256)) = _ :=
      tile_up b n (m + 1 - (i 0).val / 256) (by omega)
    have e := concatenate_apply_piece (t := Rows (m + 1)) (0 : Fin 2)
      ((List.range (m + 2)).map fun t => (⟨S256x512, tile diag (up b : FVec Ideal (Rows (m + 1)) .f32) (up n) (m + 1 - t)⟩ :
        (s : Shape) × (s.Idx → EReal))) (cat_rows m _) i
      ((i 0).val / 256) (by simp; omega) S256x512 (tile diag (up b : FVec Ideal (Rows (m + 1)) .f32) (up n) (m + 1 - (i 0).val / 256))
      (by simp) rfl (256 * ((i 0).val / 256))
      (by
        rw [← List.map_take, List.take_range, List.map_map, List.map_map]
        simp [Function.comp_def, S256x512]
        omega)
      (ix2 (n0 := 256) (n1 := 512) ⟨(i 0).val % 256, Nat.mod_lt _ (by decide)⟩ (i 1))
      (fun b hb => by
        match b with
        | 0 => exact absurd rfl hb
        | 1 => rfl)
      (by show 256 * ((i 0).val / 256) + (i 0).val % 256 = (i 0).val; omega)
    refine Eq.trans e ?_
    rw [hp]
    show ((wOf _ _ _ _ _ : ℝ) : EReal) = ((wOf _ _ _ _ _ : ℝ) : EReal)
    congr 2
    show (m + 1 - (m + 1 - (i 0).val / 256)) * 256 + 32 * ((i 0).val % 256 % 8) + (i 0).val % 256 / 8 = inv (i 0).val
    unfold inv; omega

end Cert.KernelIdeal.Spec
-- ==== Proof.Attend.lean ====
/- One block of 256 queries at the ideal instance: what it returns at an index, from real queries, keys and biases. -/
module

public import proofs.«01_k».proof.Proof.Tiles
public import Idealize.ShloMosaic.Lib.MatmulPlain

@[expose] public section

noncomputable section

namespace Cert.KernelIdeal.Spec

open Idealize.ShloMosaic

/-- The negated log of one minus the logistic function, as both programs compute it. -/
def sp (x : ℝ) : ℝ := max x 0 + Real.log (1 + Real.exp (-|x|))

/-- The weight the query `I` gives to the key `J`, when its scores are `z`. -/
def att (z : Nat → ℝ) (I J : Nat) : ℝ :=
  if J < I then Real.exp (z J - sp (z J) - ∑ k ∈ Finset.Ico (J + 1) I, sp (z k)) else 0

theorem wOf_att (m : Nat) (z : Nat → Nat → ℝ) (J l : Nat) :
    wOf m (fun R l => z R l - sp (z R l)) (fun R l => sp (z R l)) J l =
      att (fun J => z (perm J) l) (m * 256 + l % 256) J := by
  unfold wOf att
  split
  · rename_i h
    congr 2
    simp only [nOf]
    rw [← Finset.sum_Ico_consecutive _ (show J + 1 ≤ m * 256 + l % 256 by omega) (show m * 256 + l % 256 ≤ (m + 1) * 256 by omega),
      Finset.sum_eq_zero (s := Finset.Ico (m * 256 + l % 256) ((m + 1) * 256))
        (fun k hk => if_neg (Nat.not_lt.mpr (Finset.mem_Ico.mp hk).1)), add_zero]
    exact Finset.sum_congr rfl fun k hk => if_pos (Finset.mem_Ico.mp hk).2
  · rfl

theorem negKeep_up {a b : Nat} (z : Nat → Nat → ℝ) :
    negKeep (up z : FVec Ideal (⟨2, ![a, b]⟩ : Shape) .f32) = up fun R l => sp (z R l) := by
  funext i
  have hm : (max ((z (i 0).val (i 1).val : ℝ) : EReal) 0) = ((max (z (i 0).val (i 1).val) 0 : ℝ) : EReal) := by
    rw [← EReal.coe_zero]
    exact (EReal.coe_strictMono.monotone.map_max).symm
  have ha : (FloatOps.absf (F := Ideal) (φ := .f32) ((z (i 0).val (i 1).val : ℝ) : EReal)) = ((|z (i 0).val (i 1).val| : ℝ) : EReal) := by
    rw [abs_eq_max_neg]
    exact (EReal.coe_strictMono.monotone.map_max).symm
  pointwise [negKeep, up]
  rw [hm, ha, zero_sub, ← EReal.coe_neg, Ideal.exp_coe, ← EReal.coe_one, ← EReal.coe_add, Ideal.log_coe,
    if_neg (not_le.mpr (by positivity)), ← EReal.coe_add]
  rfl

theorem inv_perm (J : Nat) : inv (perm J) = J := by
  have h : ∀ t a b, a < 8 → b < 32 → inv (t * 256 + 8 * b + a) = t * 256 + 32 * a + b := fun t a b ha hb => by
    unfold inv; omega
  rw [perm, h _ _ _ (by omega) (by omega)]
  omega

theorem perm_inv (R : Nat) : perm (inv R) = R := by
  have h := perm_key (R / 256) (R % 8) (R % 256 / 8) (by omega)
  rw [Nat.mod_eq_of_lt (show R % 256 / 8 < 32 by omega)] at h
  rw [inv, h]
  omega

theorem perm_lt (m J : Nat) (h : J < (m + 1) * 256) : perm J < (m + 1) * 256 := by
  unfold perm; omega

theorem inv_lt (m J : Nat) (h : J < (m + 1) * 256) : inv J < (m + 1) * 256 := by
  unfold inv; omega

theorem ix2_same {a b : Nat} (x : Fin a) (y : Fin b) : ValueIdx.ix2 x y = ix2 x y := rfl

def permEquiv (m : Nat) : Fin ((m + 1) * 256) ≃ Fin ((m + 1) * 256) where
  toFun J := ⟨perm J.val, perm_lt m _ J.isLt⟩
  invFun R := ⟨inv R.val, inv_lt m _ R.isLt⟩
  left_inv J := Fin.ext (inv_perm J.val)
  right_inv R := Fin.ext (perm_inv R.val)

theorem values_apply (m : Nat) (vt : Nat → FVec Ideal S128x256 .bf16) (f : Fin 128) (R : Fin ((m + 1) * 256)) :
    values m vt (ix2 f R) = vt (R.val / 256) (ix2 f ⟨R.val % 256, Nat.mod_lt _ (by decide)⟩) := by
  cases m with
  | zero =>
    have hR : R.val < 256 := by omega
    have e : R.val / 256 = 0 := by omega
    rw [e]
    show vt 0 _ = vt 0 _
    congr 1
    funext a
    match a with
    | 0 => rfl
    | 1 => exact Fin.ext (Nat.mod_eq_of_lt hR).symm
  | succ m =>
    have h0 : R.val < (m + 2) * 256 := R.isLt
    exact concatenate_apply_piece (t := ⟨2, ![128, (m + 2) * 256]⟩) (1 : Fin 2)
      ((List.range (m + 2)).map fun t => (⟨S128x256, vt t⟩ : (s : Shape) × (s.Idx → EReal))) (cat_cols m _) (ix2 f R)
      (R.val / 256) (by simp; omega) S128x256 (vt (R.val / 256))
      (by simp) rfl (256 * (R.val / 256))
      (by
        rw [← List.map_take, List.take_range, List.map_map, List.map_map]
        simp [Function.comp_def, S128x256]
        omega)
      (ix2 (n0 := 128) (n1 := 256) f ⟨R.val % 256, Nat.mod_lt _ (by decide)⟩)
      (fun b hb => by
        match b with
        | 0 => rfl
        | 1 => exact absurd rfl hb)
      (by show 256 * (R.val / 256) + R.val % 256 = R.val; omega)

variable [Facts]
open Facts Shapes1.Facts₀ Shapes2.Facts₀

theorem attend_apply (m : Nat) (z : Nat → Nat → ℝ) (vt : Nat → FVec Ideal S128x256 .bf16) (f : Fin 128) (l : Fin 512) :
    attend diag m (up z : FVec Ideal (Rows m) .f32) vt (ix2 f l) =
      ∑ J : Fin ((m + 1) * 256), vt (J.val / 256) (ix2 f ⟨perm J.val % 256, Nat.mod_lt _ (by decide)⟩) *
        ((att (fun J => z (perm J) l.val) (m * 256 + l.val % 256) J.val : ℝ) : EReal) := by
  rw [attend, negKeep_up, up_sub, weights_up]
  refine (Ideal.matmul_plain_apply (M := 128) (K := (m + 1) * 256) (N := 512) none _ _ _ f l).trans ?_
  have e0 : (constant S128x512 .f32 0x00000000#32 : FVec Ideal S128x512 .f32) (ix2 f l) = 0 := by
    pointwise
  simp only [ix2_same]
  rw [e0, zero_add, ← Equiv.sum_comp (permEquiv m)]
  refine Finset.sum_congr rfl fun J _ => ?_
  rw [values_apply]
  have e1 : (permEquiv m J).val / 256 = J.val / 256 := by
    show perm J.val / 256 = _
    unfold perm; omega
  rw [e1]
  congr 1
  show ((wOf m _ _ (inv (perm J.val)) l.val : ℝ) : EReal) = _
  rw [inv_perm, wOf_att]

end Cert.KernelIdeal.Spec
-- ==== Proof.Block.lean ====
/- What a point of the grid leaves in its result's block, at an index, from what its windows hold. -/
module

public import proofs.«01_k».proof.Proof.Attend
public import Idealize.ShloMosaic.Lib.Pipeline.ValueKit

@[expose] public section

noncomputable section

namespace Cert.KernelIdeal.Spec

open Idealize.ShloMosaic
variable [Facts]
open Facts Shapes1.Facts₀ Shapes2.Facts₀ K0.Facts₀

theorem twice_apply (q : FVec Ideal S128x256 .f32) (f : Fin 128) (l : Fin 512) :
    twice q (ix2 f l) = if f.val / 64 = l.val / 256 then q (ix2 f ⟨l.val % 256, Nat.mod_lt _ (by decide)⟩) else 0 := by
  pointwise [twice]
  have hf : f.val < 128 := f.isLt
  by_cases h : l.val < 256
  · refine (dif_pos h).trans ?_
    show Scalar.select (IntOp.cmpi .slt (BitVec.ofNat 32 f.val) 64#32) (q (ix2 f ⟨l.val, h⟩)) 0 = _
    rw [WordCmp.cmpi_slt_ofNat (by omega) (by omega), WordCmp.ofBool_decide_eq_ite]
    by_cases h2 : f.val < 64
    · rw [if_pos h2, if_pos (by omega)]
      exact congrArg q (congrArg (ix2 f) (Fin.ext (Nat.mod_eq_of_lt h).symm))
    · rw [if_neg h2, if_neg (by omega)]; rfl
  · refine (dif_neg h).trans ?_
    show Scalar.select (IntOp.cmpi .sge (BitVec.ofNat 32 f.val) 64#32) (q (ix2 f ⟨l.val - 256, by omega⟩)) 0 = _
    rw [WordCmp.cmpi_sge_ofNat (by omega) (by omega), WordCmp.ofBool_decide_eq_ite]
    have e : l.val - 256 = l.val % 256 := by omega
    by_cases h2 : 64 ≤ f.val
    · rw [if_pos h2, if_pos (by omega)]
      exact congrArg q (congrArg (ix2 f) (Fin.ext e))
    · rw [if_neg h2, if_neg (by omega)]; rfl

theorem heads_apply (x : FVec Ideal S128x512 .f32) (row : Fin 256) (col : Fin 128) :
    heads x (ix2 row col) = x (ix2 col ⟨256 * (col.val / 64) + row.val, by omega⟩) := by
  pointwise [heads]
  have hf : col.val < 128 := col.isLt
  by_cases h : col.val < 64
  · refine (dif_pos h).trans ?_
    have e : row.val = 256 * (col.val / 64) + row.val := by omega
    exact congrArg x (congrArg (ix2 col) (Fin.ext e))
  · refine (dif_neg h).trans ?_
    have e : 256 + row.val = 256 * (col.val / 64) + row.val := by omega
    have e2 : 64 + (col.val - 64) = col.val := by omega
    exact congrArg x (congr (congrArg ix2 (Fin.ext e2)) (Fin.ext e))

theorem biasRow_apply (b0 b1 : EReal) (u : Fin 1) (l : Fin 512) :
    biasRow (F := Ideal) b0 b1 (ix2 u l) = if l.val < 256 then b0 else b1 := by
  pointwise [biasRow]
  rw [WordCmp.cmpi_slt_ofNat (by omega) (by omega), WordCmp.ofBool_decide_eq_ite]
  split <;> rfl

theorem queriesOf_apply (x4 : Vec Ideal S1x128x512 .bf16) (f : Fin 128) (l : Fin 512) :
    queriesOf x4 (ix2 f l) = x4 (ix3 (n0 := 1) (n1 := 128) (n2 := 512) 0 f l) := by
  have e : (fun j => x4 ((Rect.unit (s := S1x128x512) ![0, 0, 0] S1x128x512.size inb_S1x128x512_S1x128x512_0_0_0).toLoadRect.idx j)) = x4 := by
    funext j
    refine congrArg x4 (funext fun a => Fin.ext ?_)
    rw [Rect.idx_unit_val]
    match a with
    | 0 => exact Nat.zero_add _
    | 1 => exact Nat.zero_add _
    | 2 => exact Nat.zero_add _
  show shapeCast S128x512 (fun j => x4 ((Rect.unit (s := S1x128x512) ![0, 0, 0] S1x128x512.size inb_S1x128x512_S1x128x512_0_0_0).toLoadRect.idx j))
    shapeCasts_S1x128x512_S128x512 (ix2 f l) = _
  rw [e]
  refine shapeCast_apply _ _ _ _ ?_
  rw [rowMajor_val3 _ 65536 512 rfl rfl, rowMajor_val2 _ 512 rfl]
  show 0 * 65536 + f.val * 512 + l.val = f.val * 512 + l.val
  omega

theorem keysOf_apply (x5 : Vec Ideal S2048x128 .bf16) (m : Nat) (h : m < 8) (R : Fin ((m + 1) * 256)) (c : Fin 128) :
    keysOf x5 m h (ix2 R c) = x5 (ix2 (n0 := 2048) (n1 := 128) ⟨R.val, by omega⟩ c) := by
  refine (congrFun (shapeCast_id (s := ⟨2, ![(m + 1) * 256, 128]⟩) _ _) (ix2 R c)).trans (congrArg x5 (funext fun a => Fin.ext ?_))
  rw [Rect.idx_unit_val]
  match a with
  | 0 => exact Nat.zero_add _
  | 1 => exact Nat.zero_add _

theorem valuesOf_apply (x6 : Vec Ideal S1x8x128x256 .bf16) (t : Nat) (h : t < 8) (f : Fin 128) (c : Fin 256) :
    valuesOf x6 t h (ix2 f c) = x6 (ix4 (n0 := 1) (n1 := 8) (n2 := 128) (n3 := 256) 0 ⟨t, h⟩ f c) := by
  have e : (fun j => x6 ((Rect.unit (s := S1x8x128x256) ![0, t, 0, 0] S1x1x128x256.size (fits_v t h)).toLoadRect.idx j)) =
      fun j : S1x1x128x256.Idx => x6 (ix4 (n0 := 1) (n1 := 8) (n2 := 128) (n3 := 256) 0 ⟨t, h⟩ (j 2) (j 3)) := by
    funext j
    refine congrArg x6 (funext fun a => Fin.ext ?_)
    rw [Rect.idx_unit_val]
    match a with
    | 0 => exact (Nat.zero_add _).trans (Nat.lt_one_iff.mp (j 0).isLt)
    | 1 => exact (congrArg (t + ·) (Nat.lt_one_iff.mp (j 1).isLt)).trans (Nat.add_zero _)
    | 2 => exact Nat.zero_add _
    | 3 => exact Nat.zero_add _
  unfold valuesOf
  rw [e]
  refine (shapeCast_apply _ _ _ (ix4 (n0 := 1) (n1 := 1) (n2 := 128) (n3 := 256) 0 0 f c) ?_).trans rfl
  rw [rowMajor_val4 _ 32768 32768 256 rfl rfl rfl, rowMajor_val2 _ 256 rfl]
  show 0 * 32768 + 0 * 32768 + f.val * 256 + c.val = f.val * 256 + c.val
  omega

theorem biasAt1 (x3 : Vec Ideal S8 .f32) (i : grid0.Coords) :
    biasAt x3 (k0_off1 i) (k0_off1_inb i) = x3 (ix1 (n0 := 8) ⟨2 * (i 1).val, by have := (i 1).isLt; show _ < 8; simp at this; omega⟩) := by
  have h : ∀ p : Fin 4, (Scalar.indexCast (Scalar.muli 2#32 (BitVec.ofNat 32 p.val)) : Index).toNat = 2 * p.val := by decide
  unfold biasAt
  refine congrArg x3 (funext fun a => Fin.ext ?_)
  rw [Rect.idx_unit_val]
  match a with
  | 0 => exact (congrArg (· + 0) (h (i 1))).trans (Nat.add_zero _)

theorem biasAt2 (x3 : Vec Ideal S8 .f32) (i : grid0.Coords) :
    biasAt x3 (k0_off2 i) (k0_off2_inb i) = x3 (ix1 (n0 := 8) ⟨2 * (i 1).val + 1, by have := (i 1).isLt; show _ < 8; simp at this; omega⟩) := by
  have h : ∀ p : Fin 4, (Scalar.indexCast (Scalar.addi (Scalar.muli 2#32 (BitVec.ofNat 32 p.val)) 1#32) : Index).toNat = 2 * p.val + 1 := by
    decide
  unfold biasAt
  refine congrArg x3 (funext fun a => Fin.ext ?_)
  rw [Rect.idx_unit_val]
  match a with
  | 0 => exact (congrArg (· + 0) (h (i 1))).trans (Nat.add_zero _)

end Cert.KernelIdeal.Spec
-- ==== Proof.Heads.lean ====
/- One block of 256 queries, both heads, from real queries, keys and biases. -/
module

public import proofs.«01_k».proof.Proof.Block

@[expose] public section

noncomputable section

namespace Cert.KernelIdeal.Spec

open Idealize.ShloMosaic

theorem coe_sum {n : Nat} (f : Fin n → ℝ) : ((∑ k, f k : ℝ) : EReal) = ∑ k, ((f k : ℝ) : EReal) := by
  induction n with
  | zero => simp
  | succ n ih => rw [Fin.sum_univ_castSucc, Fin.sum_univ_castSucc, EReal.coe_add, ih]

theorem sum_half (g : Nat → ℝ) (h : Nat) (hh : h < 2) :
    ∑ k : Fin 128, (if k.val / 64 = h then g k.val else 0) = ∑ d ∈ Finset.range 64, g (64 * h + d) := by
  rw [← Finset.sum_range (fun k => if k / 64 = h then g k else 0), show 128 = 64 + 64 from rfl, Finset.sum_range_add]
  obtain rfl | rfl : h = 0 ∨ h = 1 := by omega
  · rw [Finset.sum_eq_zero (s := Finset.range 64) (f := fun x => if (64 + x) / 64 = 0 then g (64 + x) else 0)
      (fun k _ => if_neg (by omega)), add_zero]
    refine Finset.sum_congr rfl fun k hk => ?_
    have := Finset.mem_range.mp hk
    rw [if_pos (by omega), Nat.mul_zero, Nat.zero_add]
  · rw [Finset.sum_eq_zero (s := Finset.range 64) (f := fun x => if x / 64 = 1 then g x else 0)
      (fun k hk => if_neg (by have := Finset.mem_range.mp hk; omega)), zero_add]
    refine Finset.sum_congr rfl fun k hk => ?_
    have := Finset.mem_range.mp hk
    rw [if_pos (by omega)]

/-- The score of the stored key row `R` for the lane `l`. -/
def score (K Q : Nat → Nat → ℝ) (B : Nat → ℝ) (R l : Nat) : ℝ :=
  (∑ d ∈ Finset.range 64, K R (64 * (l / 256) + d) * Q (64 * (l / 256) + d) (l % 256)) + B (l / 256)

variable [Facts]
open Facts Shapes1.Facts₀ Shapes2.Facts₀ K0.Facts₀

theorem scores_up (x5 : Vec Ideal S2048x128 .bf16) (m : Nat) (h : m < 8) (q : FVec Ideal S128x256 .f32) (bias : FVec Ideal S1x512 .f32)
    (K Q : Nat → Nat → ℝ) (B : Nat → ℝ)
    (hK : ∀ (R : Fin 2048) (c : Fin 128), x5 (ix2 R c) = ((K R.val c.val : ℝ) : EReal))
    (hQ : ∀ (c : Fin 128) (l : Fin 256), q (ix2 c l) = ((Q c.val l.val : ℝ) : EReal))
    (hB : ∀ l : Fin 512, bias (ix2 (n0 := 1) 0 l) = ((B (l.val / 256) : ℝ) : EReal)) :
    scores m (twice q) (keysOf x5 m h) bias = (up (score K Q B) : FVec Ideal (Rows m) .f32) := by
  funext i
  obtain ⟨R, l, rfl⟩ : ∃ (R : Fin ((m + 1) * 256)) (l : Fin 512), i = ix2 R l := ⟨i 0, i 1, (ix2_eta i).symm⟩
  have e1 := (Ideal.matmul_plain_apply (M := (m + 1) * 256) (K := 128) (N := 512) none (keysOf x5 m h) (twice q)
    (constant (Rows m) .f32 0x00000000#32) R l)
  simp only [ix2_same] at e1
  have e0 : (constant (Rows m) .f32 0x00000000#32 : FVec Ideal (Rows m) .f32) (ix2 R l) = 0 := by
    pointwise
  have e2 : broadcastTo (Rows m) bias (bcast_bias m) (ix2 R l) = bias (ix2 (n0 := 1) 0 l) := by
    refine broadcastTo_apply _ _ _ _ ?_
    exact fun a => match a with
      | ⟨0, _⟩ => rfl
      | ⟨1, _⟩ => rfl
  refine (congr (congrArg (fun a b : EReal => a + b) e1) e2).trans ?_
  rw [e0, zero_add, hB]
  have e3 : ∀ c : Fin 128, keysOf x5 m h (ix2 R c) * twice q (ix2 c l) =
      (((if c.val / 64 = l.val / 256 then K R.val c.val * Q c.val (l.val % 256) else 0 : ℝ)) : EReal) := fun c => by
    rw [keysOf_apply, hK, twice_apply]
    split
    · rw [hQ, EReal.coe_mul]
    · rw [mul_zero, EReal.coe_zero]
  rw [Finset.sum_congr rfl fun c _ => e3 c, ← coe_sum, sum_half (fun c => K R.val c * Q c (l.val % 256)) _ (by omega), ← EReal.coe_add]
  rfl

theorem valuesFrom_getD (x6 : Vec Ideal S1x8x128x256 .bf16) (d : FVec Ideal S128x256 .bf16) (n s : Nat) (h : s + n ≤ 8) (t : Nat) (ht : t < n) :
    (valuesFrom x6 n s h).getD t d = valuesOf x6 (s + t) (by omega) := by
  induction n generalizing s t with
  | zero => omega
  | succ n ih =>
    cases t with
    | zero => rfl
    | succ t =>
      show (valuesFrom x6 n (s + 1) _).getD t d = _
      rw [ih _ _ _ (by omega)]
      congr 1
      omega

theorem blockOf_apply (x5 : Vec Ideal S2048x128 .bf16) (x6 : Vec Ideal S1x8x128x256 .bf16) (m : Nat) (h : m < 8)
    (q : FVec Ideal S128x256 .f32) (bias : FVec Ideal S1x512 .f32) (K Q : Nat → Nat → ℝ) (B : Nat → ℝ)
    (hK : ∀ (R : Fin 2048) (c : Fin 128), x5 (ix2 R c) = ((K R.val c.val : ℝ) : EReal))
    (hQ : ∀ (c : Fin 128) (l : Fin 256), q (ix2 c l) = ((Q c.val l.val : ℝ) : EReal))
    (hB : ∀ l : Fin 512, bias (ix2 (n0 := 1) 0 l) = ((B (l.val / 256) : ℝ) : EReal)) (row : Fin 256) (col : Fin 128) :
    blockOf x5 x6 m h q bias (ix2 row col) =
      ∑ J : Fin ((m + 1) * 256),
        x6 (ix4 (n0 := 1) (n1 := 8) (n2 := 128) (n3 := 256) 0 ⟨J.val / 256, by omega⟩ col ⟨perm J.val % 256, Nat.mod_lt _ (by decide)⟩) *
        ((att (fun J => (∑ d ∈ Finset.range 64, K (perm J) (64 * (col.val / 64) + d) * Q (64 * (col.val / 64) + d) row.val) +
          B (col.val / 64)) (m * 256 + row.val) J.val : ℝ) : EReal) := by
  rw [blockOf, heads_apply, scores_up x5 m h q bias K Q B hK hQ hB, attend_apply]
  refine Finset.sum_congr rfl fun J _ => ?_
  have hc : col.val / 64 < 2 := by omega
  have e1 : (256 * (col.val / 64) + row.val) / 256 = col.val / 64 := by omega
  have e2 : (256 * (col.val / 64) + row.val) % 256 = row.val := by omega
  rw [valuesFrom_getD _ _ _ _ _ _ (by omega), valuesOf_apply]
  simp only [score, e1, e2, Nat.zero_add]

end Cert.KernelIdeal.Spec
-- ==== Proof.Out.lean ====
/- What a point of the grid leaves in its result's block, at an index. -/
module

public import proofs.«01_k».proof.Proof.Heads

@[expose] public section

noncomputable section

namespace Cert.KernelIdeal.Spec

open Idealize.ShloMosaic

theorem sum_extend {n N : Nat} (h : n ≤ N) (f : Fin N → EReal) (hz : ∀ J : Fin N, n ≤ J.val → f J = 0) :
    ∑ J : Fin n, f (Fin.castLE h J) = ∑ J : Fin N, f J := by
  obtain ⟨k, rfl⟩ := Nat.exists_eq_add_of_le h
  rw [Fin.sum_univ_add, Finset.sum_eq_zero (s := Finset.univ) (f := fun i : Fin k => f (Fin.natAdd n i))
    (fun i _ => hz _ (Nat.le_add_right _ _)), add_zero]
  rfl

theorem att_beyond (z : Nat → ℝ) (I J : Nat) (h : I ≤ J) : att z I J = 0 := if_neg (by omega)

variable [Facts]
open Facts Shapes1.Facts₀ Shapes2.Facts₀ K0.Facts₀

theorem blockOf_all (x5 : Vec Ideal S2048x128 .bf16) (x6 : Vec Ideal S1x8x128x256 .bf16) (m : Nat) (h : m < 8)
    (q : FVec Ideal S128x256 .f32) (bias : FVec Ideal S1x512 .f32) (K Q : Nat → Nat → ℝ) (B : Nat → ℝ)
    (hK : ∀ (R : Fin 2048) (c : Fin 128), x5 (ix2 R c) = ((K R.val c.val : ℝ) : EReal))
    (hQ : ∀ (c : Fin 128) (l : Fin 256), q (ix2 c l) = ((Q c.val l.val : ℝ) : EReal))
    (hB : ∀ l : Fin 512, bias (ix2 (n0 := 1) 0 l) = ((B (l.val / 256) : ℝ) : EReal)) (row : Fin 256) (col : Fin 128) :
    blockOf x5 x6 m h q bias (ix2 row col) =
      ∑ J : Fin 2048,
        x6 (ix4 (n0 := 1) (n1 := 8) (n2 := 128) (n3 := 256) 0 ⟨J.val / 256, by omega⟩ col ⟨perm J.val % 256, Nat.mod_lt _ (by decide)⟩) *
        ((att (fun J => (∑ d ∈ Finset.range 64, K (perm J) (64 * (col.val / 64) + d) * Q (64 * (col.val / 64) + d) row.val) +
          B (col.val / 64)) (m * 256 + row.val) J.val : ℝ) : EReal) := by
  rw [blockOf_apply x5 x6 m h q bias K Q B hK hQ hB]
  refine Eq.trans ?_ (sum_extend (n := (m + 1) * 256) (by omega) _ fun J hJ => ?_)
  · rfl
  · rw [att_beyond _ _ _ (by omega), EReal.coe_zero, mul_zero]

theorem outOf_apply (i : grid0.Coords) (g : Nat) (h : g < 4) (x3 : Vec Ideal S8 .f32) (x4 : Vec Ideal S1x128x512 .bf16)
    (x5 : Vec Ideal S2048x128 .bf16) (x6 : Vec Ideal S1x8x128x256 .bf16) (K Q : Nat → Nat → ℝ) (B : Nat → ℝ)
    (hK : ∀ (R : Fin 2048) (c : Fin 128), x5 (ix2 R c) = ((K R.val c.val : ℝ) : EReal))
    (hQ : ∀ (c : Fin 128) (l : Fin 512), x4 (ix3 (n0 := 1) (n1 := 128) (n2 := 512) 0 c l) = ((Q c.val l.val : ℝ) : EReal))
    (hB : ∀ l : Fin 8, x3 (ix1 l) = ((B l.val : ℝ) : EReal)) (row : Fin 512) (col : Fin 128) :
    outOf i g h x3 x4 x5 x6 (ix2 row col) =
      ∑ J : Fin 2048,
        x6 (ix4 (n0 := 1) (n1 := 8) (n2 := 128) (n3 := 256) 0 ⟨J.val / 256, by omega⟩ col ⟨perm J.val % 256, Nat.mod_lt _ (by decide)⟩) *
        ((att (fun J => (∑ d ∈ Finset.range 64, K (perm J) (64 * (col.val / 64) + d) * Q (64 * (col.val / 64) + d) row.val) +
          B (2 * (i 1).val + col.val / 64)) (g * 512 + row.val) J.val : ℝ) : EReal) := by
  have hb : ∀ l : Fin 512, biasRow (F := Ideal) (biasAt x3 (k0_off1 i) (k0_off1_inb i)) (biasAt x3 (k0_off2 i) (k0_off2_inb i))
      (ix2 (n0 := 1) 0 l) = ((B (2 * (i 1).val + l.val / 256) : ℝ) : EReal) := fun l => by
    rw [biasRow_apply, biasAt1, biasAt2, hB, hB]
    split
    · rw [show l.val / 256 = 0 by omega]; rfl
    · rw [show l.val / 256 = 1 by omega]
  have hq0 : ∀ (c : Fin 128) (l : Fin 256),
      extractStridedSlice S128x256 ![0, 0] (queriesOf x4) slices_S128x512_o0_0_S128x256 (ix2 c l) = ((Q c.val l.val : ℝ) : EReal) := fun c l => by
    refine Eq.trans ?_ ((queriesOf_apply x4 c ⟨l.val, by omega⟩).trans (hQ c ⟨l.val, by omega⟩))
    pointwise
  have hq1 : ∀ (c : Fin 128) (l : Fin 256),
      extractStridedSlice S128x256 ![0, 256] (queriesOf x4) slices_S128x512_o0_256_S128x256 (ix2 c l) = ((Q c.val (256 + l.val) : ℝ) : EReal) := fun c l => by
    refine Eq.trans ?_ ((queriesOf_apply x4 c ⟨256 + l.val, by omega⟩).trans (hQ c ⟨256 + l.val, by omega⟩))
    pointwise
  have b0 := fun r : Fin 256 => blockOf_all x5 x6 (2 * g) (by omega) _ _ K Q (fun u => B (2 * (i 1).val + u)) hK hq0 hb r col
  have b1 := fun r : Fin 256 => blockOf_all x5 x6 (2 * g + 1) (by omega) _ _ K (fun c l => Q c (256 + l)) (fun u => B (2 * (i 1).val + u)) hK hq1 hb r col
  show concatenate S512x128 0 [⟨S256x128, _⟩, ⟨S256x128, _⟩] concatenates_S256x128_S256x128_S512x128_d0 (ix2 row col) = _
  generalize blockOf x5 x6 (2 * g) _ _ _ = y0 at b0 ⊢
  generalize blockOf x5 x6 (2 * g + 1) _ _ _ = y1 at b1 ⊢
  by_cases hr : row.val < 256
  · refine Eq.trans ?_ ((b0 ⟨row.val, hr⟩).trans ?_)
    · pointwise
      exact dif_pos hr
    · rw [show 2 * g * 256 = g * 512 by omega]
  · refine Eq.trans ?_ ((b1 ⟨row.val - 256, by omega⟩).trans ?_)
    · pointwise
      exact dif_neg hr
    · simp only []
      rw [show (2 * g + 1) * 256 + (row.val - 256) = g * 512 + row.val by omega, show 256 + (row.val - 256) = row.val by omega]

end Cert.KernelIdeal.Spec
-- ==== Proof.Blocks.lean ====
/- What the call's windows hold at a point of the grid, at an index, from the arguments. -/
module

public import proofs.«01_k».proof.Proof.Frame
public import proofs.«01_k».proof.Proof.Out
public import Idealize.ShloMosaic.Lib.StableHlo.ReadAt
public import Idealize.ShloMosaic.Lib.Claim

@[expose] public section

set_option maxRecDepth 16384

noncomputable section

namespace Cert.KernelIdeal.Spec

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

theorem V4_eq (c : Dev nD) : V m c main_v4 = (truncf .bf16 (transpose S16x512x2048 [0, 2, 1] (shapeCast S16x2048x512
    (mulf (F := Ideal) (φ := .f32) (m ((c.tc : Thread nD τ).loc main_arg0) : FVec Ideal S16x2048x8x64 .f32) (broadcastInDim S16x2048x8x64 ![] bcast_S_S16x2048x8x64 (constant S_ .f32 0x3E000000#32)))
    shapeCasts_S16x2048x8x64_S16x2048x512) transposes_S16x2048x512_S16x512x2048_0_2_1) bitsLt_bf16_f32 : FVec Ideal S16x512x2048 .bf16) := by
  entry_read
  rfl

theorem V8_eq (c : Dev nD) : V m c main_v8 = (truncf .bf16 (shapeCast S32768x512 (transpose S16x8x32x8x512 [0, 1, 3, 2, 4] (shapeCast S16x8x8x32x512
    (m ((c.tc : Thread nD τ).loc main_arg1) : FVec Ideal S16x2048x8x64 .f32)
    shapeCasts_S16x2048x8x64_S16x8x8x32x512) transposes_S16x8x8x32x512_S16x8x32x8x512_0_1_3_2_4)
    shapeCasts_S16x8x32x8x512_S32768x512) bitsLt_bf16_f32 : FVec Ideal S32768x512 .bf16) := by
  entry_read
  rfl

theorem V13_eq (c : Dev nD) : V m c main_v13 = (truncf .bf16 (transpose S16x8x512x256 [0, 1, 3, 2] (shapeCast S16x8x256x512 (transpose S16x8x32x8x512 [0, 1, 3, 2, 4] (shapeCast S16x8x8x32x512
    (m ((c.tc : Thread nD τ).loc main_arg2) : FVec Ideal S16x2048x8x64 .f32)
    shapeCasts_S16x2048x8x64_S16x8x8x32x512) transposes_S16x8x8x32x512_S16x8x32x8x512_0_1_3_2_4)
    shapeCasts_S16x8x32x8x512_S16x8x256x512) transposes_S16x8x256x512_S16x8x512x256_0_1_3_2) bitsLt_bf16_f32 : FVec Ideal S16x8x512x256 .bf16) := by
  entry_read
  rfl

theorem idx_all : ∀ t : Fin grid0.N, win0_1.index t = ![(grid0.coords t 0).val, (grid0.coords t 1).val, (grid0.coords t 2).val] ∧
    win0_2.index t = ![(grid0.coords t 0).val, (grid0.coords t 1).val] ∧
    win0_3.index t = ![(grid0.coords t 0).val, 0, (grid0.coords t 1).val, 0] ∧
    win0_4.index t = ![(grid0.coords t 0).val * 4 + (grid0.coords t 2).val, (grid0.coords t 1).val] ∧
    win0_0.index t = ![0] := by
  decide +kernel

theorem tr_q (Y : FVec Ideal S16x2048x512 .f32) (b : Fin 16) (f : Fin 512) (I : Fin 2048) :
    (truncf .bf16 (transpose S16x512x2048 [0, 2, 1] Y transposes_S16x2048x512_S16x512x2048_0_2_1) bitsLt_bf16_f32 :
      FVec Ideal S16x512x2048 .bf16) (ix3 b f I) = Y (ix3 b I f) := by
  pointwise

theorem tr_k (Y : FVec Ideal S16x8x8x32x512 .f32) (b : Fin 16) (t : Fin 8) (g : Fin 32) (s : Fin 8) (f : Fin 512) :
    transpose S16x8x32x8x512 [0, 1, 3, 2, 4] Y transposes_S16x8x8x32x512_S16x8x32x8x512_0_1_3_2_4 (ix5 b t g s f) = Y (ix5 b t s g f) := by
  pointwise

theorem tr_v (Y : FVec Ideal S16x8x256x512 .f32) (b : Fin 16) (t : Fin 8) (f : Fin 512) (p : Fin 256) :
    (truncf .bf16 (transpose S16x8x512x256 [0, 1, 3, 2] Y transposes_S16x8x256x512_S16x8x512x256_0_1_3_2) bitsLt_bf16_f32 :
      FVec Ideal S16x8x512x256 .bf16) (ix4 b t f p) = Y (ix4 b t p f) := by
  pointwise

theorem cut_k (Y : FVec Ideal S32768x512 .f32) (j : S32768x512.Idx) :
    (truncf .bf16 Y bitsLt_bf16_f32 : FVec Ideal S32768x512 .bf16) j = Y j := rfl

theorem inv_lt_2048 (r : Nat) (h : r < 2048) : inv r < 2048 := inv_lt 7 r h

/-- The four arguments as device `c` holds them. -/
def argQ (c : Dev nD) : FVec Ideal S16x2048x8x64 .f32 := m ((c.tc : Thread nD τ).loc main_arg0)
def argK (c : Dev nD) : FVec Ideal S16x2048x8x64 .f32 := m ((c.tc : Thread nD τ).loc main_arg1)
def argV (c : Dev nD) : FVec Ideal S16x2048x8x64 .f32 := m ((c.tc : Thread nD τ).loc main_arg2)
def argB (c : Dev nD) : FVec Ideal S8 .f32 := m ((c.tc : Thread nD τ).loc main_arg3)

theorem eighth : Ideal.ofBits .f32 0x3E000000#32 = ((0.125 : ℝ) : EReal) := by
  simp [Ideal.ofBits, Ideal.ieee, -EReal.coe_mul]; norm_num

/-- An argument's row `I` of the batch `b` at the column `f`. -/
abbrev cell (X : FVec Ideal S16x2048x8x64 .f32) (b : Fin 16) (I : Fin 2048) (f : Fin 512) : EReal :=
  X (ix4 b I (⟨f.val / 64, by omega⟩ : Fin 8) (⟨f.val % 64, Nat.mod_lt _ (by decide)⟩ : Fin 64))

theorem V4_apply (c : Dev nD) (b : Fin 16) (f : Fin 512) (I : Fin 2048) :
    (V m c main_v4 : FVec Ideal S16x512x2048 .bf16) (ix3 b f I) = cell (argQ m c) b I f * ((0.125 : ℝ) : EReal) := by
  rw [V4_eq]
  rw [tr_q]
  refine (shapeCast_apply _ _ _ (ix4 b I (⟨f.val / 64, by omega⟩ : Fin 8) (⟨f.val % 64, by omega⟩ : Fin 64)) ?_).trans ?_
  · rw [rowMajor_val4 _ 1048576 512 64 rfl rfl rfl, rowMajor_val3 _ 1048576 512 rfl rfl]
    show b.val * 1048576 + I.val * 512 + f.val / 64 * 64 + f.val % 64 = b.val * 1048576 + I.val * 512 + f.val
    omega
  · rw [← eighth]; rfl

theorem V8_apply (c : Dev nD) (b : Fin 16) (r : Fin 2048) (f : Fin 512) :
    (V m c main_v8 : FVec Ideal S32768x512 .bf16) (ix2 (⟨b.val * 2048 + r.val, by omega⟩ : Fin 32768) f) =
      cell (argK m c) b ⟨inv r.val, inv_lt_2048 r.val r.isLt⟩ f := by
  rw [V8_eq, cut_k]
  refine (shapeCast_apply _ _ _ (ix5 b (⟨r.val / 256, by omega⟩ : Fin 8) (⟨r.val % 256 / 8, by omega⟩ : Fin 32) (⟨r.val % 8, by omega⟩ : Fin 8) f) ?_).trans ?_
  · rw [rowMajor_val5 _ 1048576 131072 4096 512 rfl rfl rfl rfl, rowMajor_val2 _ 512 rfl]
    show b.val * 1048576 + r.val / 256 * 131072 + r.val % 256 / 8 * 4096 + r.val % 8 * 512 + f.val = (b.val * 2048 + r.val) * 512 + f.val
    omega
  rw [tr_k]
  refine (shapeCast_apply _ _ _ (ix4 b (⟨inv r.val, inv_lt_2048 r.val r.isLt⟩ : Fin 2048) (⟨f.val / 64, by omega⟩ : Fin 8) (⟨f.val % 64, by omega⟩ : Fin 64)) ?_).trans rfl
  rw [rowMajor_val4 _ 1048576 512 64 rfl rfl rfl, rowMajor_val5 _ 1048576 131072 16384 512 rfl rfl rfl rfl]
  show b.val * 1048576 + inv r.val * 512 + f.val / 64 * 64 + f.val % 64 = b.val * 1048576 + r.val / 256 * 131072 + r.val % 8 * 16384 + r.val % 256 / 8 * 512 + f.val
  unfold inv
  omega

theorem V13_apply (c : Dev nD) (b : Fin 16) (t : Fin 8) (f : Fin 512) (p : Fin 256) :
    (V m c main_v13 : FVec Ideal S16x8x512x256 .bf16) (ix4 b t f p) =
      cell (argV m c) b ⟨t.val * 256 + p.val % 8 * 32 + p.val / 8, by omega⟩ f := by
  rw [V13_eq]
  rw [tr_v]
  refine (shapeCast_apply _ _ _ (ix5 b t (⟨p.val / 8, by omega⟩ : Fin 32) (⟨p.val % 8, by omega⟩ : Fin 8) f) ?_).trans ?_
  · rw [rowMajor_val5 _ 1048576 131072 4096 512 rfl rfl rfl rfl, rowMajor_val4 _ 1048576 131072 512 rfl rfl rfl]
    show b.val * 1048576 + t.val * 131072 + p.val / 8 * 4096 + p.val % 8 * 512 + f.val = b.val * 1048576 + t.val * 131072 + p.val * 512 + f.val
    omega
  rw [tr_k]
  refine (shapeCast_apply _ _ _ (ix4 b (⟨t.val * 256 + p.val % 8 * 32 + p.val / 8, by omega⟩ : Fin 2048) (⟨f.val / 64, by omega⟩ : Fin 8) (⟨f.val % 64, by omega⟩ : Fin 64)) ?_).trans rfl
  rw [rowMajor_val4 _ 1048576 512 64 rfl rfl rfl, rowMajor_val5 _ 1048576 131072 16384 512 rfl rfl rfl rfl]
  show b.val * 1048576 + (t.val * 256 + p.val % 8 * 32 + p.val / 8) * 512 + f.val / 64 * 64 + f.val % 64 = b.val * 1048576 + t.val * 131072 + p.val % 8 * 16384 + p.val / 8 * 512 + f.val
  omega

/-- The batch of a point of the grid. -/
abbrev bOf (t : Fin cfg0.N) : Fin 16 := ⟨(grid0.coords t 0).val, (grid0.coords t 0).isLt⟩

/-- The bias's block is the whole array. -/
theorem blk0 (c : Dev nD) (t : Fin cfg0.N) (h : Fin 8) : (iblk m c 0 t : Vec Ideal S8 .f32) (ix1 h) = argB m c (ix1 h) := by
  blk_ext [iblk, V_main_arg3, (idx_all t).2.2.2.2]

theorem blk1 (c : Dev nD) (t : Fin cfg0.N) (f : Fin 128) (l : Fin 512) :
    (iblk m c 1 t : Vec Ideal S1x128x512 .bf16) (ix3 (n0 := 1) (n1 := 128) (n2 := 512) 0 f l) =
      (V m c main_v4 : FVec Ideal S16x512x2048 .bf16)
        (ix3 (bOf t) (⟨(grid0.coords t 1).val * 128 + f.val, by have : (grid0.coords t 1).val < 4 := (grid0.coords t 1).isLt; omega⟩ : Fin 512)
          (⟨(grid0.coords t 2).val * 512 + l.val, by have : (grid0.coords t 2).val < 4 := (grid0.coords t 2).isLt; omega⟩ : Fin 2048)) := by
  blk_ext [iblk, (idx_all t).1]

theorem blk2 (c : Dev nD) (t : Fin cfg0.N) (r : Fin 2048) (f : Fin 128) :
    (iblk m c 2 t : Vec Ideal S2048x128 .bf16) (ix2 r f) =
      (V m c main_v8 : FVec Ideal S32768x512 .bf16)
        (ix2 (⟨(grid0.coords t 0).val * 2048 + r.val, by have : (grid0.coords t 0).val < 16 := (grid0.coords t 0).isLt; omega⟩ : Fin 32768)
          (⟨(grid0.coords t 1).val * 128 + f.val, by have : (grid0.coords t 1).val < 4 := (grid0.coords t 1).isLt; omega⟩ : Fin 512)) := by
  blk_ext [iblk, (idx_all t).2.1]

theorem blk3 (c : Dev nD) (t : Fin cfg0.N) (u : Fin 8) (f : Fin 128) (p : Fin 256) :
    (iblk m c 3 t : Vec Ideal S1x8x128x256 .bf16) (ix4 (n0 := 1) (n1 := 8) (n2 := 128) (n3 := 256) 0 u f p) =
      (V m c main_v13 : FVec Ideal S16x8x512x256 .bf16)
        (ix4 (bOf t) u
          (⟨(grid0.coords t 1).val * 128 + f.val, by have : (grid0.coords t 1).val < 4 := (grid0.coords t 1).isLt; omega⟩ : Fin 512) p) := by
  blk_ext [iblk, (idx_all t).2.2.1]

end Cert.KernelIdeal.Spec
-- ==== Proof.Array.lean ====
/- The kernel's result array, at every index, as the attention of its arguments. -/
module

public import proofs.«01_k».proof.Proof.Blocks

@[expose] public section

set_option maxRecDepth 16384

noncomputable section

namespace Cert.KernelIdeal.Spec

open Cert.KernelIdeal Cert.KernelIdeal.Gen
open Idealize.ShloMosaic Idealize.ShloMosaic.TcCoe Idealize.ShloMosaic.Tactic
open Idealize.SL Idealize.SL.Sem

/-- Every entry is a real number. -/
def IsReal {s : Shape} (X : s.Idx → EReal) : Prop := ∀ i, X i = ((X i).toReal : EReal)

/-- The entry of the batch `b`, the row `I`, the head `h` and the feature `d`. -/
def entry (X : FVec Ideal S16x2048x8x64 .f32) (b : Fin 16) (I h d : Nat) : EReal :=
  X (ix4 b (⟨I % 2048, Nat.mod_lt _ (by decide)⟩ : Fin 2048) (⟨h % 8, Nat.mod_lt _ (by decide)⟩ : Fin 8) (⟨d % 64, Nat.mod_lt _ (by decide)⟩ : Fin 64))

/-- The score of the query `I` and the key `J` of the head `h`. -/
def logit (Q K : FVec Ideal S16x2048x8x64 .f32) (B : FVec Ideal S8 .f32) (b : Fin 16) (h I J : Nat) : ℝ :=
  (∑ d ∈ Finset.range 64, (entry Q b I h d).toReal * (entry K b J h d).toReal) * 0.125 +
    (B (ix1 (⟨h % 8, Nat.mod_lt _ (by decide)⟩ : Fin 8))).toReal

/-- The attention's result for the query `I` of the batch `b`, at the column `f`. -/
def result (Q K V : FVec Ideal S16x2048x8x64 .f32) (B : FVec Ideal S8 .f32) (b : Fin 16) (I f : Nat) : EReal :=
  ∑ J : Fin 2048, entry V b J.val (f / 64) (f % 64) * ((att (logit Q K B b (f / 64) I) I J.val : ℝ) : EReal)

theorem result_congr (Q K V : FVec Ideal S16x2048x8x64 .f32) (B : FVec Ideal S8 .f32) {b b' : Fin 16} {I I' f f' : Nat}
    (hb : b = b') (hI : I = I') (hf : f = f') : result Q K V B b I f = result Q K V B b' I' f' := by
  subst hb hI hf
  rfl

theorem cell_eq (X : FVec Ideal S16x2048x8x64 .f32) (b : Fin 16) (I : Fin 2048) (f : Fin 512) (h d : Nat) (hh : f.val / 64 = h) (hd : f.val % 64 = d) :
    cell X b I f = entry X b I.val h d := by
  subst hh hd
  have e1 := Nat.mod_eq_of_lt I.isLt
  have e2 := Nat.mod_eq_of_lt (show f.val / 64 < 8 by omega)
  have e3 := Nat.mod_mod f.val 64
  simp only [cell, entry, e1, e2, e3]

variable (m : (ℓ : Loc nD τ sig) → Buf (Elt Ideal) ℓ)

theorem outAt_apply (c : Dev nD) (hQ : IsReal (argQ m c)) (hK : IsReal (argK m c)) (hB : IsReal (argB m c)) (t : Fin cfg0.N)
    (row : Fin 512) (col : Fin 128) :
    (outAt m c t : Vec Ideal S512x128 .bf16) (ix2 row col) =
      result (argQ m c) (argK m c) (argV m c) (argB m c) (bOf t) ((grid0.coords t 2).val * 512 + row.val) ((grid0.coords t 1).val * 128 + col.val) := by
  have hb : (grid0.coords t 0).val < 16 := (grid0.coords t 0).isLt
  have hp : (grid0.coords t 1).val < 4 := (grid0.coords t 1).isLt
  have hg : (grid0.coords t 2).val < 4 := (grid0.coords t 2).isLt
  have kK : ∀ (R : Fin 2048) (f : Fin 128), (iblk m c 2 t : Vec Ideal S2048x128 .bf16) (ix2 R f) =
      (((entry (argK m c) (bOf t) (inv R.val) (2 * (grid0.coords t 1).val + f.val / 64) (f.val % 64)).toReal : ℝ) : EReal) := fun R f => by
    rw [blk2, V8_apply m c (bOf t) R, cell_eq _ _ _ _ (2 * (grid0.coords t 1).val + f.val / 64) (f.val % 64) (by simp only []; omega) (by simp only []; omega)]
    exact hK _
  have kQ : ∀ (f : Fin 128) (l : Fin 512), (iblk m c 1 t : Vec Ideal S1x128x512 .bf16) (ix3 (n0 := 1) (n1 := 128) (n2 := 512) 0 f l) =
      (((entry (argQ m c) (bOf t) ((grid0.coords t 2).val * 512 + l.val) (2 * (grid0.coords t 1).val + f.val / 64) (f.val % 64)).toReal * 0.125 : ℝ) : EReal) := fun f l => by
    rw [blk1, V4_apply, cell_eq _ _ _ _ (2 * (grid0.coords t 1).val + f.val / 64) (f.val % 64) (by simp only []; omega) (by simp only []; omega), EReal.coe_mul]
    exact congrArg (· * ((0.125 : ℝ) : EReal)) (hQ _)
  have kB : ∀ h : Fin 8, (iblk m c 0 t : Vec Ideal S8 .f32) (ix1 h) =
      ((((argB m c) (ix1 (⟨h.val % 8, Nat.mod_lt _ (by decide)⟩ : Fin 8))).toReal : ℝ) : EReal) := fun h => by
    rw [blk0]
    have e : (⟨h.val % 8, Nat.mod_lt _ (by decide)⟩ : Fin 8) = h := Fin.ext (Nat.mod_eq_of_lt h.isLt)
    rw [e]
    exact hB _
  refine (outOf_apply (grid0.coords t) (grid0.coords t 2).val (grid0.coords t 2).isLt (iblk m c 0 t) (iblk m c 1 t) (iblk m c 2 t) (iblk m c 3 t)
    (fun R f => (entry (argK m c) (bOf t) (inv R) (2 * (grid0.coords t 1).val + f / 64) (f % 64)).toReal)
    (fun f l => (entry (argQ m c) (bOf t) ((grid0.coords t 2).val * 512 + l) (2 * (grid0.coords t 1).val + f / 64) (f % 64)).toReal * 0.125)
    (fun h => ((argB m c) (ix1 (⟨h % 8, Nat.mod_lt _ (by decide)⟩ : Fin 8))).toReal) kK kQ kB row col).trans ?_
  have eh : ((grid0.coords t 1).val * 128 + col.val) / 64 = 2 * (grid0.coords t 1).val + col.val / 64 := by omega
  have ed : ((grid0.coords t 1).val * 128 + col.val) % 64 = col.val % 64 := by omega
  unfold result
  refine Finset.sum_congr rfl fun J _ => ?_
  refine congr (congrArg (fun a b : EReal => a * b) ?_) ?_
  · rw [blk3, V13_apply, cell_eq _ _ _ _ _ _ eh ed, eh, ed]
    have e : J.val / 256 * 256 + perm J.val % 256 % 8 * 32 + perm J.val % 256 / 8 = J.val := by
      have h : ∀ t a b, a < 8 → b < 32 → (t * 256 + 8 * b + a) % 256 % 8 * 32 + (t * 256 + 8 * b + a) % 256 / 8 = 32 * a + b := fun t a b ha hb => by
        omega
      have := h (J.val / 256) (J.val % 256 / 32) (J.val % 32) (by omega) (by omega)
      unfold perm
      omega
    simp only [e]
  · refine congrArg _ (congrArg (fun z => att z ((grid0.coords t 2).val * 512 + row.val) J.val) (funext fun J' => ?_))
    unfold logit
    rw [eh, Finset.sum_mul]
    refine congr (congrArg (fun a b : ℝ => a + b) (Finset.sum_congr rfl fun d hd => ?_)) rfl
    have := Finset.mem_range.mp hd
    have e1 : (64 * (col.val / 64) + d) / 64 = col.val / 64 := by omega
    have e2 : (64 * (col.val / 64) + d) % 64 = d := by omega
    simp only [inv_perm, e1, e2]
    ring

/-- The result array after the call. -/
theorem arr_eq (c : Dev nD) (hQ : IsReal (argQ m c)) (hK : IsReal (argK m c)) (hB : IsReal (argB m c)) :
    ((dats m 0 c).arrAt 4 (cfgs 0).N : Vec Ideal S32768x512 .bf16) = fun i : S32768x512.Idx =>
      result (argQ m c) (argK m c) (argV m c) (argB m c) ⟨(i 0).val / 2048, by have : (i 0).val < 32768 := (i 0).isLt; omega⟩
        ((i 0).val % 2048) (i 1).val := by
  refine (dats m 0 c).arrAt_eq_of_covers 4 _ (by decide +kernel) fun t hf y => ?_
  blk_simp
  rw [after4]
  obtain ⟨row, col, rfl⟩ : ∃ (row : Fin 512) (col : Fin 128), y = ix2 row col := ⟨y 0, y 1, (ix2_eta y).symm⟩
  refine (outAt_apply m c hQ hK hB t row col).trans ?_
  have h0 : win0_4.index t 0 = (grid0.coords t 0).val * 4 + (grid0.coords t 2).val := congrFun (idx_all t).2.2.2.1 0
  have h1 : win0_4.index t 1 = (grid0.coords t 1).val := congrFun (idx_all t).2.2.2.1 1
  have hg : (grid0.coords t 2).val < 4 := (grid0.coords t 2).isLt
  refine result_congr _ _ _ _ (Fin.ext ?_) ?_ ?_
  · show (grid0.coords t 0).val = (win0_4.index t 0 * 512 + row.val) / 2048
    omega
  · show _ = (win0_4.index t 0 * 512 + row.val) % 2048
    omega
  · show _ = win0_4.index t 1 * 128 + col.val
    omega

end Cert.KernelIdeal.Spec
-- ==== Proof.Ref.lean ====
/- The reference's result, at every index, as the attention of its arguments. -/
module

public import proofs.«01_k».proof.Proof.Gen.ReferenceIdeal.Run
public import proofs.«01_k».proof.Proof.Array

@[expose] public section

set_option maxRecDepth 16384

noncomputable section

namespace Cert.ReferenceIdeal.Spec

open Cert.ReferenceIdeal Cert.ReferenceIdeal.Gen
open Idealize.ShloMosaic Idealize.ShloMosaic.TcCoe
open Idealize.SL Idealize.SL.Sem
open Cert.KernelIdeal.Spec (sp att IsReal entry logit result coe_sum)

/-- One value for each query and each key of each head of each batch. -/
abbrev A4 : Type := FVec Ideal S16x8x2048x2048 .f32

def zeros : A4 := broadcastInDim S16x8x2048x2048 ![] bcast_S_S16x8x2048x2048 (constant S_ .f32 0x00000000#32)

def zR (q k : FVec Ideal S16x2048x8x64 .f32) (B : FVec Ideal S8 .f32) : A4 :=
  addf (mulf (Host.dotGeneral dot_S16x2048x8x64_S16x2048x8x64_S16x8x2048x2048_3_3_1_1_02_02 none q k)
    (broadcastInDim S16x8x2048x2048 ![] bcast_S_S16x8x2048x2048 (constant S_ .f32 0x3E000000#32)))
    (broadcastInDim S16x8x2048x2048 ![0, 1, 2, 3] bcast_S1x8x1x1_S16x8x2048x2048_0_1_2_3 (broadcastInDim S1x8x1x1 ![1] bcast_S8_S1x8x1x1_1 B))

def softplus (x : A4) : A4 :=
  select (cmpf .une (subf x zeros) (subf x zeros)) (addf x zeros)
    (addf (maximumf x zeros) (Host.log1p (Host.exp (Host.negf (Host.absf (subf x zeros))))))

def logSig (x : A4) : A4 := Host.negf (softplus (Host.negf x))

def seen : IVec S16x8x2048x2048 1 :=
  broadcastInDim S16x8x2048x2048 ![2, 3] bcast_S2048x2048_S16x8x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def keeps (z : A4) : A4 := select seen (logSig (Host.negf z)) zeros

def sums (n : A4) : A4 :=
  Host.reduceWindowAdd ![1, 1, 1, 2048] ![1, 1, 1, 1] ![0, 0, 0, 0] ![0, 0, 0, 2047] n
    (broadcastInDim S_ ![] bcast_S_S_ (constant S_ .f32 0x00000000#32))
    reduceWindows_S16x8x2048x2048_S16x8x2048x2048_w1s1p0_0_w1s1p0_0_w1s1p0_0_w2048s1p0_2047 h_S_

def weightsR (z : A4) : A4 := select seen (Host.exp (addf (logSig z) (subf (sums (keeps z)) (keeps z)))) zeros

def outR (v : FVec Ideal S16x2048x8x64 .f32) (a : A4) : FVec Ideal S32768x512 .bf16 :=
  truncf .bf16 (shapeCast S32768x512 (transpose S16x2048x8x64 [0, 3, 1, 2]
    (Host.dotGeneral dot_S16x2048x8x64_S16x8x2048x2048_S16x8x64x2048_1_3_3_2_02_01 none v a)
    transposes_S16x8x64x2048_S16x2048x8x64_0_3_1_2) shapeCasts_S16x2048x8x64_S32768x512) bitsLt_bf16_f32

theorem res_eq (m : (ℓ : Loc nD τ sig) → Buf (Elt Ideal) ℓ) (c : Dev nD) :
    Value.res_main_v25 m c = outR (m ((c.tc : Thread nD τ).loc main_arg2)) (weightsR (zR (m ((c.tc : Thread nD τ).loc main_arg0))
      (m ((c.tc : Thread nD τ).loc main_arg1)) (m ((c.tc : Thread nD τ).loc main_arg3)))) := by
  unfold Value.res_main_v25
  rfl

theorem zeros_apply (i : S16x8x2048x2048.Idx) : zeros i = 0 := by
  idx_vars i
  pointwise [zeros]

theorem seen_apply (b : Fin 16) (h : Fin 8) (I J : Fin 2048) : seen (ix4 b h I J) = if J.val < I.val then 1#1 else 0#1 := by
  pointwise [seen]
  rw [WordCmp.cmpi_slt_ofNat (by omega) (by omega), WordCmp.ofBool_decide_eq_ite]

theorem zR_apply (q k : FVec Ideal S16x2048x8x64 .f32) (B : FVec Ideal S8 .f32) (b : Fin 16) (h : Fin 8) (I J : Fin 2048) :
    zR q k B (ix4 b h I J) = (∑ d : Fin 64, q (ix4 b I h d) * k (ix4 b J h d)) * ((0.125 : ℝ) : EReal) + B (ix1 h) := by
  rw [← Cert.KernelIdeal.Spec.eighth]
  pointwise [zR]

theorem outR_cut (v : FVec Ideal S16x2048x8x64 .f32) (a : A4) (j : S32768x512.Idx) :
    outR v a j = shapeCast S32768x512 (transpose S16x2048x8x64 [0, 3, 1, 2]
      (Host.dotGeneral dot_S16x2048x8x64_S16x8x2048x2048_S16x8x64x2048_1_3_3_2_02_01 none v a)
      transposes_S16x8x64x2048_S16x2048x8x64_0_3_1_2) shapeCasts_S16x2048x8x64_S32768x512 j := rfl

theorem outR_apply (v : FVec Ideal S16x2048x8x64 .f32) (a : A4) (r : Fin 32768) (f : Fin 512) :
    outR v a (ix2 r f) = ∑ J : Fin 2048, v (ix4 (⟨r.val / 2048, by omega⟩ : Fin 16) J (⟨f.val / 64, by omega⟩ : Fin 8) (⟨f.val % 64, by omega⟩ : Fin 64)) *
      a (ix4 (⟨r.val / 2048, by omega⟩ : Fin 16) (⟨f.val / 64, by omega⟩ : Fin 8) (⟨r.val % 2048, by omega⟩ : Fin 2048) J) := by
  rw [outR_cut]
  refine (shapeCast_apply _ _ _ (ix4 (⟨r.val / 2048, by omega⟩ : Fin 16) (⟨r.val % 2048, by omega⟩ : Fin 2048) (⟨f.val / 64, by omega⟩ : Fin 8) (⟨f.val % 64, by omega⟩ : Fin 64)) ?_).trans ?_
  · rw [rowMajor_val4 _ 1048576 512 64 rfl rfl rfl, rowMajor_val2 _ 512 rfl]
    show r.val / 2048 * 1048576 + r.val % 2048 * 512 + f.val / 64 * 64 + f.val % 64 = r.val * 512 + f.val
    omega
  · pointwise

theorem foldl_add {n : Nat} (g : Fin n → EReal) (f : EReal → Fin n → EReal) (hfg : ∀ r k, f r k = r + g k) (l : List (Fin n)) (v : EReal) :
    l.foldl f v = v + (l.map g).sum := by
  induction l generalizing v with
  | nil => simp
  | cons a l ih => rw [List.foldl_cons, ih, hfg, List.map_cons, List.sum_cons, add_assoc]

theorem row_bijective (N : Nat) :
    Function.Bijective fun k : Fin N => (ix4 (0 : Fin 1) (0 : Fin 1) (0 : Fin 1) k : (⟨4, ![1, 1, 1, N]⟩ : Shape).Idx) := by
  refine ⟨fun k k' e => congrFun e 3, fun w => ⟨w 3, funext fun a => ?_⟩⟩
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- A window that starts at an entry and runs to the end of its row sums the row from the entry on. -/
theorem window_sum {n0 n1 n2 N M : Nat} {u : Shape} (x : (⟨4, ![n0, n1, n2, N]⟩ : Shape).Idx → EReal) (init : u.Idx → EReal)
    (h : (⟨4, ![n0, n1, n2, N]⟩ : Shape).ReduceWindows ![1, 1, 1, N] ![1, 1, 1, 1] ![0, 0, 0, 0] ![0, 0, 0, M] (⟨4, ![n0, n1, n2, N]⟩ : Shape))
    (hu : 0 < u.numel) (h0 : init (Shape.Idx.first hu) = 0) (b : Fin n0) (c : Fin n1) (d : Fin n2) (j : Fin N) :
    Host.reduceWindow (fun a b : EReal => a + b) ![1, 1, 1, N] ![1, 1, 1, 1] ![0, 0, 0, 0] ![0, 0, 0, M] x init h hu (ix4 b c d j) =
      ∑ k : Fin N, if hk : j.val + k.val < N then x (ix4 b c d (⟨j.val + k.val, hk⟩ : Fin N)) else 0 := by
  have hb := b.isLt
  have hc := c.isLt
  have hd := d.isLt
  unfold Host.reduceWindow
  refine (foldl_add (fun k => (fun w : (⟨4, ![1, 1, 1, N]⟩ : Shape).Idx => if hk : j.val + (w 3).val < N then x (ix4 b c d (⟨j.val + (w 3).val, hk⟩ : Fin N)) else 0)
    ((⟨4, ![1, 1, 1, N]⟩ : Shape).rowMajor.symm k)) _ (fun r k => ?_) _ _).trans ?_
  · refine congrArg (fun y : EReal => r + y) ?_
    let w : (⟨4, ![1, 1, 1, N]⟩ : Shape).Idx := (⟨4, ![1, 1, 1, N]⟩ : Shape).rowMajor.symm k
    show _ = if hk : j.val + (w 3).val < N then x (ix4 b c d (⟨j.val + (w 3).val, hk⟩ : Fin N)) else 0
    have hw0 : (w 0).val = 0 := Nat.lt_one_iff.mp (w 0).isLt
    have hw1 : (w 1).val = 0 := Nat.lt_one_iff.mp (w 1).isLt
    have hw2 : (w 2).val = 0 := Nat.lt_one_iff.mp (w 2).isLt
    by_cases hk : j.val + (w 3).val < N
    · rw [dif_pos hk]
      refine (dif_pos fun a => ?_).trans (congrArg x (funext fun a => Fin.ext ?_))
      · match a with
        | ⟨0, _⟩ => exact ⟨Nat.zero_le _, by show b.val * 1 + (w 0).val - 0 < n0; omega⟩
        | ⟨1, _⟩ => exact ⟨Nat.zero_le _, by show c.val * 1 + (w 1).val - 0 < n1; omega⟩
        | ⟨2, _⟩ => exact ⟨Nat.zero_le _, by show d.val * 1 + (w 2).val - 0 < n2; omega⟩
        | ⟨3, _⟩ => exact ⟨Nat.zero_le _, by show j.val * 1 + (w 3).val - 0 < N; omega⟩
      · match a with
        | ⟨0, _⟩ => show b.val * 1 + (w 0).val - 0 = b.val; omega
        | ⟨1, _⟩ => show c.val * 1 + (w 1).val - 0 = c.val; omega
        | ⟨2, _⟩ => show d.val * 1 + (w 2).val - 0 = d.val; omega
        | ⟨3, _⟩ => show j.val * 1 + (w 3).val - 0 = j.val + (w 3).val; omega
    · rw [dif_neg hk]
      refine (dif_neg fun hall => hk ?_).trans h0
      have h3 : j.val * 1 + (w 3).val - 0 < N := (hall 3).2
      omega
  · rw [h0, zero_add, ← Fin.sum_univ_def]
    refine (Equiv.sum_comp (⟨4, ![1, 1, 1, N]⟩ : Shape).rowMajor.symm
      (fun w : (⟨4, ![1, 1, 1, N]⟩ : Shape).Idx => if hk : j.val + (w 3).val < N then x (ix4 b c d (⟨j.val + (w 3).val, hk⟩ : Fin N)) else 0)).trans ?_
    exact ((row_bijective N).sum_comp
      (fun w : (⟨4, ![1, 1, 1, N]⟩ : Shape).Idx => if hk : j.val + (w 3).val < N then x (ix4 b c d (⟨j.val + (w 3).val, hk⟩ : Fin N)) else 0)).symm

theorem sums_apply (n : A4) (b : Fin 16) (h : Fin 8) (I J : Fin 2048) :
    sums n (ix4 b h I J) = ∑ k : Fin 2048, if hk : J.val + k.val < 2048 then n (ix4 b h I (⟨J.val + k.val, hk⟩ : Fin 2048)) else 0 :=
  window_sum n _ reduceWindows_S16x8x2048x2048_S16x8x2048x2048_w1s1p0_0_w1s1p0_0_w1s1p0_0_w2048s1p0_2047 (by decide) (Ideal.ofBits_zero .f32) b h I J

theorem coe_max (x y : ℝ) : max (x : EReal) (y : EReal) = ((max x y : ℝ) : EReal) := (EReal.coe_strictMono.monotone.map_max).symm

/-- The softplus of a real number. -/
theorem softplus_apply (x : A4) (i : S16x8x2048x2048.Idx) (r : ℝ) (hr : x i = (r : EReal)) : softplus x i = ((sp r : ℝ) : EReal) := by
  have hz := zeros_apply i
  have hc : cmpf .une (subf x zeros) (subf x zeros) i = 0#1 := by
    show Ideal.cmp .une (subf x zeros i) (subf x zeros i) = 0#1
    simp [Ideal.cmp]
  have ha : (FloatOps.absf (F := Ideal) (φ := .f32) (r : EReal)) = ((|r| : ℝ) : EReal) := by
    show max (r : EReal) (-(r : EReal)) = _
    rw [← EReal.coe_neg, coe_max]; rfl
  show Scalar.select (cmpf .une (subf x zeros) (subf x zeros) i) _
    (max (x i) (zeros i) + Ideal.log1p (Ideal.exp (-(FloatOps.absf (F := Ideal) (φ := .f32) (x i - zeros i))))) = _
  rw [hc, hz, hr, sub_zero, ha, ← EReal.coe_neg, Ideal.exp_coe, ← EReal.coe_zero, coe_max]
  show ((max r 0 : ℝ) : EReal) + Ideal.log (1 + ((Real.exp (-|r|) : ℝ) : EReal)) = _
  rw [← EReal.coe_one, ← EReal.coe_add, Ideal.log_coe, if_neg (not_le.mpr (by positivity)), ← EReal.coe_add]
  rfl

theorem sp_neg (x : ℝ) : -sp (-x) = x - sp x := by
  unfold sp
  rw [abs_neg]
  rcases le_total 0 x with h | h
  · rw [max_eq_left h, max_eq_right (by linarith)]; ring
  · rw [max_eq_right h, max_eq_left (by linarith)]; ring

theorem logSig_apply (x : A4) (i : S16x8x2048x2048.Idx) (r : ℝ) (hr : x i = (r : EReal)) : logSig x i = ((r - sp r : ℝ) : EReal) := by
  have h1 : Host.negf x i = ((-r : ℝ) : EReal) := by
    show -(x i) = _
    rw [hr, EReal.coe_neg]
  show -(softplus (Host.negf x) i) = _
  rw [softplus_apply _ _ _ h1, ← EReal.coe_neg, sp_neg]

theorem keeps_apply (z : A4) (b : Fin 16) (h : Fin 8) (I J : Fin 2048) (r : ℝ) (hr : z (ix4 b h I J) = (r : EReal)) :
    keeps z (ix4 b h I J) = ((if J.val < I.val then -sp r else 0 : ℝ) : EReal) := by
  have h1 : Host.negf z (ix4 b h I J) = ((-r : ℝ) : EReal) := by
    show -(z (ix4 b h I J)) = _
    rw [hr, EReal.coe_neg]
  show Scalar.select (seen (ix4 b h I J)) (logSig (Host.negf z) (ix4 b h I J)) (zeros (ix4 b h I J)) = _
  rw [seen_apply, zeros_apply, logSig_apply _ _ _ h1]
  have e : -r - sp (-r) = -sp r := by have := sp_neg r; linarith
  split
  · rw [e]; rfl
  · exact EReal.coe_zero.symm

theorem sum_window (f : Nat → ℝ) (J : Nat) :
    ∑ k : Fin 2048, (if J + k.val < 2048 then f (J + k.val) else 0) = ∑ k ∈ Finset.Ico J 2048, f k := by
  rw [← Finset.sum_range (fun k => if J + k < 2048 then f (J + k) else 0), Finset.sum_Ico_eq_sum_range]
  refine (Finset.sum_subset (Finset.range_subset_range.mpr (Nat.sub_le _ _)) fun k _ hk => if_neg ?_).symm.trans (Finset.sum_congr rfl fun k hk => if_pos ?_)
  · intro hlt; exact hk (Finset.mem_range.mpr (by omega))
  · have := Finset.mem_range.mp hk; omega

theorem weightsR_apply (z : A4) (b : Fin 16) (h : Fin 8) (I J : Fin 2048) (zr : Nat → ℝ)
    (hz : ∀ J : Fin 2048, z (ix4 b h I J) = ((zr J.val : ℝ) : EReal)) :
    weightsR z (ix4 b h I J) = ((att zr I.val J.val : ℝ) : EReal) := by
  have hs : sums (keeps z) (ix4 b h I J) = ((∑ k ∈ Finset.Ico J.val 2048, (if k < I.val then -sp (zr k) else 0) : ℝ) : EReal) := by
    rw [sums_apply, ← sum_window, coe_sum]
    refine Finset.sum_congr rfl fun k _ => ?_
    split
    · next hk => rw [keeps_apply _ _ _ _ _ _ (hz _)]
    · exact EReal.coe_zero.symm
  show Scalar.select (seen (ix4 b h I J))
    (Ideal.exp (logSig z (ix4 b h I J) + (sums (keeps z) (ix4 b h I J) - keeps z (ix4 b h I J)))) (zeros (ix4 b h I J)) = _
  rw [seen_apply, zeros_apply, logSig_apply _ _ _ (hz J), hs, keeps_apply _ _ _ _ _ _ (hz J), ← EReal.coe_sub, ← EReal.coe_add, Ideal.exp_coe]
  have sel1 : ∀ x y : EReal, Scalar.select 1#1 x y = x := fun _ _ => rfl
  have sel0 : ∀ x y : EReal, Scalar.select 0#1 x y = y := fun _ _ => rfl
  unfold att
  by_cases hJ : J.val < I.val
  · simp only [if_pos hJ]
    rw [sel1, Finset.sum_eq_sum_Ico_succ_bot J.isLt, if_pos hJ]
    have e : ∑ k ∈ Finset.Ico (J.val + 1) 2048, (if k < I.val then -sp (zr k) else 0) = -∑ k ∈ Finset.Ico (J.val + 1) I.val, sp (zr k) := by
      rw [← Finset.sum_neg_distrib]
      refine (Finset.sum_subset (Finset.Ico_subset_Ico_right I.isLt.le) fun k hk hn => if_neg ?_).symm.trans (Finset.sum_congr rfl fun k hk => if_pos (Finset.mem_Ico.mp hk).2)
      intro hlt
      exact hn (Finset.mem_Ico.mpr ⟨(Finset.mem_Ico.mp hk).1, hlt⟩)
    rw [e]
    refine congrArg (fun y : ℝ => ((Real.exp y : ℝ) : EReal)) ?_
    ring
  · simp only [if_neg hJ]
    rw [sel0, EReal.coe_zero]

/-- The reference's result is the attention. -/
theorem out_eq (q k v : FVec Ideal S16x2048x8x64 .f32) (B : FVec Ideal S8 .f32) (hq : IsReal q) (hk : IsReal k) (hB : IsReal B) :
    outR v (weightsR (zR q k B)) = fun i : S32768x512.Idx =>
      result q k v B ⟨(i 0).val / 2048, by have : (i 0).val < 32768 := (i 0).isLt; omega⟩ ((i 0).val % 2048) (i 1).val := by
  funext i
  obtain ⟨r, f, rfl⟩ : ∃ (r : Fin 32768) (f : Fin 512), i = ix2 r f := ⟨i 0, i 1, (ix2_eta i).symm⟩
  rw [outR_apply]
  show _ = result q k v B ⟨r.val / 2048, by omega⟩ (r.val % 2048) f.val
  have hf : f.val / 64 < 8 := by omega
  refine Finset.sum_congr rfl fun J _ => ?_
  refine congr (congrArg (fun a b : EReal => a * b) ?_) ?_
  · refine (?_ : _ = entry v _ _ _ _)
    have e1 := Nat.mod_eq_of_lt J.isLt
    have e2 := Nat.mod_eq_of_lt hf
    simp only [entry, e1, e2, Nat.mod_mod]
  · refine weightsR_apply _ _ _ _ J (logit q k B ⟨r.val / 2048, by omega⟩ (f.val / 64) (r.val % 2048)) fun J' => ?_
    rw [zR_apply, logit, EReal.coe_add, EReal.coe_mul, ← Fin.sum_univ_eq_sum_range (fun d => (entry q ⟨r.val / 2048, by omega⟩ (r.val % 2048) (f.val / 64) d).toReal *
      (entry k ⟨r.val / 2048, by omega⟩ J'.val (f.val / 64) d).toReal), coe_sum]
    have e1 := Nat.mod_eq_of_lt J'.isLt
    have e2 := Nat.mod_eq_of_lt hf
    have e3 : r.val % 2048 % 2048 = r.val % 2048 := Nat.mod_mod _ _
    refine congr (congrArg (fun a b : EReal => a + b) (congrArg (fun a : EReal => a * ((0.125 : ℝ) : EReal)) (Finset.sum_congr rfl fun d _ => ?_))) ?_
    · have e4 := Nat.mod_eq_of_lt d.isLt
      simp only [entry, e1, e2, e3, e4, EReal.coe_mul]
      exact congr (congrArg (fun a b : EReal => a * b) (hq _)) (hk _)
    · simp only [e2]
      exact hB _

end Cert.ReferenceIdeal.Spec
-- ==== Proof.Agree.lean ====
/- The kernel and the reference end with the same result, from finite queries, keys and biases. -/
module

public import proofs.«01_k».proof.Proof.Frames
public import proofs.«01_k».proof.Proof.Ref

@[expose] public section

set_option maxRecDepth 16384

noncomputable section

namespace Cert.KernelIdeal.Spec

open Idealize.ShloMosaic Idealize.ShloMosaic.TcCoe Idealize.SL.Sem

theorem preFacts : Cert.Pre_finite_inputs.Facts where
  bcast_S_S16x2048x8x64 := by decide
  bcast_S_S8 := by decide

theorem top_f32 : Ideal.ofBits .f32 0x7F800000#32 = ⊤ := by
  simp [Ideal.ofBits, Ideal.ieee]

theorem real_of_abs_lt (x : EReal) (h : Ideal.cmp .olt (max x (-x)) (Ideal.ofBits .f32 0x7F800000#32) = 1#1) : x = (x.toReal : EReal) := by
  have hlt : max x (-x) < ⊤ := by
    rw [top_f32] at h
    by_contra hn
    have h2 : Ideal.cmp .olt (max x (-x)) ⊤ = 0#1 := by
      show BitVec.ofBool (decide (max x (-x) < ⊤)) = 0#1
      rw [decide_eq_false hn]
      rfl
    rw [h2] at h
    exact absurd h (by decide)
  refine (EReal.coe_toReal ?_ ?_).symm
  · rintro rfl; simp at hlt
  · rintro rfl; simp at hlt

theorem both_of_and (a b : BitVec 1) (h : a &&& b = 1#1) : a = 1#1 ∧ b = 1#1 := by
  revert a b
  decide

/-- The precondition says that the queries, the keys and the biases are real numbers. -/
theorem real_of_pre (m : (ℓ : Loc Cert.KernelIdeal.nD Cert.KernelIdeal.τ Cert.KernelIdeal.sig) → Buf (Elt Ideal) ℓ)
    (h : @Cert.Pre_KernelIdeal_finite_inputs preFacts m) (c : Dev Cert.KernelIdeal.nD) :
    IsReal (argQ m c) ∧ IsReal (argK m c) ∧ IsReal (argB m c) := by
  have h1 := fun i => both_of_and _ _ (congrFun (h c).1 i)
  refine ⟨fun i => real_of_abs_lt _ (h1 i).1, fun i => real_of_abs_lt _ (h1 i).2, fun i => real_of_abs_lt _ (congrFun (h c).2 i)⟩

/-- The result that both end with. -/
def both (m : (ℓ : Loc Cert.KernelIdeal.nD Cert.KernelIdeal.τ Cert.KernelIdeal.sig) → Buf (Elt Ideal) ℓ) (c : Dev Cert.KernelIdeal.nD) :
    FVec Ideal Cert.KernelIdeal.S32768x512 .bf16 := fun i =>
  result (argQ m c) (argK m c) (argV m c) (argB m c) ⟨(i 0).val / 2048, by have : (i 0).val < 32768 := (i 0).isLt; omega⟩
    ((i 0).val % 2048) (i 1).val

theorem algebraic : @Cert.algebraic_KernelIdeal_ReferenceIdeal_pre_finite_inputs Cert.KernelIdeal.Gen.facts Cert.ReferenceIdeal.Gen.facts preFacts := by
  intro m g m' g' hpre hag
  refine ⟨fun c => both m c, ?_, ?_⟩
  · have h1 := run_main (F := Ideal) m g
    have h2 := frame_any (F := Ideal) m g
    refine ⟨fun t ht hf c => ⟨?_, (h2.post t ht hf).1 c⟩, h1.progress, h1.fair⟩
    obtain ⟨hQ, hK, hB⟩ := real_of_pre m hpre c
    exact (((h1.post t ht hf).1 c).1 4).trans (arr_eq m c hQ hK hB)
  · refine (θ_run Cert.ReferenceIdeal.defs _ _).mono (fun r h c => ⟨(h c).1.trans ?_, (h c).2⟩) (Cert.ReferenceIdeal.Value.run (F := Ideal) m' g')
    obtain ⟨hQ, hK, hB⟩ := real_of_pre m hpre c
    obtain ⟨e0, e1, e2, e3⟩ := hag c
    rw [Cert.ReferenceIdeal.Spec.res_eq, e0, e1, e2, e3]
    exact Cert.ReferenceIdeal.Spec.out_eq (argQ m c) (argK m c) (argV m c) (argB m c) hQ hK hB

end Cert.KernelIdeal.Spec
-- ==== Proof.Rows.lean ====
/- Rows of a stream of activations over the extended reals: the norm of a row, its modulation, the gated feed-forward part. -/
module

public import Idealize.ShloMosaic.Lib.Pointwise

@[expose] public section

noncomputable section

namespace Cert.Rows

open Idealize.ShloMosaic

/-- The reciprocal root of a row's mean square. -/
def scaleOf (x : Fin 1024 → EReal) : EReal :=
  Ideal.rsqrt (Ideal.div (∑ k, x k * x k) (Ideal.ofBits .f32 0x44800000#32) + Ideal.ofBits .f32 0x358637BD#32)

/-- A row's norm with the weights `g`. -/
def normed (x g : Fin 1024 → EReal) (j : Fin 1024) : EReal := x j * scaleOf x * g j

/-- The norm, scaled by `1 + sc` and shifted by `sh`. -/
def modded (x g sh sc : Fin 1024 → EReal) (j : Fin 1024) : EReal := normed x g j * (1 + sc j) + sh j

/-- A row times a matrix. -/
def rowMul {n k : Nat} (h : Fin n → EReal) (W : Fin n → Fin k → EReal) (f : Fin k) : EReal := ∑ j, h j * W j f

/-- The gated hidden row. -/
def gated (h : Fin 1024 → EReal) (Wg Wu : Fin 1024 → Fin 2816 → EReal) (f : Fin 2816) : EReal :=
  rowMul h Wg f * Ideal.logistic (rowMul h Wg f) * rowMul h Wu f

/-- The row after the feed-forward part. -/
def stepped (x g sh sc gate : Fin 1024 → EReal) (Wg Wu : Fin 1024 → Fin 2816 → EReal) (Wd : Fin 2816 → Fin 1024 → EReal)
    (j : Fin 1024) : EReal :=
  x j + gate j * rowMul (gated (modded x g sh sc) Wg Wu) Wd j

end Cert.Rows
-- ==== Proof.FfnBlock.lean ====
/- What the feed-forward call's body leaves in its result's block, at an index. -/
module

public import proofs.«01_k».proof.Proof.Rows
public import proofs.«01_k».proof.Proof.Gen.Kernel2Ideal.Value

@[expose] public section

set_option maxRecDepth 16384

noncomputable section

namespace Cert.Kernel2Ideal.Spec

open Cert.Kernel2Ideal Cert.Kernel2Ideal.Gen
open Idealize.ShloMosaic Idealize.ShloMosaic.TcCoe
open Cert.Rows

theorem hz2 : (![0, 0] : Fin 2 → Nat) = fun _ => 0 := funext fun a => by fin_cases a <;> rfl

theorem pay1_apply (x : Vec Ideal S512x1024 .f32) (g : Vec Ideal S1x1024 .f32) (sh sc : Vec Ideal S1x1x1024 .f32) (r : Fin 512) (j : Fin 1024) :
    (k0_pay1 x g sh sc : FVec Ideal S512x1024 .bf16) (ix2 r j) =
      modded (fun k => x (ix2 r k)) (fun k => g (ix2 (n0 := 1) 0 k)) (fun k => sh (ix3 (n0 := 1) (n1 := 1) 0 0 k)) (fun k => sc (ix3 (n0 := 1) (n1 := 1) 0 0 k)) j := by
  pointwise [k0_pay1, modded, normed, scaleOf]

theorem pay4_apply (x : Vec Ideal S512x1024 .f32) (gate : Vec Ideal S1x1x1024 .f32) (acc : Vec Ideal S512x1024 .f32) (g : Vec Ideal S1x1024 .f32) (r : Fin 512) (j : Fin 1024) :
    (k0_pay4 x gate acc g : FVec Ideal S512x1024 .f32) (ix2 r j) =
      normed (fun k => x (ix2 r k) + gate (ix3 (n0 := 1) (n1 := 1) 0 0 k) * acc (ix2 r k)) (fun k => g (ix2 (n0 := 1) 0 k)) j := by
  pointwise [k0_pay4, normed, scaleOf]

theorem pay3_apply (h : Vec Ideal S512x1024 .bf16) (Wg Wu : Vec Ideal S1024x2816 .bf16) (Wd : Vec Ideal S2816x1024 .bf16) (r : Fin 512) (j : Fin 1024) :
    (k0_pay3 h Wg Wu (k0_pay2 (F := Ideal)) Wd : FVec Ideal S512x1024 .f32) (ix2 r j) =
      rowMul (gated (fun k => h (ix2 r k)) (fun k f => Wg (ix2 k f)) (fun k f => Wu (ix2 k f))) (fun f k => Wd (ix2 f k)) j := by
  have e0 : Ideal.ofBits .f32 0x00000000#32 = 0 := by simp [Ideal.ofBits, Ideal.ieee]
  pointwise [k0_pay3, k0_pay2, gated, rowMul, e0]

end Cert.Kernel2Ideal.Spec
-- ==== Proof.FfnFound.lean ====
/- The block the feed-forward call's run found, as its stored value. -/
module

public import proofs.«01_k».proof.Proof.Rows
public import proofs.«01_k».proof.Proof.Gen.Kernel2Ideal.Value

@[expose] public section

set_option maxRecDepth 16384

noncomputable section

namespace Cert.Kernel2Ideal.Spec

open Cert.Kernel2Ideal Cert.Kernel2Ideal.Gen
open Idealize.ShloMosaic Idealize.ShloMosaic.TcCoe

theorem zero2 : (![0, 0] : Fin 2 → Nat) = fun _ => 0 := funext fun a => by fin_cases a <;> rfl

/-- A load of a whole buffer after stores to the whole of it reads the last one. -/
theorem readCov_last {S : Shape} {e : EltTy} {sp : Space} (v : View sig .tc sp S e) {off : Fin S.rank → Nat} (h : off = fun _ => 0)
    (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The block's stored value, from the seven windows. -/
def blockOf (x0 : Vec Ideal S512x1024 .f32) (x1 : Vec Ideal S1x6x1024 .f32) (x2 : Vec Ideal S1x1024 .f32) (x3 x4 : Vec Ideal S1024x2816 .bf16)
    (x5 : Vec Ideal S2816x1024 .bf16) (x6 : Vec Ideal S1x1024 .f32) : FVec Ideal S512x1024 .f32 :=
  k0_pay4 x0 (View.ld x1 (Rect.unit (s := S1x6x1024) ![0, 5, 0] S1x1x1024.size inb_S1x6x1024_S1x1x1024_0_5_0))
    (k0_pay3 (k0_pay1 x0 x2 (View.ld x1 (Rect.unit (s := S1x6x1024) ![0, 3, 0] S1x1x1024.size inb_S1x6x1024_S1x1x1024_0_3_0))
      (View.ld x1 (Rect.unit (s := S1x6x1024) ![0, 4, 0] S1x1x1024.size inb_S1x6x1024_S1x1x1024_0_4_0))) x3 x4 (k0_pay2 (F := Ideal)) x5) x6

variable (m : (ℓ : Loc nD τ sig) → Buf (Elt Ideal) ℓ)

theorem found_eq (c : Dev nD) (t : Fin cfg0.N) :
    outsAt0 m c t = blockOf (iblk m c 0 t) (iblk m c 1 t) (iblk m c 2 t) (iblk m c 3 t) (iblk m c 4 t) (iblk m c 5 t) (iblk m c 6 t) := by
  unfold outsAt0 out0_A_7
  rw [View.read_writes_eq_canon _ _ _ (cover0_A_7 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread]
  rw [View.canon_unit_zero (S := S512x1024) zero2]
  simp only [View.readCov_unit_zero (S := S512x1024) _ zero2, View.ld_unit_zero (S := S512x1024) zero2, View.ld_unit_zero (S := S1x1024) zero2,
    View.ld_unit_zero (S := S1024x2816) zero2, View.ld_unit_zero (S := S2816x1024) zero2]
  rw [readCov_last (S := S512x1024) _ zero2]
  rfl

end Cert.Kernel2Ideal.Spec
-- ==== Proof.FfnRef.lean ====
/- The reference of the feed-forward part, read at an index. -/
module

public import proofs.«01_k».proof.Proof.Rows
public import proofs.«01_k».proof.Proof.Gen.Reference2Ideal.Read

@[expose] public section

set_option maxRecDepth 16384

noncomputable section

namespace Cert.Reference2Ideal.Spec

open Cert.Reference2Ideal Cert.Reference2Ideal.Read
open Idealize.ShloMosaic Idealize.ShloMosaic.TcCoe
open Cert.Rows

/-- The part `k` of the conditioning's row of the batch `b`. -/
def part (c : FVec Ideal S16x6144 .f32) (b : Fin 16) (k : Nat) (j : Fin 1024) : EReal :=
  c (ix2 b (⟨(1024 * k + j.val) % 6144, Nat.mod_lt _ (by decide)⟩ : Fin 6144))

theorem part_at (c : FVec Ideal S16x6144 .f32) (b : Fin 16) (k : Nat) (j : Fin 1024) (n : Nat) (h : n < 6144) (e : n = 1024 * k + j.val) :
    c (ix2 b (⟨n, h⟩ : Fin 6144)) = part c b k j := by
  subst e
  unfold part
  simp only [Nat.mod_eq_of_lt h]

theorem v25_apply (x : FVec Ideal S16x2048x1024 .f32) (c : FVec Ideal S16x6144 .f32) (g : FVec Ideal S1024 .f32) (b : Fin 16) (r : Fin 2048) (j : Fin 1024) :
    val_main_v25 (F := Ideal) x c g (ix3 b r j) =
      modded (fun k => x (ix3 b r k)) (fun k => g (ix1 k)) (part c b 3) (part c b 4) j := by
  pointwise [val_main_v25, val_main_v24, val_main_v23, val_main_v22, val_main_v21, val_main_v20, val_main_cst_2, val_main_v19, val_main_v18, val_main_v17,
    val_main_v16, val_main_v15, val_main_v14, val_main_v13, val_main_v12, val_main_cst_1, val_main_v11, val_main_v10, val_main_cst_0, val_main_v9, val_main_v8,
    val_main_cst, val_main_v7, val_main_v5, val_main_v4, val_main_v0, modded, normed, scaleOf]
  rw [part_at c b 4 j _ _ rfl, part_at c b 3 j _ _ rfl]

theorem v29_apply (x : FVec Ideal S16x2048x1024 .f32) (c : FVec Ideal S16x6144 .f32) (g : FVec Ideal S1024 .f32) (Wg Wu : FVec Ideal S1024x2816 .f32)
    (b : Fin 16) (r : Fin 2048) (f : Fin 2816) :
    val_main_v29 (F := Ideal) x c g Wg Wu (ix3 b r f) =
      gated (modded (fun k => x (ix3 b r k)) (fun k => g (ix1 k)) (part c b 3) (part c b 4)) (fun k f => Wg (ix2 k f)) (fun k f => Wu (ix2 k f)) f := by
  have e : ∀ j, val_main_v25 (F := Ideal) x c g (ix3 b r j) = _ := v25_apply x c g b r
  pointwise [val_main_v29, val_main_v28, val_main_v27, val_main_call0_v5, val_main_call0_v4, val_main_call0_v3, val_main_call0_v2, val_main_call0_cst,
    val_main_call0_cst_0, val_main_call0_v1, val_main_call0_v0, val_main_v26, gated, rowMul, Ideal.logistic, e]

theorem v33_apply (x : FVec Ideal S16x2048x1024 .f32) (c : FVec Ideal S16x6144 .f32) (g : FVec Ideal S1024 .f32) (Wg Wu : FVec Ideal S1024x2816 .f32)
    (Wd : FVec Ideal S2816x1024 .f32) (b : Fin 16) (r : Fin 2048) (j : Fin 1024) :
    val_main_v33 (F := Ideal) x c g Wg Wu Wd (ix3 b r j) =
      stepped (fun k => x (ix3 b r k)) (fun k => g (ix1 k)) (part c b 3) (part c b 4) (part c b 5) (fun k f => Wg (ix2 k f)) (fun k f => Wu (ix2 k f))
        (fun f k => Wd (ix2 f k)) j := by
  have e : ∀ f, val_main_v29 (F := Ideal) x c g Wg Wu (ix3 b r f) = _ := v29_apply x c g Wg Wu b r
  pointwise [val_main_v33, val_main_v32, val_main_v31, val_main_v30, val_main_v6, val_main_v0, stepped, rowMul, e]
  rw [part_at c b 5 j _ _ rfl]

theorem v46_apply (x : FVec Ideal S16x2048x1024 .f32) (c : FVec Ideal S16x6144 .f32) (g : FVec Ideal S1024 .f32) (Wg Wu : FVec Ideal S1024x2816 .f32)
    (Wd : FVec Ideal S2816x1024 .f32) (gl : FVec Ideal S1024 .f32) (b : Fin 16) (r : Fin 2048) (j : Fin 1024) :
    val_main_v46 (F := Ideal) x c g Wg Wu Wd gl (ix3 b r j) =
      normed (stepped (fun k => x (ix3 b r k)) (fun k => g (ix1 k)) (part c b 3) (part c b 4) (part c b 5) (fun k f => Wg (ix2 k f)) (fun k f => Wu (ix2 k f))
        (fun f k => Wd (ix2 f k))) (fun k => gl (ix1 k)) j := by
  have e : ∀ j, val_main_v33 (F := Ideal) x c g Wg Wu Wd (ix3 b r j) = _ := v33_apply x c g Wg Wu Wd b r
  pointwise [val_main_v46, val_main_v45, val_main_v44, val_main_v43, val_main_v42, val_main_v41, val_main_v40, val_main_v39, val_main_cst_5, val_main_v38,
    val_main_v37, val_main_cst_4, val_main_v36, val_main_v35, val_main_cst_3, val_main_v34, normed, scaleOf, e]

end Cert.Reference2Ideal.Spec
-- ==== Proof.FfnArray.lean ====
/- The feed-forward call's result array, at every index, from the arguments. -/
module

public import proofs.«01_k».proof.Proof.FfnBlock
public import proofs.«01_k».proof.Proof.FfnFound
public import proofs.«01_k».proof.Proof.FfnRef
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel2Ideal.Spec

open Cert.Kernel2Ideal Cert.Kernel2Ideal.Gen
open Idealize.ShloMosaic Idealize.ShloMosaic.TcCoe Idealize.ShloMosaic.Tactic
open Idealize.SL Idealize.SL.Sem
open Cert.Rows
open Cert.Reference2Ideal.Spec (part part_at)

/-- The row the feed-forward part and the last norm make of row `r` of the batch `b`. -/
def lastRow (x : FVec Ideal S16x2048x1024 .f32) (c : FVec Ideal S16x6144 .f32) (g : FVec Ideal S1024 .f32) (Wg Wu : FVec Ideal S1024x2816 .f32)
    (Wd : FVec Ideal S2816x1024 .f32) (gl : FVec Ideal S1024 .f32) (b : Fin 16) (r : Fin 2048) (j : Fin 1024) : EReal :=
  normed (stepped (fun k => x (ix3 b r k)) (fun k => g (ix1 k)) (part c b 3) (part c b 4) (part c b 5) (fun k f => Wg (ix2 k f)) (fun k f => Wu (ix2 k f))
    (fun f k => Wd (ix2 f k))) (fun k => gl (ix1 k)) j

variable (m : (ℓ : Loc nD τ sig) → Buf (Elt Ideal) ℓ)

/-- The seven arguments as device `c` holds them. -/
def argX (c : Dev nD) : FVec Ideal S16x2048x1024 .f32 := m ((c.tc : Thread nD τ).loc main_arg0)
def argC (c : Dev nD) : FVec Ideal S16x6144 .f32 := m ((c.tc : Thread nD τ).loc main_arg1)
def argG (c : Dev nD) : FVec Ideal S1024 .f32 := m ((c.tc : Thread nD τ).loc main_arg2)
def argWg (c : Dev nD) : FVec Ideal S1024x2816 .f32 := m ((c.tc : Thread nD τ).loc main_arg3)
def argWu (c : Dev nD) : FVec Ideal S1024x2816 .f32 := m ((c.tc : Thread nD τ).loc main_arg4)
def argWd (c : Dev nD) : FVec Ideal S2816x1024 .f32 := m ((c.tc : Thread nD τ).loc main_arg5)
def argL (c : Dev nD) : FVec Ideal S1024 .f32 := m ((c.tc : Thread nD τ).loc main_arg6)

theorem V0_eq (c : Dev nD) : V m c main_v0 = (shapeCast S32768x1024 (argX m c) shapeCasts_S16x2048x1024_S32768x1024 : FVec Ideal S32768x1024 .f32) := by
  entry_read
  rfl
theorem V1_eq (c : Dev nD) : V m c main_v1 = (shapeCast S16x6x1024 (argC m c) shapeCasts_S16x6144_S16x6x1024 : FVec Ideal S16x6x1024 .f32) := by
  entry_read
  rfl
theorem V2_eq (c : Dev nD) : V m c main_v2 = (shapeCast S1x1024 (argG m c) shapeCasts_S1024_S1x1024 : FVec Ideal S1x1024 .f32) := by
  entry_read
  rfl
theorem V3_eq (c : Dev nD) : V m c main_v3 = (truncf .bf16 (argWg m c) bitsLt_bf16_f32 : FVec Ideal S1024x2816 .bf16) := by
  entry_read
  rfl
theorem V4_eq (c : Dev nD) : V m c main_v4 = (truncf .bf16 (argWu m c) bitsLt_bf16_f32 : FVec Ideal S1024x2816 .bf16) := by
  entry_read
  rfl
theorem V5_eq (c : Dev nD) : V m c main_v5 = (truncf .bf16 (argWd m c) bitsLt_bf16_f32 : FVec Ideal S2816x1024 .bf16) := by
  entry_read
  rfl
theorem V6_eq (c : Dev nD) : V m c main_v6 = (shapeCast S1x1024 (argL m c) shapeCasts_S1024_S1x1024 : FVec Ideal S1x1024 .f32) := by
  entry_read
  rfl

theorem idx_all : ∀ t : Fin grid0.N, win0_0.index t = ![(grid0.coords t 0).val, 0] ∧ win0_1.index t = ![(grid0.coords t 0).val / 4, 0, 0] ∧
    win0_2.index t = ![0, 0] ∧ win0_3.index t = ![0, 0] ∧ win0_4.index t = ![0, 0] ∧ win0_5.index t = ![0, 0] ∧ win0_6.index t = ![0, 0] ∧
    win0_7.index t = ![(grid0.coords t 0).val, 0] := by
  decide +kernel

theorem lt64 (t : Fin cfg0.N) : (grid0.coords t 0).val < 64 := (grid0.coords t 0).isLt

/-- The batch of a point of the grid. -/
abbrev bOf (t : Fin cfg0.N) : Fin 16 := ⟨(grid0.coords t 0).val / 4, by have := lt64 t; omega⟩

/-- The row within the batch of row `r` of a point's block. -/
abbrev rOf (t : Fin cfg0.N) (r : Fin 512) : Fin 2048 := ⟨(grid0.coords t 0).val % 4 * 512 + r.val, by omega⟩

theorem blk0 (c : Dev nD) (t : Fin cfg0.N) (r : Fin 512) (k : Fin 1024) :
    (iblk m c 0 t : Vec Ideal S512x1024 .f32) (ix2 r k) = argX m c (ix3 (bOf t) (rOf t r) k) := by
  have := lt64 t
  have e : (iblk m c 0 t : Vec Ideal S512x1024 .f32) (ix2 r k) = (V m c main_v0 : FVec Ideal S32768x1024 .f32)
      (ix2 (⟨(grid0.coords t 0).val * 512 + r.val, by omega⟩ : Fin 32768) k) := by
    blk_ext [iblk, (idx_all t).1]
  rw [e, V0_eq]
  refine shapeCast_apply _ _ _ _ ?_
  rw [rowMajor_val3 _ 2097152 1024 rfl rfl, rowMajor_val2 _ 1024 rfl]
  show (grid0.coords t 0).val / 4 * 2097152 + ((grid0.coords t 0).val % 4 * 512 + r.val) * 1024 + k.val = ((grid0.coords t 0).val * 512 + r.val) * 1024 + k.val
  omega

theorem blk1 (c : Dev nD) (t : Fin cfg0.N) (p : Fin 6) (k : Fin 1024) :
    (iblk m c 1 t : Vec Ideal S1x6x1024 .f32) (ix3 (n0 := 1) 0 p k) = part (argC m c) (bOf t) p.val k := by
  have e : (iblk m c 1 t : Vec Ideal S1x6x1024 .f32) (ix3 (n0 := 1) 0 p k) = (V m c main_v1 : FVec Ideal S16x6x1024 .f32) (ix3 (bOf t) p k) := by
    blk_ext [iblk, (idx_all t).2.1]
  rw [e, V1_eq]
  refine (shapeCast_apply _ _ _ (ix2 (bOf t) (⟨1024 * p.val + k.val, by omega⟩ : Fin 6144)) ?_).trans (part_at _ _ _ _ _ _ rfl)
  rw [rowMajor_val2 _ 6144 rfl, rowMajor_val3 _ 6144 1024 rfl rfl]
  show (bOf t).val * 6144 + (1024 * p.val + k.val) = (bOf t).val * 6144 + p.val * 1024 + k.val
  omega

theorem blk2 (c : Dev nD) (t : Fin cfg0.N) (k : Fin 1024) : (iblk m c 2 t : Vec Ideal S1x1024 .f32) (ix2 (n0 := 1) 0 k) = argG m c (ix1 k) := by
  have e : (iblk m c 2 t : Vec Ideal S1x1024 .f32) (ix2 (n0 := 1) 0 k) = (V m c main_v2 : FVec Ideal S1x1024 .f32) (ix2 (n0 := 1) 0 k) := by
    blk_ext [iblk, (idx_all t).2.2.1]
  rw [e, V2_eq]
  pointwise

theorem blk3 (c : Dev nD) (t : Fin cfg0.N) (k : Fin 1024) (f : Fin 2816) :
    (iblk m c 3 t : Vec Ideal S1024x2816 .bf16) (ix2 k f) = argWg m c (ix2 k f) := by
  have e : (iblk m c 3 t : Vec Ideal S1024x2816 .bf16) (ix2 k f) = (V m c main_v3 : FVec Ideal S1024x2816 .bf16) (ix2 k f) := by
    blk_ext [iblk, (idx_all t).2.2.2.1]
  rw [e, V3_eq]
  rfl

theorem blk4 (c : Dev nD) (t : Fin cfg0.N) (k : Fin 1024) (f : Fin 2816) :
    (iblk m c 4 t : Vec Ideal S1024x2816 .bf16) (ix2 k f) = argWu m c (ix2 k f) := by
  have e : (iblk m c 4 t : Vec Ideal S1024x2816 .bf16) (ix2 k f) = (V m c main_v4 : FVec Ideal S1024x2816 .bf16) (ix2 k f) := by
    blk_ext [iblk, (idx_all t).2.2.2.2.1]
  rw [e, V4_eq]
  rfl

theorem blk5 (c : Dev nD) (t : Fin cfg0.N) (f : Fin 2816) (k : Fin 1024) :
    (iblk m c 5 t : Vec Ideal S2816x1024 .bf16) (ix2 f k) = argWd m c (ix2 f k) := by
  have e : (iblk m c 5 t : Vec Ideal S2816x1024 .bf16) (ix2 f k) = (V m c main_v5 : FVec Ideal S2816x1024 .bf16) (ix2 f k) := by
    blk_ext [iblk, (idx_all t).2.2.2.2.2.1]
  rw [e, V5_eq]
  rfl

theorem blk6 (c : Dev nD) (t : Fin cfg0.N) (k : Fin 1024) : (iblk m c 6 t : Vec Ideal S1x1024 .f32) (ix2 (n0 := 1) 0 k) = argL m c (ix1 k) := by
  have e : (iblk m c 6 t : Vec Ideal S1x1024 .f32) (ix2 (n0 := 1) 0 k) = (V m c main_v6 : FVec Ideal S1x1024 .f32) (ix2 (n0 := 1) 0 k) := by
    blk_ext [iblk, (idx_all t).2.2.2.2.2.2.1]
  rw [e, V6_eq]
  pointwise

/-- The row `p` of the conditioning's block, loaded by itself. -/
theorem ld_row (x1 : Vec Ideal S1x6x1024 .f32) (n : Nat) (h : n < 6) (inb : ∀ a, (![0, n, 0] : Fin 3 → Nat) a + (![1, 1, 1024] : Fin 3 → Nat) a ≤ S1x6x1024.size a) (k : Fin 1024) :
    (View.ld x1 (Rect.unit (s := S1x6x1024) ![0, n, 0] ![1, 1, 1024] inb) : Vec Ideal S1x1x1024 .f32) (ix3 (n0 := 1) (n1 := 1) 0 0 k) =
      x1 (ix3 (n0 := 1) 0 (⟨n, h⟩ : Fin 6) k) := by
  refine congrArg x1 (funext fun a => Fin.ext ?_)
  match a with
  | ⟨0, _⟩ => rfl
  | ⟨1, _⟩ => rfl
  | ⟨2, _⟩ => show 0 + 1 * k.val = k.val; omega

/-- The three payloads one after the other, at an index. -/
theorem pays_apply (x0 : Vec Ideal S512x1024 .f32) (x2 x6 : Vec Ideal S1x1024 .f32) (x3 x4 : Vec Ideal S1024x2816 .bf16) (x5 : Vec Ideal S2816x1024 .bf16)
    (sh sc gt : Vec Ideal S1x1x1024 .f32) (r : Fin 512) (j : Fin 1024) :
    (k0_pay4 x0 gt (k0_pay3 (k0_pay1 x0 x2 sh sc) x3 x4 (k0_pay2 (F := Ideal)) x5) x6 : FVec Ideal S512x1024 .f32) (ix2 r j) =
      normed (stepped (fun k => x0 (ix2 r k)) (fun k => x2 (ix2 (n0 := 1) 0 k)) (fun k => sh (ix3 (n0 := 1) (n1 := 1) 0 0 k))
        (fun k => sc (ix3 (n0 := 1) (n1 := 1) 0 0 k)) (fun k => gt (ix3 (n0 := 1) (n1 := 1) 0 0 k)) (fun k f => x3 (ix2 k f)) (fun k f => x4 (ix2 k f))
        (fun f k => x5 (ix2 f k))) (fun k => x6 (ix2 (n0 := 1) 0 k)) j := by
  rw [pay4_apply]
  simp only [pay3_apply, pay1_apply]
  rfl

theorem block_apply (c : Dev nD) (t : Fin cfg0.N) (r : Fin 512) (j : Fin 1024) :
    (outsAt0 m c t : Vec Ideal S512x1024 .f32) (ix2 r j) =
      lastRow (argX m c) (argC m c) (argG m c) (argWg m c) (argWu m c) (argWd m c) (argL m c) (bOf t) (rOf t r) j := by
  have h3 := fun k => (ld_row (iblk m c 1 t) 3 (by decide) inb_S1x6x1024_S1x1x1024_0_3_0 k).trans (blk1 m c t 3 k)
  have h4 := fun k => (ld_row (iblk m c 1 t) 4 (by decide) inb_S1x6x1024_S1x1x1024_0_4_0 k).trans (blk1 m c t 4 k)
  have h5 := fun k => (ld_row (iblk m c 1 t) 5 (by decide) inb_S1x6x1024_S1x1x1024_0_5_0 k).trans (blk1 m c t 5 k)
  rw [found_eq]
  refine (pays_apply _ _ _ _ _ _ _ _ _ r j).trans ?_
  simp only [blk0, blk2, blk3, blk4, blk5, blk6]
  exact congr (congrArg normed (congr (congr (congr (congr (congr (congrArg (stepped _ _) (funext h3)) (funext h4)) (funext h5)) rfl) rfl) rfl)) rfl |> fun h => congrFun h j

/-- The result array after the call. -/
theorem arr_eq (c : Dev nD) :
    ((dats m 0 c).arrAt 7 cfg0.N : Vec Ideal S32768x1024 .f32) = fun i : S32768x1024.Idx =>
      lastRow (argX m c) (argC m c) (argG m c) (argWg m c) (argWu m c) (argWd m c) (argL m c)
        ⟨(i 0).val / 2048, by have : (i 0).val < 32768 := (i 0).isLt; omega⟩ ⟨(i 0).val % 2048, Nat.mod_lt _ (by decide)⟩ ⟨(i 1).val, (i 1).isLt⟩ := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, (ix2_eta y).symm⟩
  refine (block_apply m c t r j).trans ?_
  have h0 : win0_7.index t 0 = (grid0.coords t 0).val := congrFun (idx_all t).2.2.2.2.2.2.2 0
  have h1 : win0_7.index t 1 = 0 := congrFun (idx_all t).2.2.2.2.2.2.2 1
  have := lt64 t
  have e0 : bOf t = ⟨(win0_7.index t 0 * 512 + r.val) / 2048, by omega⟩ := Fin.ext (by show (grid0.coords t 0).val / 4 = (win0_7.index t 0 * 512 + r.val) / 2048; omega)
  have e1 : rOf t r = ⟨(win0_7.index t 0 * 512 + r.val) % 2048, Nat.mod_lt _ (by decide)⟩ :=
    Fin.ext (by show (grid0.coords t 0).val % 4 * 512 + r.val = (win0_7.index t 0 * 512 + r.val) % 2048; omega)
  rw [e0, e1]
  refine congrArg (lastRow _ _ _ _ _ _ _ _ _) (Fin.ext ?_)
  show j.val = win0_7.index t 1 * 1024 + j.val
  omega

end Cert.Kernel2Ideal.Spec
-- ==== Proof.FfnAgree.lean ====
/- The feed-forward call and its reference end with the same result. -/
module

public import proofs.«01_k».proof.Defs
public import proofs.«01_k».proof.Proof.FfnArray
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run

@[expose] public section

set_option maxRecDepth 16384

noncomputable section

namespace Cert.Kernel2Ideal.Spec

open Idealize.ShloMosaic Idealize.ShloMosaic.TcCoe Idealize.SL.Sem

theorem frame_reference : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

/-- The result that both end with. -/
def both (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S32768x1024 .f32 := fun i =>
  lastRow (argX m c) (argC m c) (argG m c) (argWg m c) (argWu m c) (argWd m c) (argL m c)
    ⟨(i 0).val / 2048, by have : (i 0).val < 32768 := (i 0).isLt; omega⟩ ⟨(i 0).val % 2048, Nat.mod_lt _ (by decide)⟩ ⟨(i 1).val, (i 1).isLt⟩

theorem ref_eq (x : FVec Ideal Cert.Kernel2Ideal.S16x2048x1024 .f32) (c : FVec Ideal Cert.Kernel2Ideal.S16x6144 .f32) (g : FVec Ideal Cert.Kernel2Ideal.S1024 .f32)
    (Wg Wu : FVec Ideal Cert.Kernel2Ideal.S1024x2816 .f32) (Wd : FVec Ideal Cert.Kernel2Ideal.S2816x1024 .f32) (gl : FVec Ideal Cert.Kernel2Ideal.S1024 .f32)
    (i : Cert.Kernel2Ideal.S32768x1024.Idx) :
    Cert.Reference2Ideal.Read.val_main_v47 (F := Ideal) x c g Wg Wu Wd gl i =
      lastRow x c g Wg Wu Wd gl ⟨(i 0).val / 2048, by have : (i 0).val < 32768 := (i 0).isLt; omega⟩ ⟨(i 0).val % 2048, Nat.mod_lt _ (by decide)⟩ ⟨(i 1).val, (i 1).isLt⟩ := by
  unfold Cert.Reference2Ideal.Read.val_main_v47
  obtain ⟨R, j, rfl⟩ : ∃ (R : Fin 32768) (j : Fin 1024), i = ix2 R j := ⟨i 0, i 1, (ix2_eta i).symm⟩
  refine (shapeCast_apply _ _ _ (ix3 (⟨R.val / 2048, by omega⟩ : Fin 16) (⟨R.val % 2048, by omega⟩ : Fin 2048) j) ?_).trans
    (Cert.Reference2Ideal.Spec.v46_apply x c g Wg Wu Wd gl _ _ j)
  rw [rowMajor_val3 _ 2097152 1024 rfl rfl, rowMajor_val2 _ 1024 rfl]
  show R.val / 2048 * 2097152 + R.val % 2048 * 1024 + j.val = R.val * 1024 + j.val
  omega

theorem algebraic : @Cert.algebraic_Kernel2Ideal_Reference2Ideal Cert.Kernel2Ideal.Gen.facts Cert.Reference2Ideal.Gen.facts := by
  intro m g m' g' hpre hag
  refine ⟨fun c => both m c, ?_, ?_⟩
  · exact (θ_run Cert.Kernel2Ideal.defs _ _).mono (fun r h c => ⟨(h c).1.trans (arr_eq m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1, e2, e3, e4, e5, e6⟩ := hag c
    rw [Cert.Reference2Ideal.Read.val_main_v47_eq, e0, e1, e2, e3, e4, e5, e6]
    exact funext (ref_eq (argX m c) (argC m c) (argG m c) (argWg m c) (argWu m c) (argWd m c) (argL m c))

end Cert.Kernel2Ideal.Spec
-- ==== Proof.Parts.lean ====
/- The parts of a conditioning row, the columns of the gates, and the row after the branches' merge. -/
module

public import proofs.«01_k».proof.Proof.Rows

@[expose] public section

noncomputable section

namespace Cert.Rows

open Idealize.ShloMosaic

/-- The part `k` of a conditioning row. -/
def chunk (c : Fin 6144 → EReal) (k : Nat) (j : Fin 1024) : EReal := c ⟨(1024 * k + j.val) % 6144, Nat.mod_lt _ (by decide)⟩

theorem chunk_at (c : Fin 6144 → EReal) (k : Nat) (j : Fin 1024) (n : Nat) (h : n < 6144) (e : n = 1024 * k + j.val) : c ⟨n, h⟩ = chunk c k j := by
  subst e
  unfold chunk
  simp only [Nat.mod_eq_of_lt h]

/-- The entry `f` of the gate `b` in a row of the projection's columns. -/
def gateCol (w : Fin 7184 → EReal) (b : Nat) (f : Fin 1024) : EReal := w ⟨(4112 + 1024 * b + f.val) % 7184, Nat.mod_lt _ (by decide)⟩

theorem gateCol_at (w : Fin 7184 → EReal) (b : Nat) (f : Fin 1024) (n : Nat) (h : n < 7184) (e : n = 4112 + 1024 * b + f.val) : w ⟨n, h⟩ = gateCol w b f := by
  subst e
  unfold gateCol
  simp only [Nat.mod_eq_of_lt h]

/-- A branch's row, projected and gated. -/
def branched (h : Fin 1024 → EReal) (Wg : Fin 1024 → Fin 1024 → EReal) (y : Fin 512 → EReal) (Wb : Fin 512 → Fin 1024 → EReal) (j : Fin 1024) : EReal :=
  Ideal.logistic (rowMul h Wg j) * rowMul y Wb j

/-- The row after the three branches are merged, projected and added. -/
def merged (x g sh sc gate : Fin 1024 → EReal) (W0 W1 W2 : Fin 1024 → Fin 1024 → EReal) (y0 y1 y2 : Fin 512 → EReal)
    (B0 B1 B2 : Fin 512 → Fin 1024 → EReal) (Wo : Fin 1024 → Fin 1024 → EReal) (j : Fin 1024) : EReal :=
  x j + gate j * rowMul (fun k => branched (modded x g sh sc) W0 y0 B0 k + branched (modded x g sh sc) W1 y1 B1 k + branched (modded x g sh sc) W2 y2 B2 k) Wo j

theorem merged_congr {x x' g g' sh sh' sc sc' gate gate' : Fin 1024 → EReal} {W0 W0' W1 W1' W2 W2' : Fin 1024 → Fin 1024 → EReal}
    {y0 y0' y1 y1' y2 y2' : Fin 512 → EReal} {B0 B0' B1 B1' B2 B2' : Fin 512 → Fin 1024 → EReal} {Wo Wo' : Fin 1024 → Fin 1024 → EReal}
    (ex : ∀ j, x j = x' j) (eg : ∀ j, g j = g' j) (esh : ∀ j, sh j = sh' j) (esc : ∀ j, sc j = sc' j) (et : ∀ j, gate j = gate' j)
    (e0 : ∀ k j, W0 k j = W0' k j) (e1 : ∀ k j, W1 k j = W1' k j) (e2 : ∀ k j, W2 k j = W2' k j)
    (f0 : ∀ j, y0 j = y0' j) (f1 : ∀ j, y1 j = y1' j) (f2 : ∀ j, y2 j = y2' j)
    (b0 : ∀ k j, B0 k j = B0' k j) (b1 : ∀ k j, B1 k j = B1' k j) (b2 : ∀ k j, B2 k j = B2' k j) (eo : ∀ k j, Wo k j = Wo' k j) (j : Fin 1024) :
    merged x g sh sc gate W0 W1 W2 y0 y1 y2 B0 B1 B2 Wo j = merged x' g' sh' sc' gate' W0' W1' W2' y0' y1' y2' B0' B1' B2' Wo' j := by
  obtain rfl := funext ex; obtain rfl := funext eg; obtain rfl := funext esh; obtain rfl := funext esc; obtain rfl := funext et
  obtain rfl := funext fun k => funext (e0 k); obtain rfl := funext fun k => funext (e1 k); obtain rfl := funext fun k => funext (e2 k)
  obtain rfl := funext f0; obtain rfl := funext f1; obtain rfl := funext f2
  obtain rfl := funext fun k => funext (b0 k); obtain rfl := funext fun k => funext (b1 k); obtain rfl := funext fun k => funext (b2 k)
  obtain rfl := funext fun k => funext (eo k)
  rfl

end Cert.Rows
-- ==== Proof.MergeBlock.lean ====
/- What the merge call's body leaves in its result's block, at an index. -/
module

public import proofs.«01_k».proof.Proof.Parts
public import proofs.«01_k».proof.Proof.Gen.Kernel3Ideal.Value

@[expose] public section

set_option maxRecDepth 16384

noncomputable section

namespace Cert.Kernel3Ideal.Spec

open Cert.Kernel3Ideal Cert.Kernel3Ideal.Gen
open Idealize.ShloMosaic Idealize.ShloMosaic.TcCoe
open Cert.Rows

theorem pay2_apply (x : Vec Ideal S512x1024 .f32) (g : Vec Ideal S1x1024 .f32) (sh sc : Vec Ideal S1x1x1024 .f32) (r : Fin 512) (j : Fin 1024) :
    (k0_pay2 x g sh sc : FVec Ideal S512x1024 .bf16) (ix2 r j) =
      modded (fun k => x (ix2 r k)) (fun k => g (ix2 (n0 := 1) 0 k)) (fun k => sh (ix3 (n0 := 1) (n1 := 1) 0 0 k)) (fun k => sc (ix3 (n0 := 1) (n1 := 1) 0 0 k)) j := by
  pointwise [k0_pay2, k0_pay1, modded, normed, scaleOf]

theorem pay3_apply (x : Vec Ideal S512x1024 .f32) (g : Vec Ideal S1x1024 .f32) (sh sc : Vec Ideal S1x1x1024 .f32) (W : Vec Ideal S1024x1024 .bf16)
    (r : Fin 512) (j : Fin 1024) :
    (k0_pay3 x g sh sc W : FVec Ideal S512x1024 .f32) (ix2 r j) =
      Ideal.logistic (rowMul (fun k => (k0_pay2 x g sh sc : FVec Ideal S512x1024 .bf16) (ix2 r k)) (fun k f => W (ix2 k f)) j) := by
  have e0 : Ideal.ofBits .f32 0x00000000#32 = 0 := by simp [Ideal.ofBits, Ideal.ieee]
  unfold k0_pay3
  generalize (k0_pay2 x g sh sc : FVec Ideal S512x1024 .bf16) = h
  pointwise [rowMul, e0]

theorem pay4_apply (y : Vec Ideal S512x512 .bf16) (B : Vec Ideal S1x512x1024 .bf16) (r : Fin 512) (j : Fin 1024) :
    (k0_pay4 y B : FVec Ideal S512x1024 .f32) (ix2 r j) = rowMul (fun k => y (ix2 r k)) (fun k f => B (ix3 (n0 := 1) 0 k f)) j := by
  have e0 : Ideal.ofBits .f32 0x00000000#32 = 0 := by simp [Ideal.ofBits, Ideal.ieee]
  pointwise [k0_pay4, rowMul, e0]

theorem pay5_apply (x : FVec Ideal S512x1024 .f32) (h : FVec Ideal S512x1024 .bf16) (s0 p0 : FVec Ideal S512x1024 .f32) (W1 : Vec Ideal S1024x1024 .bf16)
    (y1 : Vec Ideal S512x512 .bf16) (B1 : Vec Ideal S1x512x1024 .bf16) (W2 : Vec Ideal S1024x1024 .bf16) (y2 : Vec Ideal S512x512 .bf16)
    (B2 : Vec Ideal S1x512x1024 .bf16) (Wo : Vec Ideal S1024x1024 .bf16) (gt : Vec Ideal S1x1x1024 .f32) (r : Fin 512) (j : Fin 1024) :
    (k0_pay5 x h s0 p0 W1 y1 B1 W2 y2 B2 Wo gt : FVec Ideal S512x1024 .f32) (ix2 r j) =
      x (ix2 r j) + gt (ix3 (n0 := 1) (n1 := 1) 0 0 j) * rowMul (fun k => s0 (ix2 r k) * p0 (ix2 r k)
        + branched (fun k => h (ix2 r k)) (fun k f => W1 (ix2 k f)) (fun k => y1 (ix2 r k)) (fun k f => B1 (ix3 (n0 := 1) 0 k f)) k
        + branched (fun k => h (ix2 r k)) (fun k f => W2 (ix2 k f)) (fun k => y2 (ix2 r k)) (fun k f => B2 (ix3 (n0 := 1) 0 k f)) k) (fun k f => Wo (ix2 k f)) j := by
  have e0 : Ideal.ofBits .f32 0x00000000#32 = 0 := by simp [Ideal.ofBits, Ideal.ieee]
  pointwise [k0_pay5, branched, rowMul, e0]

/-- The five payloads one after the other, at an index. -/
theorem pays_apply (x : Vec Ideal S512x1024 .f32) (g : Vec Ideal S1x1024 .f32) (sh sc gt : Vec Ideal S1x1x1024 .f32) (W0 W1 W2 Wo : Vec Ideal S1024x1024 .bf16)
    (y0 y1 y2 : Vec Ideal S512x512 .bf16) (B0 B1 B2 : Vec Ideal S1x512x1024 .bf16) (r : Fin 512) (j : Fin 1024) :
    (k0_pay5 (k0_pay1 x) (k0_pay2 x g sh sc) (k0_pay3 x g sh sc W0) (k0_pay4 y0 B0) W1 y1 B1 W2 y2 B2 Wo gt : FVec Ideal S512x1024 .f32) (ix2 r j) =
      merged (fun k => x (ix2 r k)) (fun k => g (ix2 (n0 := 1) 0 k)) (fun k => sh (ix3 (n0 := 1) (n1 := 1) 0 0 k)) (fun k => sc (ix3 (n0 := 1) (n1 := 1) 0 0 k))
        (fun k => gt (ix3 (n0 := 1) (n1 := 1) 0 0 k)) (fun k f => W0 (ix2 k f)) (fun k f => W1 (ix2 k f)) (fun k f => W2 (ix2 k f))
        (fun k => y0 (ix2 r k)) (fun k => y1 (ix2 r k)) (fun k => y2 (ix2 r k)) (fun k f => B0 (ix3 (n0 := 1) 0 k f)) (fun k f => B1 (ix3 (n0 := 1) 0 k f))
        (fun k f => B2 (ix3 (n0 := 1) 0 k f)) (fun k f => Wo (ix2 k f)) j := by
  have e1 : (k0_pay1 x : FVec Ideal S512x1024 .f32) (ix2 r j) = x (ix2 r j) := by pointwise [k0_pay1]
  rw [pay5_apply, e1]
  simp only [pay3_apply, pay4_apply, pay2_apply]
  rfl

end Cert.Kernel3Ideal.Spec
-- ==== Proof.MergeRef.lean ====
/- The reference of the branches' merge, read at an index. -/
module

public import proofs.«01_k».proof.Proof.Parts
public import proofs.«01_k».proof.Proof.Gen.Reference3Ideal.Read

@[expose] public section

set_option maxRecDepth 16384

noncomputable section

namespace Cert.Reference3Ideal.Spec

open Cert.Reference3Ideal Cert.Reference3Ideal.Read
open Idealize.ShloMosaic Idealize.ShloMosaic.TcCoe
open Cert.Rows

variable (x : FVec Ideal S16x2048x1024 .f32) (c : FVec Ideal S16x6144 .f32) (g : FVec Ideal S1024 .f32) (W : FVec Ideal S1024x7184 .f32)
  (y0 y1 y2 : FVec Ideal S16x2048x512 .f32) (B0 B1 B2 : FVec Ideal S512x1024 .f32) (Wo : FVec Ideal S1024x1024 .f32)

/-- A row of the modulated norm. -/
abbrev rowH (b : Fin 16) (r : Fin 2048) : Fin 1024 → EReal :=
  modded (fun k => x (ix3 b r k)) (fun k => g (ix1 k)) (chunk (fun n => c (ix2 b n)) 0) (chunk (fun n => c (ix2 b n)) 1)

theorem v25_apply (b : Fin 16) (r : Fin 2048) (j : Fin 1024) : val_main_v25 (F := Ideal) x c g (ix3 b r j) = rowH x c g b r j := by
  pointwise [val_main_v25, val_main_v24, val_main_v23, val_main_v22, val_main_v21, val_main_v20, val_main_cst_2, val_main_v19, val_main_v18, val_main_v17,
    val_main_v16, val_main_v15, val_main_v14, val_main_v13, val_main_v12, val_main_cst_1, val_main_v11, val_main_v10, val_main_cst_0, val_main_v9, val_main_v8,
    val_main_cst, val_main_v7, val_main_v2, val_main_v1, val_main_v0, modded, normed, scaleOf]
  rw [chunk_at (fun n => c (ix2 b n)) 1 j _ _ rfl, chunk_at (fun n => c (ix2 b n)) 0 j _ _ (by omega)]

/-- A gate's matrix: columns of the whole projection. -/
abbrev gateW (p : Nat) (k f : Fin 1024) : EReal := gateCol (fun n => W (ix2 k n)) p f

theorem v37_apply (b : Fin 16) (r : Fin 2048) (j : Fin 1024) :
    val_main_v37 (F := Ideal) x c g W (ix3 b r j) = rowMul (rowH x c g b r) (gateW W 0) j := by
  have e : ∀ j, val_main_v25 (F := Ideal) x c g (ix3 b r j) = _ := v25_apply x c g b r
  pointwise [val_main_v37, val_main_v26, rowMul, e]
  exact Finset.sum_congr rfl fun k _ => congrArg _ (gateCol_at (fun n => W (ix2 k n)) 0 j _ _ (by omega))

theorem v38_apply (b : Fin 16) (r : Fin 2048) (j : Fin 1024) :
    val_main_v38 (F := Ideal) x c g W (ix3 b r j) = rowMul (rowH x c g b r) (gateW W 1) j := by
  have e : ∀ j, val_main_v25 (F := Ideal) x c g (ix3 b r j) = _ := v25_apply x c g b r
  pointwise [val_main_v38, val_main_v26, rowMul, e]
  exact Finset.sum_congr rfl fun k _ => congrArg _ (gateCol_at (fun n => W (ix2 k n)) 1 j _ _ (by omega))

theorem v39_apply (b : Fin 16) (r : Fin 2048) (j : Fin 1024) :
    val_main_v39 (F := Ideal) x c g W (ix3 b r j) = rowMul (rowH x c g b r) (gateW W 2) j := by
  have e : ∀ j, val_main_v25 (F := Ideal) x c g (ix3 b r j) = _ := v25_apply x c g b r
  pointwise [val_main_v39, val_main_v26, rowMul, e]
  exact Finset.sum_congr rfl fun k _ => congrArg _ (gateCol_at (fun n => W (ix2 k n)) 2 j _ _ (by omega))

theorem v47_apply (b : Fin 16) (r : Fin 2048) (j : Fin 1024) :
    val_main_v47 (F := Ideal) x c g W y0 B0 (ix3 b r j) =
      branched (rowH x c g b r) (gateW W 0) (fun k => y0 (ix3 b r k)) (fun k f => B0 (ix2 k f)) j := by
  have e := v37_apply x c g W b r j
  pointwise [val_main_v47, val_main_v46, val_main_v45, val_main_v44, val_main_cst_4, val_main_v43, val_main_v42, val_main_cst_3, val_main_v41, val_main_v40,
    branched, Ideal.logistic, e]
  rfl

theorem v55_apply (b : Fin 16) (r : Fin 2048) (j : Fin 1024) :
    val_main_v55 (F := Ideal) x c g W y1 B1 (ix3 b r j) =
      branched (rowH x c g b r) (gateW W 1) (fun k => y1 (ix3 b r k)) (fun k f => B1 (ix2 k f)) j := by
  have e := v38_apply x c g W b r j
  pointwise [val_main_v55, val_main_v54, val_main_v53, val_main_v52, val_main_cst_6, val_main_v51, val_main_v50, val_main_cst_5, val_main_v49, val_main_v48,
    branched, Ideal.logistic, e]
  rfl

theorem v64_apply (b : Fin 16) (r : Fin 2048) (j : Fin 1024) :
    val_main_v64 (F := Ideal) x c g W y2 B2 (ix3 b r j) =
      branched (rowH x c g b r) (gateW W 2) (fun k => y2 (ix3 b r k)) (fun k f => B2 (ix2 k f)) j := by
  have e := v39_apply x c g W b r j
  pointwise [val_main_v64, val_main_v63, val_main_v62, val_main_v61, val_main_cst_8, val_main_v60, val_main_v59, val_main_cst_7, val_main_v58, val_main_v57,
    branched, Ideal.logistic, e]
  rfl

/-- The row that the merge makes of row `r` of the batch `b`. -/
def mergedRow (b : Fin 16) (r : Fin 2048) (j : Fin 1024) : EReal :=
  merged (fun k => x (ix3 b r k)) (fun k => g (ix1 k)) (chunk (fun n => c (ix2 b n)) 0) (chunk (fun n => c (ix2 b n)) 1) (chunk (fun n => c (ix2 b n)) 2)
    (gateW W 0) (gateW W 1) (gateW W 2) (fun k => y0 (ix3 b r k)) (fun k => y1 (ix3 b r k)) (fun k => y2 (ix3 b r k))
    (fun k f => B0 (ix2 k f)) (fun k f => B1 (ix2 k f)) (fun k f => B2 (ix2 k f)) (fun k f => Wo (ix2 k f)) j

theorem v69_apply (b : Fin 16) (r : Fin 2048) (j : Fin 1024) :
    val_main_v69 (F := Ideal) x c g W y0 y1 y2 B0 B1 B2 Wo (ix3 b r j) = mergedRow x c g W y0 y1 y2 B0 B1 B2 Wo b r j := by
  have e0 : ∀ j, val_main_v47 (F := Ideal) x c g W y0 B0 (ix3 b r j) = _ := v47_apply x c g W y0 B0 b r
  have e1 : ∀ j, val_main_v55 (F := Ideal) x c g W y1 B1 (ix3 b r j) = _ := v55_apply x c g W y1 B1 b r
  have e2 : ∀ j, val_main_v64 (F := Ideal) x c g W y2 B2 (ix3 b r j) = _ := v64_apply x c g W y2 B2 b r
  unfold mergedRow merged
  rw [← chunk_at (fun n => c (ix2 b n)) 2 j (2048 + j.val) (by omega) (by omega)]
  pointwise [val_main_v69, val_main_v68, val_main_v67, val_main_v66, val_main_v65, val_main_v56, val_main_v3, val_main_v0, rowMul, e0, e1, e2]

end Cert.Reference3Ideal.Spec
-- ==== Proof.MergeArray.lean ====
/- The merge call's result array, at every index, from the arguments. -/
module

public import proofs.«01_k».proof.Proof.MergeBlock
public import proofs.«01_k».proof.Proof.MergeRef
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel3Ideal.Spec

open Cert.Kernel3Ideal Cert.Kernel3Ideal.Gen
open Idealize.ShloMosaic Idealize.ShloMosaic.TcCoe Idealize.ShloMosaic.Tactic
open Idealize.SL Idealize.SL.Sem
open Cert.Rows
open Cert.Reference3Ideal.Spec (mergedRow gateW)

variable (m : (ℓ : Loc nD τ sig) → Buf (Elt Ideal) ℓ)

/-- The arguments as device `c` holds them. -/
def argX (c : Dev nD) : FVec Ideal S16x2048x1024 .f32 := m ((c.tc : Thread nD τ).loc main_arg0)
def argC (c : Dev nD) : FVec Ideal S16x6144 .f32 := m ((c.tc : Thread nD τ).loc main_arg1)
def argG (c : Dev nD) : FVec Ideal S1024 .f32 := m ((c.tc : Thread nD τ).loc main_arg2)
def argW (c : Dev nD) : FVec Ideal S1024x7184 .f32 := m ((c.tc : Thread nD τ).loc main_arg3)
def argY0 (c : Dev nD) : FVec Ideal S16x2048x512 .f32 := m ((c.tc : Thread nD τ).loc main_arg4)
def argY1 (c : Dev nD) : FVec Ideal S16x2048x512 .f32 := m ((c.tc : Thread nD τ).loc main_arg5)
def argY2 (c : Dev nD) : FVec Ideal S16x2048x512 .f32 := m ((c.tc : Thread nD τ).loc main_arg6)
def argB0 (c : Dev nD) : FVec Ideal S512x1024 .f32 := m ((c.tc : Thread nD τ).loc main_arg7)
def argB1 (c : Dev nD) : FVec Ideal S512x1024 .f32 := m ((c.tc : Thread nD τ).loc main_arg8)
def argB2 (c : Dev nD) : FVec Ideal S512x1024 .f32 := m ((c.tc : Thread nD τ).loc main_arg9)
def argO (c : Dev nD) : FVec Ideal S1024x1024 .f32 := m ((c.tc : Thread nD τ).loc main_arg10)

/-- The three gates' columns side by side. -/
def gatesOf (W : FVec Ideal S1024x7184 .f32) : FVec Ideal S1024x3072 .f32 :=
  concatenate S1024x3072 1 [⟨S1024x1024, extractStridedSlice S1024x1024 ![0, 4112] W slices_S1024x7184_S1024x1024_0_4112⟩,
    ⟨S1024x1024, extractStridedSlice S1024x1024 ![0, 5136] W slices_S1024x7184_S1024x1024_0_5136⟩,
    ⟨S1024x1024, extractStridedSlice S1024x1024 ![0, 6160] W slices_S1024x7184_S1024x1024_0_6160⟩] concatenates_S1024x1024_S1024x1024_S1024x1024_S1024x3072_d1

/-- The three branches' matrices stacked. -/
def stackOf (B0 B1 B2 : FVec Ideal S512x1024 .f32) : FVec Ideal S3x512x1024 .f32 :=
  concatenate S3x512x1024 0 [⟨S1x512x1024, broadcastInDim S1x512x1024 ![1, 2] bcast_S512x1024_S1x512x1024_1_2 B0⟩,
    ⟨S1x512x1024, broadcastInDim S1x512x1024 ![1, 2] bcast_S512x1024_S1x512x1024_1_2 B1⟩,
    ⟨S1x512x1024, broadcastInDim S1x512x1024 ![1, 2] bcast_S512x1024_S1x512x1024_1_2 B2⟩] concatenates_S1x512x1024_S1x512x1024_S1x512x1024_S3x512x1024_d0

theorem cat3 {t s : Shape} (a : Fin t.rank) {x x' y y' z z' : s.Idx → EReal} (ex : x = x') (ey : y = y') (ez : z = z') (h : Shape.Concatenates [s, s, s] t a) :
    (concatenate t a [⟨s, x⟩, ⟨s, y⟩, ⟨s, z⟩] h : t.Idx → EReal) = concatenate t a [⟨s, x'⟩, ⟨s, y'⟩, ⟨s, z'⟩] h := by
  subst ex ey ez
  rfl

theorem V10_eq (c : Dev nD) : V m c main_v10 = (shapeCast S32768x1024 (argX m c) shapeCasts_S16x2048x1024_S32768x1024 : FVec Ideal S32768x1024 .f32) := by
  entry_read
  rfl
theorem V11_eq (c : Dev nD) : V m c main_v11 = (shapeCast S16x6x1024 (argC m c) shapeCasts_S16x6144_S16x6x1024 : FVec Ideal S16x6x1024 .f32) := by
  entry_read
  rfl
theorem V12_eq (c : Dev nD) : V m c main_v12 = (shapeCast S1x1024 (argG m c) shapeCasts_S1024_S1x1024 : FVec Ideal S1x1024 .f32) := by
  entry_read
  rfl
theorem V14_eq (c : Dev nD) : V m c main_v14 = (truncf .bf16 (shapeCast S32768x512 (argY0 m c) shapeCasts_S16x2048x512_S32768x512 : FVec Ideal S32768x512 .f32) bitsLt_bf16_f32 : FVec Ideal S32768x512 .bf16) := by
  entry_read
  rfl
theorem V16_eq (c : Dev nD) : V m c main_v16 = (truncf .bf16 (shapeCast S32768x512 (argY1 m c) shapeCasts_S16x2048x512_S32768x512 : FVec Ideal S32768x512 .f32) bitsLt_bf16_f32 : FVec Ideal S32768x512 .bf16) := by
  entry_read
  rfl
theorem V18_eq (c : Dev nD) : V m c main_v18 = (truncf .bf16 (shapeCast S32768x512 (argY2 m c) shapeCasts_S16x2048x512_S32768x512 : FVec Ideal S32768x512 .f32) bitsLt_bf16_f32 : FVec Ideal S32768x512 .bf16) := by
  entry_read
  rfl
theorem V4_eq (c : Dev nD) : V m c main_v4 = (truncf .bf16 (gatesOf (argW m c)) bitsLt_bf16_f32 : FVec Ideal S1024x3072 .bf16) := by
  unfold V hostOps0
  simp only [StableHlo.after_cons, StableHlo.after_nil, List.flatten_cons, List.flatten_nil, List.append_nil, List.cons_append, List.nil_append]
  iterate 15 refine (HloOp.result_of_not_mem _ _ (by simp only [StableHlo.unary_writes, StableHlo.reshape_writes, StableHlo.nary_writes, Finset.mem_singleton]; exact StableHlo.devRef_ne_of_ne (by decide))).trans ?_
  refine (StableHlo.unary_result _ _ _ _ _ _).trans ?_
  refine congrArg (fun z : FVec Ideal S1024x3072 .f32 => (truncf .bf16 z bitsLt_bf16_f32 : FVec Ideal S1024x3072 .bf16)) ?_
  refine (StableHlo.nary_result _ _ _ _ _ _).trans ?_
  refine cat3 (t := S1024x3072) (s := S1024x1024) 1 ?_ ?_ ?_ concatenates_S1024x1024_S1024x1024_S1024x1024_S1024x3072_d1
  · iterate 2 refine (HloOp.result_of_not_mem _ _ (by simp only [StableHlo.unary_writes, StableHlo.reshape_writes, StableHlo.nary_writes, Finset.mem_singleton]; exact StableHlo.devRef_ne_of_ne (by decide))).trans ?_
    exact StableHlo.unary_result _ _ _ _ _ _
  · iterate 1 refine (HloOp.result_of_not_mem _ _ (by simp only [StableHlo.unary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x1024 ![0, 5136] W slices_S1024x7184_S1024x1024_0_5136) ?_
    exact HloOp.result_of_not_mem _ _ (by simp only [StableHlo.unary_writes, Finset.mem_singleton]; exact StableHlo.devRef_ne_of_ne (by decide))
  · refine (StableHlo.unary_result _ _ _ _ _ _).trans ?_
    refine congrArg (fun W : FVec Ideal S1024x7184 .f32 => extractStridedSlice S1024x1024 ![0, 6160] W slices_S1024x7184_S1024x1024_0_6160) ?_
    iterate 2 refine (HloOp.result_of_not_mem _ _ (by simp only [StableHlo.unary_writes, StableHlo.reshape_writes, StableHlo.nary_writes, Finset.mem_singleton]; exact StableHlo.devRef_ne_of_ne (by decide))).trans ?_
    rfl

theorem V9_eq (c : Dev nD) : V m c main_v9 = (truncf .bf16 (stackOf (argB0 m c) (argB1 m c) (argB2 m c)) bitsLt_bf16_f32 : FVec Ideal S3x512x1024 .bf16) := by
  unfold V hostOps0
  simp only [StableHlo.after_cons, StableHlo.after_nil, List.flatten_cons, List.flatten_nil, List.append_nil, List.cons_append, List.nil_append]
  iterate 10 refine (HloOp.result_of_not_mem _ _ (by simp only [StableHlo.unary_writes, StableHlo.reshape_writes, StableHlo.nary_writes, Finset.mem_singleton]; exact StableHlo.devRef_ne_of_ne (by decide))).trans ?_
  refine (StableHlo.unary_result _ _ _ _ _ _).trans ?_
  refine congrArg (fun z : FVec Ideal S3x512x1024 .f32 => (truncf .bf16 z bitsLt_bf16_f32 : FVec Ideal S3x512x1024 .bf16)) ?_
  refine (StableHlo.nary_result _ _ _ _ _ _).trans ?_
  refine cat3 (t := S3x512x1024) (s := S1x512x1024) 0 ?_ ?_ ?_ concatenates_S1x512x1024_S1x512x1024_S1x512x1024_S3x512x1024_d0
  · iterate 2 refine (HloOp.result_of_not_mem _ _ (by simp only [StableHlo.unary_writes, StableHlo.reshape_writes, StableHlo.nary_writes, Finset.mem_singleton]; exact StableHlo.devRef_ne_of_ne (by decide))).trans ?_
    refine (StableHlo.unary_result _ _ _ _ _ _).trans ?_
    refine congrArg (fun B : FVec Ideal S512x1024 .f32 => (broadcastInDim S1x512x1024 ![1, 2] bcast_S512x1024_S1x512x1024_1_2 B : FVec Ideal S1x512x1024 .f32)) ?_
    iterate 5 refine (HloOp.result_of_not_mem _ _ (by simp only [StableHlo.unary_writes, StableHlo.reshape_writes, StableHlo.nary_writes, Finset.mem_singleton]; exact StableHlo.devRef_ne_of_ne (by decide))).trans ?_
    rfl
  · iterate 1 refine (HloOp.result_of_not_mem _ _ (by simp only [StableHlo.unary_writes, StableHlo.reshape_writes, StableHlo.nary_writes, Finset.mem_singleton]; exact StableHlo.devRef_ne_of_ne (by decide))).trans ?_
    refine (StableHlo.unary_result _ _ _ _ _ _).trans ?_
    refine congrArg (fun B : FVec Ideal S512x1024 .f32 => (broadcastInDim S1x512x1024 ![1, 2] bcast_S512x1024_S1x512x1024_1_2 B : FVec Ideal S1x512x1024 .f32)) ?_
    iterate 6 refine (HloOp.result_of_not_mem _ _ (by simp only [StableHlo.unary_writes, StableHlo.reshape_writes, StableHlo.nary_writes, Finset.mem_singleton]; exact StableHlo.devRef_ne_of_ne (by decide))).trans ?_
    rfl
  · refine (StableHlo.unary_result _ _ _ _ _ _).trans ?_
    refine congrArg (fun B : FVec Ideal S512x1024 .f32 => (broadcastInDim S1x512x1024 ![1, 2] bcast_S512x1024_S1x512x1024_1_2 B : FVec Ideal S1x512x1024 .f32)) ?_
    iterate 7 refine (HloOp.result_of_not_mem _ _ (by simp only [StableHlo.unary_writes, StableHlo.reshape_writes, StableHlo.nary_writes, Finset.mem_singleton]; exact StableHlo.devRef_ne_of_ne (by decide))).trans ?_
    rfl
theorem V19_eq (c : Dev nD) : V m c main_v19 = (truncf .bf16 (argO m c) bitsLt_bf16_f32 : FVec Ideal S1024x1024 .bf16) := by
  entry_read
  rfl

theorem gates0 (W : FVec Ideal S1024x7184 .f32) (k f : Fin 1024) : gatesOf W (ix2 k (⟨f.val, by omega⟩ : Fin 3072)) = gateW W 0 k f := by
  refine Eq.trans ?_ (gateCol_at (fun n => W (ix2 k n)) 0 f (4112 + f.val) (by omega) (by omega))
  pointwise [gatesOf]
theorem gates1 (W : FVec Ideal S1024x7184 .f32) (k f : Fin 1024) : gatesOf W (ix2 k (⟨1024 + f.val, by omega⟩ : Fin 3072)) = gateW W 1 k f := by
  refine Eq.trans ?_ (gateCol_at (fun n => W (ix2 k n)) 1 f (5136 + f.val) (by omega) (by omega))
  pointwise [gatesOf]
theorem gates2 (W : FVec Ideal S1024x7184 .f32) (k f : Fin 1024) : gatesOf W (ix2 k (⟨2048 + f.val, by omega⟩ : Fin 3072)) = gateW W 2 k f := by
  refine Eq.trans ?_ (gateCol_at (fun n => W (ix2 k n)) 2 f (6160 + f.val) (by omega) (by omega))
  pointwise [gatesOf]
  rw [dif_neg (by omega), dif_neg (by omega)]
  exact congrArg (fun n => W (ix2 k n)) (Fin.ext (by show 6160 + (2048 + f.val - 1024 - 1024) = 6160 + f.val; omega))

theorem stack0 (B0 B1 B2 : FVec Ideal S512x1024 .f32) (k : Fin 512) (f : Fin 1024) : stackOf B0 B1 B2 (ix3 (n0 := 3) 0 k f) = B0 (ix2 k f) := by
  pointwise [stackOf]
theorem stack1 (B0 B1 B2 : FVec Ideal S512x1024 .f32) (k : Fin 512) (f : Fin 1024) : stackOf B0 B1 B2 (ix3 (n0 := 3) 1 k f) = B1 (ix2 k f) := by
  pointwise [stackOf]
theorem stack2 (B0 B1 B2 : FVec Ideal S512x1024 .f32) (k : Fin 512) (f : Fin 1024) : stackOf B0 B1 B2 (ix3 (n0 := 3) 2 k f) = B2 (ix2 k f) := by
  pointwise [stackOf]

theorem idx_all : ∀ t : Fin grid0.N, win0_0.index t = ![(grid0.coords t 0).val, 0] ∧ win0_1.index t = ![(grid0.coords t 0).val / 4, 0, 0] ∧
    win0_2.index t = ![0, 0] ∧ win0_3.index t = ![(grid0.coords t 0).val, 0] ∧ win0_4.index t = ![(grid0.coords t 0).val, 0] ∧
    win0_5.index t = ![(grid0.coords t 0).val, 0] ∧ win0_6.index t = ![0, 0] ∧ win0_7.index t = ![0, 0, 0] ∧ win0_8.index t = ![0, 0] ∧
    win0_9.index t = ![(grid0.coords t 0).val, 0] := by
  decide +kernel

theorem lt64 (t : Fin cfg0.N) : (grid0.coords t 0).val < 64 := (grid0.coords t 0).isLt

/-- The batch of a point of the grid. -/
abbrev bOf (t : Fin cfg0.N) : Fin 16 := ⟨(grid0.coords t 0).val / 4, by have := lt64 t; omega⟩

/-- The row within the batch of row `r` of a point's block. -/
abbrev rOf (t : Fin cfg0.N) (r : Fin 512) : Fin 2048 := ⟨(grid0.coords t 0).val % 4 * 512 + r.val, by omega⟩

theorem blk0 (c : Dev nD) (t : Fin cfg0.N) (r : Fin 512) (k : Fin 1024) :
    (iblk m c 0 t : Vec Ideal S512x1024 .f32) (ix2 r k) = argX m c (ix3 (bOf t) (rOf t r) k) := by
  have := lt64 t
  have e : (iblk m c 0 t : Vec Ideal S512x1024 .f32) (ix2 r k) = (V m c main_v10 : FVec Ideal S32768x1024 .f32)
      (ix2 (⟨(grid0.coords t 0).val * 512 + r.val, by omega⟩ : Fin 32768) k) := by
    blk_ext [iblk, (idx_all t).1]
  rw [e, V10_eq]
  refine shapeCast_apply _ _ _ _ ?_
  rw [rowMajor_val3 _ 2097152 1024 rfl rfl, rowMajor_val2 _ 1024 rfl]
  show (grid0.coords t 0).val / 4 * 2097152 + ((grid0.coords t 0).val % 4 * 512 + r.val) * 1024 + k.val = ((grid0.coords t 0).val * 512 + r.val) * 1024 + k.val
  omega

theorem blk1 (c : Dev nD) (t : Fin cfg0.N) (p : Fin 6) (k : Fin 1024) :
    (iblk m c 1 t : Vec Ideal S1x6x1024 .f32) (ix3 (n0 := 1) 0 p k) = chunk (fun n => argC m c (ix2 (bOf t) n)) p.val k := by
  have e : (iblk m c 1 t : Vec Ideal S1x6x1024 .f32) (ix3 (n0 := 1) 0 p k) = (V m c main_v11 : FVec Ideal S16x6x1024 .f32) (ix3 (bOf t) p k) := by
    blk_ext [iblk, (idx_all t).2.1]
  rw [e, V11_eq]
  refine (shapeCast_apply _ _ _ (ix2 (bOf t) (⟨1024 * p.val + k.val, by omega⟩ : Fin 6144)) ?_).trans
    (chunk_at (fun n => argC m c (ix2 (bOf t) n)) _ _ _ _ rfl)
  rw [rowMajor_val2 _ 6144 rfl, rowMajor_val3 _ 6144 1024 rfl rfl]
  show (bOf t).val * 6144 + (1024 * p.val + k.val) = (bOf t).val * 6144 + p.val * 1024 + k.val
  omega

theorem blk2 (c : Dev nD) (t : Fin cfg0.N) (k : Fin 1024) : (iblk m c 2 t : Vec Ideal S1x1024 .f32) (ix2 (n0 := 1) 0 k) = argG m c (ix1 k) := by
  have e : (iblk m c 2 t : Vec Ideal S1x1024 .f32) (ix2 (n0 := 1) 0 k) = (V m c main_v12 : FVec Ideal S1x1024 .f32) (ix2 (n0 := 1) 0 k) := by
    blk_ext [iblk, (idx_all t).2.2.1]
  rw [e, V12_eq]
  pointwise

/-- A branch's array of rows, at a point's row. -/
theorem rows_at (y : FVec Ideal S16x2048x512 .f32) (t : Fin cfg0.N) (r : Fin 512) (k : Fin 512) (h : (grid0.coords t 0).val * 512 + r.val < 32768) :
    (truncf .bf16 (shapeCast S32768x512 y shapeCasts_S16x2048x512_S32768x512 : FVec Ideal S32768x512 .f32) bitsLt_bf16_f32 : FVec Ideal S32768x512 .bf16)
      (ix2 (⟨(grid0.coords t 0).val * 512 + r.val, h⟩ : Fin 32768) k) = y (ix3 (bOf t) (rOf t r) k) := by
  refine (rfl : _ = (shapeCast S32768x512 y shapeCasts_S16x2048x512_S32768x512 : FVec Ideal S32768x512 .f32) (ix2 _ k)).trans ?_
  refine shapeCast_apply _ _ _ _ ?_
  rw [rowMajor_val3 _ 1048576 512 rfl rfl, rowMajor_val2 _ 512 rfl]
  show (grid0.coords t 0).val / 4 * 1048576 + ((grid0.coords t 0).val % 4 * 512 + r.val) * 512 + k.val = ((grid0.coords t 0).val * 512 + r.val) * 512 + k.val
  omega

theorem blk3 (c : Dev nD) (t : Fin cfg0.N) (r : Fin 512) (k : Fin 512) :
    (iblk m c 3 t : Vec Ideal S512x512 .bf16) (ix2 r k) = argY0 m c (ix3 (bOf t) (rOf t r) k) := by
  have := lt64 t
  have e : (iblk m c 3 t : Vec Ideal S512x512 .bf16) (ix2 r k) = (V m c main_v14 : FVec Ideal S32768x512 .bf16)
      (ix2 (⟨(grid0.coords t 0).val * 512 + r.val, by omega⟩ : Fin 32768) k) := by
    blk_ext [iblk, (idx_all t).2.2.2.1]
  rw [e, V14_eq]
  exact rows_at _ t r k _

theorem blk4 (c : Dev nD) (t : Fin cfg0.N) (r : Fin 512) (k : Fin 512) :
    (iblk m c 4 t : Vec Ideal S512x512 .bf16) (ix2 r k) = argY1 m c (ix3 (bOf t) (rOf t r) k) := by
  have := lt64 t
  have e : (iblk m c 4 t : Vec Ideal S512x512 .bf16) (ix2 r k) = (V m c main_v16 : FVec Ideal S32768x512 .bf16)
      (ix2 (⟨(grid0.coords t 0).val * 512 + r.val, by omega⟩ : Fin 32768) k) := by
    blk_ext [iblk, (idx_all t).2.2.2.2.1]
  rw [e, V16_eq]
  exact rows_at _ t r k _

theorem blk5 (c : Dev nD) (t : Fin cfg0.N) (r : Fin 512) (k : Fin 512) :
    (iblk m c 5 t : Vec Ideal S512x512 .bf16) (ix2 r k) = argY2 m c (ix3 (bOf t) (rOf t r) k) := by
  have := lt64 t
  have e : (iblk m c 5 t : Vec Ideal S512x512 .bf16) (ix2 r k) = (V m c main_v18 : FVec Ideal S32768x512 .bf16)
      (ix2 (⟨(grid0.coords t 0).val * 512 + r.val, by omega⟩ : Fin 32768) k) := by
    blk_ext [iblk, (idx_all t).2.2.2.2.2.1]
  rw [e, V18_eq]
  exact rows_at _ t r k _

theorem blk6 (c : Dev nD) (t : Fin cfg0.N) (k : Fin 1024) (f : Fin 3072) :
    (iblk m c 6 t : Vec Ideal S1024x3072 .bf16) (ix2 k f) = gatesOf (argW m c) (ix2 k f) := by
  have e : (iblk m c 6 t : Vec Ideal S1024x3072 .bf16) (ix2 k f) = (V m c main_v4 : FVec Ideal S1024x3072 .bf16) (ix2 k f) := by
    blk_ext [iblk, (idx_all t).2.2.2.2.2.2.1]
  rw [e, V4_eq]
  rfl

theorem blk7 (c : Dev nD) (t : Fin cfg0.N) (p : Fin 3) (k : Fin 512) (f : Fin 1024) :
    (iblk m c 7 t : Vec Ideal S3x512x1024 .bf16) (ix3 p k f) = stackOf (argB0 m c) (argB1 m c) (argB2 m c) (ix3 p k f) := by
  have e : (iblk m c 7 t : Vec Ideal S3x512x1024 .bf16) (ix3 p k f) = (V m c main_v9 : FVec Ideal S3x512x1024 .bf16) (ix3 p k f) := by
    blk_ext [iblk, (idx_all t).2.2.2.2.2.2.2.1]
  rw [e, V9_eq]
  rfl

theorem blk8 (c : Dev nD) (t : Fin cfg0.N) (k f : Fin 1024) :
    (iblk m c 8 t : Vec Ideal S1024x1024 .bf16) (ix2 k f) = argO m c (ix2 k f) := by
  have e : (iblk m c 8 t : Vec Ideal S1024x1024 .bf16) (ix2 k f) = (V m c main_v19 : FVec Ideal S1024x1024 .bf16) (ix2 k f) := by
    blk_ext [iblk, (idx_all t).2.2.2.2.2.2.2.2.1]
  rw [e, V19_eq]
  rfl

theorem zero2 : (![0, 0] : Fin 2 → Nat) = fun _ => 0 := funext fun a => by fin_cases a <;> rfl

/-- The row `n` of the conditioning's block, loaded by itself. -/
theorem ld_row (x1 : Vec Ideal S1x6x1024 .f32) (n : Nat) (h : n < 6) (inb : ∀ a, (![0, n, 0] : Fin 3 → Nat) a + (![1, 1, 1024] : Fin 3 → Nat) a ≤ S1x6x1024.size a) (k : Fin 1024) :
    (View.ld x1 (Rect.unit (s := S1x6x1024) ![0, n, 0] ![1, 1, 1024] inb) : Vec Ideal S1x1x1024 .f32) (ix3 (n0 := 1) (n1 := 1) 0 0 k) =
      x1 (ix3 (n0 := 1) 0 (⟨n, h⟩ : Fin 6) k) := by
  refine congrArg x1 (funext fun a => Fin.ext ?_)
  match a with
  | ⟨0, _⟩ => rfl
  | ⟨1, _⟩ => rfl
  | ⟨2, _⟩ => show 0 + 1 * k.val = k.val; omega

/-- A gate's columns, loaded by themselves. -/
theorem ld_cols (x6 : Vec Ideal S1024x3072 .bf16) (n : Nat) (h : n ≤ 2048) (inb : ∀ a, (![0, n] : Fin 2 → Nat) a + (![1024, 1024] : Fin 2 → Nat) a ≤ S1024x3072.size a) (k f : Fin 1024) :
    (View.ld x6 (Rect.unit (s := S1024x3072) ![0, n] ![1024, 1024] inb) : Vec Ideal S1024x1024 .bf16) (ix2 k f) = x6 (ix2 k (⟨n + f.val, by omega⟩ : Fin 3072)) := by
  refine congrArg x6 (funext fun a => Fin.ext ?_)
  match a with
  | ⟨0, _⟩ => show 0 + 1 * k.val = k.val; omega
  | ⟨1, _⟩ => show n + 1 * f.val = n + f.val; omega

/-- A branch's matrix, loaded by itself. -/
theorem ld_mat (x7 : Vec Ideal S3x512x1024 .bf16) (n : Nat) (h : n < 3) (inb : ∀ a, (![n, 0, 0] : Fin 3 → Nat) a + (![1, 512, 1024] : Fin 3 → Nat) a ≤ S3x512x1024.size a) (k : Fin 512) (f : Fin 1024) :
    (View.ld x7 (Rect.unit (s := S3x512x1024) ![n, 0, 0] ![1, 512, 1024] inb) : Vec Ideal S1x512x1024 .bf16) (ix3 (n0 := 1) 0 k f) = x7 (ix3 (⟨n, h⟩ : Fin 3) k f) := by
  refine congrArg x7 (funext fun a => Fin.ext ?_)
  match a with
  | ⟨0, _⟩ => rfl
  | ⟨1, _⟩ => show 0 + 1 * k.val = k.val; omega
  | ⟨2, _⟩ => show 0 + 1 * f.val = f.val; omega

/-- A point's block of the result, as rows. -/
theorem block_apply (c : Dev nD) (t : Fin cfg0.N) (r : Fin 512) (j : Fin 1024) :
    (out0_9 (iblk m c 0 t) (iblk m c 1 t) (iblk m c 2 t) (iblk m c 3 t) (iblk m c 4 t) (iblk m c 5 t) (iblk m c 6 t) (iblk m c 7 t) (iblk m c 8 t) : Vec Ideal S512x1024 .f32) (ix2 r j) =
      mergedRow (argX m c) (argC m c) (argG m c) (argW m c) (argY0 m c) (argY1 m c) (argY2 m c) (argB0 m c) (argB1 m c) (argB2 m c) (argO m c) (bOf t) (rOf t r) j := by
  unfold out0_9
  rw [View.canon_unit_zero (S := S512x1024) zero2]
  simp only [View.ld_unit_zero (S := S512x1024) zero2, View.ld_unit_zero (S := S1x1024) zero2, View.ld_unit_zero (S := S512x512) zero2,
    View.ld_unit_zero (S := S1024x1024) zero2]
  refine (pays_apply _ _ _ _ _ _ _ _ _ _ _ _ _ _ _ r j).trans ?_
  exact merged_congr (blk0 m c t r) (blk2 m c t)
    (fun k => (ld_row _ 0 (by decide) _ k).trans (blk1 m c t 0 k)) (fun k => (ld_row _ 1 (by decide) _ k).trans (blk1 m c t 1 k))
    (fun k => (ld_row _ 2 (by decide) _ k).trans (blk1 m c t 2 k))
    (fun k f => (ld_cols _ 0 (by decide) _ k f).trans ((blk6 m c t k _).trans ((congrArg _ (congrArg (ix2 k) (Fin.ext (Nat.zero_add _)))).trans (gates0 (argW m c) k f))))
    (fun k f => (ld_cols _ 1024 (by decide) _ k f).trans ((blk6 m c t k _).trans (gates1 (argW m c) k f)))
    (fun k f => (ld_cols _ 2048 (by decide) _ k f).trans ((blk6 m c t k _).trans (gates2 (argW m c) k f)))
    (blk3 m c t r) (blk4 m c t r) (blk5 m c t r)
    (fun k f => (ld_mat _ 0 (by decide) _ k f).trans ((blk7 m c t 0 k f).trans (stack0 _ _ _ k f)))
    (fun k f => (ld_mat _ 1 (by decide) _ k f).trans ((blk7 m c t 1 k f).trans (stack1 _ _ _ k f)))
    (fun k f => (ld_mat _ 2 (by decide) _ k f).trans ((blk7 m c t 2 k f).trans (stack2 _ _ _ k f)))
    (blk8 m c t) j

/-- The result array after the call. -/
theorem arr_eq (c : Dev nD) :
    ((dats m 0 c).arrAt 9 cfg0.N : Vec Ideal S32768x1024 .f32) = fun i : S32768x1024.Idx =>
      mergedRow (argX m c) (argC m c) (argG m c) (argW m c) (argY0 m c) (argY1 m c) (argY2 m c) (argB0 m c) (argB1 m c) (argB2 m c) (argO m c)
        ⟨(i 0).val / 2048, by have : (i 0).val < 32768 := (i 0).isLt; omega⟩ ⟨(i 0).val % 2048, Nat.mod_lt _ (by decide)⟩ ⟨(i 1).val, (i 1).isLt⟩ := by
  refine (dats m 0 c).arrAt_eq_of_covers 9 _ (by decide +kernel) fun t hf y => ?_
  blk_simp
  rw [after0_9]
  obtain ⟨r, j, rfl⟩ : ∃ (r : Fin 512) (j : Fin 1024), y = ix2 r j := ⟨y 0, y 1, (ix2_eta y).symm⟩
  refine (block_apply m c t r j).trans ?_
  have h0 : win0_9.index t 0 = (grid0.coords t 0).val := congrFun (idx_all t).2.2.2.2.2.2.2.2.2 0
  have h1 : win0_9.index t 1 = 0 := congrFun (idx_all t).2.2.2.2.2.2.2.2.2 1
  have := lt64 t
  have e0 : bOf t = ⟨(win0_9.index t 0 * 512 + r.val) / 2048, by omega⟩ := Fin.ext (by show (grid0.coords t 0).val / 4 = (win0_9.index t 0 * 512 + r.val) / 2048; omega)
  have e1 : rOf t r = ⟨(win0_9.index t 0 * 512 + r.val) % 2048, Nat.mod_lt _ (by decide)⟩ :=
    Fin.ext (by show (grid0.coords t 0).val % 4 * 512 + r.val = (win0_9.index t 0 * 512 + r.val) % 2048; omega)
  rw [e0, e1]
  refine congrArg (mergedRow _ _ _ _ _ _ _ _ _ _ _ _ _) (Fin.ext ?_)
  show j.val = win0_9.index t 1 * 1024 + j.val
  omega

end Cert.Kernel3Ideal.Spec
-- ==== Proof.MergeAgree.lean ====
/- The merge call and its reference end with the same result. -/
module

public import proofs.«01_k».proof.Defs
public import proofs.«01_k».proof.Proof.MergeArray
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run

@[expose] public section

set_option maxRecDepth 16384

noncomputable section

namespace Cert.Kernel3Ideal.Spec

open Idealize.ShloMosaic Idealize.ShloMosaic.TcCoe Idealize.SL.Sem
open Cert.Reference3Ideal.Spec (mergedRow)

theorem frame_reference : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run (F := Ideal) m ρ)

/-- The result that both end with. -/
def both (m : (ℓ : Loc Cert.Kernel3Ideal.nD Cert.Kernel3Ideal.τ Cert.Kernel3Ideal.sig) → Buf (Elt Ideal) ℓ) (c : Dev Cert.Kernel3Ideal.nD) :
    FVec Ideal Cert.Kernel3Ideal.S32768x1024 .f32 := fun i =>
  mergedRow (argX m c) (argC m c) (argG m c) (argW m c) (argY0 m c) (argY1 m c) (argY2 m c) (argB0 m c) (argB1 m c) (argB2 m c) (argO m c)
    ⟨(i 0).val / 2048, by have : (i 0).val < 32768 := (i 0).isLt; omega⟩ ⟨(i 0).val % 2048, Nat.mod_lt _ (by decide)⟩ ⟨(i 1).val, (i 1).isLt⟩

theorem ref_eq (x : FVec Ideal Cert.Kernel3Ideal.S16x2048x1024 .f32) (c : FVec Ideal Cert.Kernel3Ideal.S16x6144 .f32) (g : FVec Ideal Cert.Kernel3Ideal.S1024 .f32)
    (W : FVec Ideal Cert.Kernel3Ideal.S1024x7184 .f32) (y0 y1 y2 : FVec Ideal Cert.Kernel3Ideal.S16x2048x512 .f32)
    (B0 B1 B2 : FVec Ideal Cert.Kernel3Ideal.S512x1024 .f32) (Wo : FVec Ideal Cert.Kernel3Ideal.S1024x1024 .f32) (i : Cert.Kernel3Ideal.S32768x1024.Idx) :
    Cert.Reference3Ideal.Read.val_main_v70 (F := Ideal) x c g W y0 y1 y2 B0 B1 B2 Wo i =
      mergedRow x c g W y0 y1 y2 B0 B1 B2 Wo ⟨(i 0).val / 2048, by have : (i 0).val < 32768 := (i 0).isLt; omega⟩ ⟨(i 0).val % 2048, Nat.mod_lt _ (by decide)⟩
        ⟨(i 1).val, (i 1).isLt⟩ := by
  unfold Cert.Reference3Ideal.Read.val_main_v70
  obtain ⟨R, j, rfl⟩ : ∃ (R : Fin 32768) (j : Fin 1024), i = ix2 R j := ⟨i 0, i 1, (ix2_eta i).symm⟩
  refine (shapeCast_apply _ _ _ (ix3 (⟨R.val / 2048, by omega⟩ : Fin 16) (⟨R.val % 2048, by omega⟩ : Fin 2048) j) ?_).trans
    (Cert.Reference3Ideal.Spec.v69_apply x c g W y0 y1 y2 B0 B1 B2 Wo _ _ j)
  rw [rowMajor_val3 _ 2097152 1024 rfl rfl, rowMajor_val2 _ 1024 rfl]
  show R.val / 2048 * 2097152 + R.val % 2048 * 1024 + j.val = R.val * 1024 + j.val
  omega

theorem algebraic : @Cert.algebraic_Kernel3Ideal_Reference3Ideal Cert.Kernel3Ideal.Gen.facts Cert.Reference3Ideal.Gen.facts := by
  intro m g m' g' hpre hag
  refine ⟨fun c => both m c, ?_, ?_⟩
  · exact (θ_run Cert.Kernel3Ideal.defs _ _).mono (fun r h c => ⟨(h c).1.trans (arr_eq m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨e0, e1, e2, e3, e4, e5, e6, e7, e8, e9, e10⟩ := hag c
    rw [Cert.Reference3Ideal.Read.val_main_v70_eq, e0, e1, e2, e3, e4, e5, e6, e7, e8, e9, e10]
    exact funext (ref_eq (argX m c) (argC m c) (argG m c) (argW m c) (argY0 m c) (argY1 m c) (argY2 m c) (argB0 m c) (argB1 m c) (argB2 m c) (argO m c))

end Cert.Kernel3Ideal.Spec
-- ==== Proof.InBlock.lean ====
/- What the in-projection's body leaves in its results' blocks, at an index. -/
module

public import proofs.«01_k».proof.Proof.Parts
public import proofs.«01_k».proof.Proof.Gen.Kernel4Ideal.Frame
public import Idealize.ShloMosaic.Lib.Pipeline.ValueKit

@[expose] public section

set_option maxRecDepth 16384

noncomputable section

namespace Cert.Kernel4Ideal.Spec

open Cert.Kernel4Ideal Cert.Kernel4Ideal.Gen
open Idealize.ShloMosaic Idealize.ShloMosaic.TcCoe
open Cert.Rows

/-- The norm of a block's row, with the row's own scale and shift. -/
theorem pay7_apply (x : Vec Ideal S256x1024 .f32) (g : Vec Ideal S1x1024 .f32) (sh sc : Vec Ideal S1x256x1024 .f32) (r : Fin 256) (j : Fin 1024) :
    (k0_pay7 x g sh sc : FVec Ideal S256x1024 .bf16) (ix2 r j) =
      modded (fun k => x (ix2 r k)) (fun k => g (ix2 (n0 := 1) 0 k)) (fun k => sh (ix3 (n0 := 1) 0 r k)) (fun k => sc (ix3 (n0 := 1) 0 r k)) j := by
  pointwise [k0_pay7, modded, normed, scaleOf]

theorem pay8_apply (x : Vec Ideal S256x1024 .f32) (g : Vec Ideal S1x1024 .f32) (sh sc : Vec Ideal S1x256x1024 .f32) (W : Vec Ideal S1024x512 .bf16)
    (r : Fin 256) (j : Fin 512) :
    (k0_pay2 (k0_pay8 x g sh sc W) : FVec Ideal S256x512 .bf16) (ix2 r j) =
      rowMul (fun k => (k0_pay7 x g sh sc : FVec Ideal S256x1024 .bf16) (ix2 r k)) (fun k f => W (ix2 k f)) j * Ideal.ofBits .f32 0x3E000000#32 := by
  have e0 : Ideal.ofBits .f32 0x00000000#32 = 0 := by simp [Ideal.ofBits, Ideal.ieee]
  unfold k0_pay8
  generalize (k0_pay7 x g sh sc : FVec Ideal S256x1024 .bf16) = h
  pointwise [k0_pay2, rowMul, e0]

theorem pay9_apply (x : Vec Ideal S256x1024 .f32) (g : Vec Ideal S1x1024 .f32) (sh sc : Vec Ideal S1x256x1024 .f32) (W : Vec Ideal S1024x512 .bf16)
    (r : Fin 256) (j : Fin 512) :
    (k0_pay9 x g sh sc W : FVec Ideal S256x512 .f32) (ix2 r j) =
      rowMul (fun k => (k0_pay7 x g sh sc : FVec Ideal S256x1024 .bf16) (ix2 r k)) (fun k f => W (ix2 k f)) j := by
  have e0 : Ideal.ofBits .f32 0x00000000#32 = 0 := by simp [Ideal.ofBits, Ideal.ieee]
  unfold k0_pay9
  generalize (k0_pay7 x g sh sc : FVec Ideal S256x1024 .bf16) = h
  pointwise [rowMul, e0]

theorem pay1_apply (h : FVec Ideal S256x1024 .bf16) (W : Vec Ideal S1024x512 .bf16) (r : Fin 256) (j : Fin 512) :
    (k0_pay1 h (k0_pay10 W) (constant S256x512 .f32 0x00000000#32) : FVec Ideal S256x512 .f32) (ix2 r j) =
      rowMul (fun k => h (ix2 r k)) (fun k f => W (ix2 k f)) j := by
  have e0 : Ideal.ofBits .f32 0x00000000#32 = 0 := by simp [Ideal.ofBits, Ideal.ieee]
  pointwise [k0_pay1, k0_pay10, rowMul, e0]

theorem pay5_apply (h : FVec Ideal S256x1024 .bf16) (W : Vec Ideal S1024x1024 .bf16) (r : Fin 256) (j : Fin 1024) :
    (k0_pay5 h W : FVec Ideal S256x1024 .f32) (ix2 r j) = rowMul (fun k => h (ix2 r k)) (fun k f => W (ix2 k f)) j := by
  have e0 : Ideal.ofBits .f32 0x00000000#32 = 0 := by simp [Ideal.ofBits, Ideal.ieee]
  pointwise [k0_pay5, rowMul, e0]

theorem pay6_apply (h : FVec Ideal S256x1024 .bf16) (W : Vec Ideal S1024x1664 .bf16) (r : Fin 256) (j : Fin 1664) :
    (k0_pay6 h W : FVec Ideal S256x1664 .f32) (ix2 r j) = rowMul (fun k => h (ix2 r k)) (fun k f => W (ix2 k f)) j := by
  have e0 : Ideal.ofBits .f32 0x00000000#32 = 0 := by simp [Ideal.ofBits, Ideal.ieee]
  pointwise [k0_pay6, rowMul, e0]

theorem zero2 : (![0, 0] : Fin 2 → Nat) = fun _ => 0 := funext fun a => by fin_cases a <;> rfl

/-- One part of the conditioning's block, loaded by itself. -/
theorem ld_part (x1 : Vec Ideal S6x256x1024 .f32) (n : Nat) (h : n < 6) (inb : ∀ a, (![n, 0, 0] : Fin 3 → Nat) a + (![1, 256, 1024] : Fin 3 → Nat) a ≤ S6x256x1024.size a)
    (r : Fin 256) (k : Fin 1024) :
    (View.ld x1 (Rect.unit (s := S6x256x1024) ![n, 0, 0] ![1, 256, 1024] inb) : Vec Ideal S1x256x1024 .f32) (ix3 (n0 := 1) 0 r k) =
      x1 (ix3 (⟨n, h⟩ : Fin 6) r k) := by
  refine congrArg x1 (funext fun a => Fin.ext ?_)
  match a with
  | ⟨0, _⟩ => rfl
  | ⟨1, _⟩ => show 0 + 1 * r.val = r.val; omega
  | ⟨2, _⟩ => show 0 + 1 * k.val = k.val; omega

/-- Some of the projection's columns, loaded by themselves. -/
theorem ld_cols (x3 : Vec Ideal S1024x4224 .bf16) (n w : Nat) (h : n + w ≤ 4224) (inb : ∀ a, (![0, n] : Fin 2 → Nat) a + (![1024, w] : Fin 2 → Nat) a ≤ S1024x4224.size a)
    (k : Fin 1024) (f : Fin w) :
    (View.ld x3 (Rect.unit (s := S1024x4224) ![0, n] ![1024, w] inb) : (⟨2, ![1024, w]⟩ : Shape).Idx → EReal) (ix2 k f) = x3 (ix2 k (⟨n + f.val, by omega⟩ : Fin 4224)) := by
  refine congrArg x3 (funext fun a => Fin.ext ?_)
  match a with
  | ⟨0, _⟩ => show 0 + 1 * k.val = k.val; omega
  | ⟨1, _⟩ => show n + 1 * f.val = n + f.val; omega

section
variable (x0 : Vec Ideal S256x1024 .f32) (x1 : Vec Ideal S6x256x1024 .f32) (x2 : Vec Ideal S1x1024 .f32) (x3 : Vec Ideal S1024x4224 .bf16)

/-- A block's row of the modulated norm. -/
def blockH (r : Fin 256) : Fin 1024 → EReal :=
  modded (fun k => x0 (ix2 r k)) (fun k => x2 (ix2 (n0 := 1) 0 k)) (fun k => x1 (ix3 (n0 := 6) 0 r k)) (fun k => x1 (ix3 (n0 := 6) 1 r k))

theorem rowH_eq (r : Fin 256) :
    (fun k => (k0_pay7 (View.ld x0 r0_0) (View.ld x2 r0_1) (View.ld x1 r0_2) (View.ld x1 r0_3) : FVec Ideal S256x1024 .bf16) (ix2 r k)) = blockH x0 x1 x2 r := by
  funext j
  have e0 : View.ld x0 r0_0 = x0 := View.ld_unit_zero (S := S256x1024) zero2 _ _
  have e2 : View.ld x2 r0_1 = x2 := View.ld_unit_zero (S := S1x1024) zero2 _ _
  rw [pay7_apply, e0, e2]
  unfold blockH
  congr 1
  · funext k; exact ld_part x1 0 (by decide) _ r k
  · funext k; exact ld_part x1 1 (by decide) _ r k

theorem out4_apply (r : Fin 256) (j : Fin 512) :
    (out0_4 x0 x1 x2 x3 : Vec Ideal S256x512 .bf16) (ix2 r j) =
      rowMul (blockH x0 x1 x2 r) (fun k n => x3 (ix2 k n)) ⟨j.val, by omega⟩ * Ideal.ofBits .f32 0x3E000000#32 := by
  unfold out0_4
  rw [View.canon_unit_zero (S := S256x512) zero2, pay8_apply, rowH_eq]
  refine congrArg (· * Ideal.ofBits .f32 0x3E000000#32) (Finset.sum_congr rfl fun k _ => congrArg (blockH x0 x1 x2 r k * ·) ?_)
  exact (ld_cols x3 0 512 (by decide) _ k j).trans (congrArg (fun n => x3 (ix2 k n)) (Fin.ext (Nat.zero_add _)))

theorem out5_apply (r : Fin 256) (j : Fin 512) :
    (out0_5 x0 x1 x2 x3 : Vec Ideal S256x512 .f32) (ix2 r j) = rowMul (blockH x0 x1 x2 r) (fun k n => x3 (ix2 k n)) ⟨512 + j.val, by omega⟩ := by
  unfold out0_5 k0_pay13
  rw [View.canon_unit_zero (S := S256x512) zero2, pay9_apply, rowH_eq]
  exact Finset.sum_congr rfl fun k _ => congrArg (blockH x0 x1 x2 r k * ·) (ld_cols x3 512 512 (by decide) _ k j)

theorem out6_apply (r : Fin 256) (j : Fin 512) :
    (out0_6 x0 x1 x2 x3 : Vec Ideal S256x512 .f32) (ix2 r j) = rowMul (blockH x0 x1 x2 r) (fun k n => x3 (ix2 k n)) ⟨1024 + j.val, by omega⟩ := by
  unfold out0_6 k0_pay11 k0_pay12 k0_pay14
  rw [View.canon_unit_zero (S := S256x512) zero2, pay1_apply, rowH_eq]
  exact Finset.sum_congr rfl fun k _ => congrArg (blockH x0 x1 x2 r k * ·) (ld_cols x3 1024 512 (by decide) _ k j)

theorem out9_apply (r : Fin 256) (j : Fin 1024) :
    (out0_9 x0 x1 x2 x3 : Vec Ideal S256x1024 .f32) (ix2 r j) = rowMul (blockH x0 x1 x2 r) (fun k n => x3 (ix2 k n)) ⟨1536 + j.val, by omega⟩ := by
  unfold out0_9 k0_pay12
  rw [View.canon_unit_zero (S := S256x1024) zero2, pay5_apply, rowH_eq]
  exact Finset.sum_congr rfl fun k _ => congrArg (blockH x0 x1 x2 r k * ·) (ld_cols x3 1536 1024 (by decide) _ k j)

theorem out10_apply (r : Fin 256) (j : Fin 1664) :
    (out0_10 x0 x1 x2 x3 : Vec Ideal S256x1664 .f32) (ix2 r j) = rowMul (blockH x0 x1 x2 r) (fun k n => x3 (ix2 k n)) ⟨2560 + j.val, by omega⟩ := by
  unfold out0_10 k0_pay12
  rw [View.canon_unit_zero (S := S256x1664) zero2, pay6_apply, rowH_eq]
  exact Finset.sum_congr rfl fun k _ => congrArg (blockH x0 x1 x2 r k * ·) (ld_cols x3 2560 1664 (by decide) _ k j)

end

end Cert.Kernel4Ideal.Spec
-- ==== Proof.InEntry.lean ====
/- What the in-projection's region finds in its arrays, from the arguments. -/
module

public import proofs.«01_k».proof.Proof.InBlock
public import Idealize.ShloMosaic.Lib.StableHlo.ReadAt
public import Idealize.ShloMosaic.Lib.Claim

@[expose] public section

set_option maxRecDepth 16384

noncomputable section

namespace Cert.Kernel4Ideal.Spec

open Cert.Kernel4Ideal Cert.Kernel4Ideal.Gen
open Idealize.ShloMosaic Idealize.ShloMosaic.TcCoe Idealize.ShloMosaic.Tactic
open Idealize.SL Idealize.SL.Sem
open Cert.Rows

variable (m : (ℓ : Loc nD τ sig) → Buf (Elt Ideal) ℓ)

/-- The arguments as device `c` holds them. -/
def argX (c : Dev nD) : FVec Ideal S32x4x1024 .f32 := m ((c.tc : Thread nD τ).loc main_arg0)
def argC (c : Dev nD) : FVec Ideal S32x6144 .f32 := m ((c.tc : Thread nD τ).loc main_arg1)
def argG (c : Dev nD) : FVec Ideal S1024 .f32 := m ((c.tc : Thread nD τ).loc main_arg2)
def argW (c : Dev nD) : FVec Ideal S1024x7184 .f32 := m ((c.tc : Thread nD τ).loc main_arg3)

theorem V19_eq (c : Dev nD) : V m c main_v19 = (shapeCast S1x1024 (argG m c) shapeCasts_S1024_S1x1024 : FVec Ideal S1x1024 .f32) := by
  entry_read
  rfl

theorem V18_eq (c : Dev nD) : V m c main_v18 = (transpose S6x256x1024 [1, 0, 2] (shapeCast S256x6x1024 (broadcastInDim S32x8x6x1024 ![0, 2, 3] bcast_S32x6x1024_S32x8x6x1024_0_2_3 (shapeCast S32x6x1024 (argC m c) shapeCasts_S32x6144_S32x6x1024 : FVec Ideal S32x6x1024 .f32) : FVec Ideal S32x8x6x1024 .f32) shapeCasts_S32x8x6x1024_S256x6x1024 : FVec Ideal S256x6x1024 .f32) transposes_S256x6x1024_S6x256x1024_1_0_2 : FVec Ideal S6x256x1024 .f32) := by
  entry_read
  rfl

theorem V14_eq (c : Dev nD) : V m c main_v14 = (shapeCast S256x1024 (pad S32x8x1024 ![0, 0, 0] ![0, 4, 0] ![0, 0, 0] (argX m c) (sitofp .f32 (constantI S_ 32 0#32) : FVec Ideal S_ .f32) pads_S32x4x1024_S32x8x1024_000_040_000 h_S_ : FVec Ideal S32x8x1024 .f32) shapeCasts_S32x8x1024_S256x1024 : FVec Ideal S256x1024 .f32) := by
  entry_read
  rfl

end Cert.Kernel4Ideal.Spec
-- ==== Proof.InMix.lean ====
/- The in-projection's matrix as the region finds it: the columns of the three branches side by side. -/
module

public import proofs.«01_k».proof.Proof.InEntry

@[expose] public section

set_option maxRecDepth 16384

noncomputable section

namespace Cert.Kernel4Ideal.Spec

open Cert.Kernel4Ideal Cert.Kernel4Ideal.Gen
open Idealize.ShloMosaic Idealize.ShloMosaic.TcCoe Idealize.ShloMosaic.Tactic
open Idealize.SL Idealize.SL.Sem
open Cert.Rows

variable (m : (ℓ : Loc nD τ sig) → Buf (Elt Ideal) ℓ)

/-- The columns of the branches side by side, the last ones widened. -/
def mixOf (W : FVec Ideal S1024x7184 .f32) : FVec Ideal S1024x4224 .f32 :=
  concatenate S1024x4224 1 [⟨S1024x512, extractStridedSlice S1024x512 ![0, 0] W slices_S1024x7184_S1024x512_0_0⟩,
    ⟨S1024x512, extractStridedSlice S1024x512 ![0, 512] W slices_S1024x7184_S1024x512_0_512⟩,
    ⟨S1024x512, extractStridedSlice S1024x512 ![0, 1024] W slices_S1024x7184_S1024x512_0_1024⟩,
    ⟨S1024x512, extractStridedSlice S1024x512 ![0, 1536] W slices_S1024x7184_S1024x512_0_1536⟩,
    ⟨S1024x512, extractStridedSlice S1024x512 ![0, 2048] W slices_S1024x7184_S1024x512_0_2048⟩,
    ⟨S1024x256, extractStridedSlice S1024x256 ![0, 2560] W slices_S1024x7184_S1024x256_0_2560⟩,
    ⟨S1024x256, extractStridedSlice S1024x256 ![0, 2816] W slices_S1024x7184_S1024x256_0_2816⟩,
    ⟨S1024x512, extractStridedSlice S1024x512 ![0, 3072] W slices_S1024x7184_S1024x512_0_3072⟩,
    ⟨S1024x512, extractStridedSlice S1024x512 ![0, 3584] W slices_S1024x7184_S1024x512_0_3584⟩,
    ⟨S1024x128, pad S1024x128 ![0, 0] ![0, 112] ![0, 0] (extractStridedSlice S1024x16 ![0, 4096] W slices_S1024x7184_S1024x16_0_4096)
      (sitofp .f32 (constantI S_ 32 0#32) : FVec Ideal S_ .f32) pads_S1024x16_S1024x128_000_01120 h_S_⟩] concatenates_S1024x512_S1024x512_S1024x512_S1024x512_S1024x512_S1024x256_S1024x256_S1024x512_S1024x512_S1024x128_S1024x4224_d1

theorem cat10 {t s u w : Shape} (a : Fin t.rank) {x0 x0' : s.Idx → EReal} {x1 x1' : s.Idx → EReal} {x2 x2' : s.Idx → EReal} {x3 x3' : s.Idx → EReal} {x4 x4' : s.Idx → EReal} {x5 x5' : u.Idx → EReal} {x6 x6' : u.Idx → EReal} {x7 x7' : s.Idx → EReal} {x8 x8' : s.Idx → EReal} {x9 x9' : w.Idx → EReal}
    (e0 : x0 = x0') (e1 : x1 = x1') (e2 : x2 = x2') (e3 : x3 = x3') (e4 : x4 = x4') (e5 : x5 = x5') (e6 : x6 = x6') (e7 : x7 = x7') (e8 : x8 = x8') (e9 : x9 = x9') (h : Shape.Concatenates [s, s, s, s, s, u, u, s, s, w] t a) :
    (concatenate t a [⟨s, x0⟩, ⟨s, x1⟩, ⟨s, x2⟩, ⟨s, x3⟩, ⟨s, x4⟩, ⟨u, x5⟩, ⟨u, x6⟩, ⟨s, x7⟩, ⟨s, x8⟩, ⟨w, x9⟩] h : t.Idx → EReal) =
      concatenate t a [⟨s, x0'⟩, ⟨s, x1'⟩, ⟨s, x2'⟩, ⟨s, x3'⟩, ⟨s, x4'⟩, ⟨u, x5'⟩, ⟨u, x6'⟩, ⟨s, x7'⟩, ⟨s, x8'⟩, ⟨w, x9'⟩] h := by
  subst e0 e1 e2 e3 e4 e5 e6 e7 e8 e9
  rfl

theorem V12_eq (c : Dev nD) : V m c main_v12 = (truncf .bf16 (mixOf (argW m c)) bitsLt_bf16_f32 : FVec Ideal S1024x4224 .bf16) := by
  unfold V V0 hostOps0 hostOps0_1 hostOps0_2 hostOps0_3 hostOps0_4
  simp only [StableHlo.after_cons, StableHlo.after_nil, List.flatten_cons, List.flatten_nil, List.append_nil, List.cons_append, List.nil_append]
  iterate 9 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
  refine (StableHlo.unary_result _ _ _ _ _ _).trans ?_
  refine congrArg (fun z : FVec Ideal S1024x4224 .f32 => (truncf .bf16 z bitsLt_bf16_f32 : FVec Ideal S1024x4224 .bf16)) ?_
  refine (StableHlo.nary_result _ _ _ _ _ _).trans ?_
  refine cat10 (t := S1024x4224) (s := S1024x512) (u := S1024x256) (w := S1024x128) 1 ?_ ?_ ?_ ?_ ?_ ?_ ?_ ?_ ?_ ?_ concatenates_S1024x512_S1024x512_S1024x512_S1024x512_S1024x512_S1024x256_S1024x256_S1024x512_S1024x512_S1024x128_S1024x4224_d1
  · iterate 8 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 0] W slices_S1024x7184_S1024x512_0_0) ?_
    iterate 4 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 7 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 512] W slices_S1024x7184_S1024x512_0_512) ?_
    iterate 5 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 6 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 1024] W slices_S1024x7184_S1024x512_0_1024) ?_
    iterate 6 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 5 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 1536] W slices_S1024x7184_S1024x512_0_1536) ?_
    iterate 7 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 4 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 2048] W slices_S1024x7184_S1024x512_0_2048) ?_
    iterate 8 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 3 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x256 ![0, 2560] W slices_S1024x7184_S1024x256_0_2560) ?_
    iterate 9 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 2 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x256 ![0, 2816] W slices_S1024x7184_S1024x256_0_2816) ?_
    iterate 10 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 1 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 3072] W slices_S1024x7184_S1024x512_0_3072) ?_
    iterate 11 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · refine (StableHlo.unary_result _ _ _ _ _ _).trans ?_
    refine congrArg (fun W : FVec Ideal S1024x7184 .f32 => extractStridedSlice S1024x512 ![0, 3584] W slices_S1024x7184_S1024x512_0_3584) ?_
    iterate 12 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 9 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.binary_result _ _ _ _ _ _ _ _).trans ?_
    refine congrArg₂ (fun (x : FVec Ideal S1024x16 .f32) (v : FVec Ideal S_ .f32) => pad S1024x128 ![0, 0] ![0, 112] ![0, 0] x v pads_S1024x16_S1024x128_000_01120 h_S_) ?_ ?_
    · iterate 2 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
      refine (StableHlo.unary_result _ _ _ _ _ _).trans ?_
      rfl
    · refine (StableHlo.unary_result _ _ _ _ _ _).trans ?_
      refine congrArg (fun z => (sitofp .f32 z : FVec Ideal S_ .f32)) ?_
      exact StableHlo.nullary_result _ _ _ _

end Cert.Kernel4Ideal.Spec
-- ==== Proof.InRef.lean ====
/- The reference of the sample's in-projection, read at an index. -/
module

public import proofs.«01_k».proof.Proof.Parts
public import proofs.«01_k».proof.Proof.Gen.Reference4Ideal.Read

@[expose] public section

set_option maxRecDepth 16384

noncomputable section

namespace Cert.Reference4Ideal.Spec

open Cert.Reference4Ideal Cert.Reference4Ideal.Read
open Idealize.ShloMosaic Idealize.ShloMosaic.TcCoe
open Cert.Rows

variable (x : FVec Ideal S32x4x1024 .f32) (c : FVec Ideal S32x6144 .f32) (g : FVec Ideal S1024 .f32) (W : FVec Ideal S1024x7184 .f32)

/-- A token's row of the modulated norm. -/
abbrev tokenH (b : Fin 32) (r : Fin 4) : Fin 1024 → EReal :=
  modded (fun k => x (ix3 b r k)) (fun k => g (ix1 k)) (chunk (fun n => c (ix2 b n)) 0) (chunk (fun n => c (ix2 b n)) 1)

/-- An entry of a token's row, projected. -/
def inCol (b : Fin 32) (r : Fin 4) (n : Fin 7184) : EReal := rowMul (tokenH x c g b r) (fun k n => W (ix2 k n)) n

theorem v25_apply (b : Fin 32) (r : Fin 4) (j : Fin 1024) : val_main_v25 (F := Ideal) x c g (ix3 b r j) = tokenH x c g b r j := by
  pointwise [val_main_v25, val_main_v24, val_main_v23, val_main_v22, val_main_v21, val_main_v20, val_main_cst_2, val_main_v19, val_main_v18, val_main_v17,
    val_main_v16, val_main_v15, val_main_v14, val_main_v13, val_main_v12, val_main_cst_1, val_main_v11, val_main_v10, val_main_cst_0, val_main_v9, val_main_v8,
    val_main_cst, val_main_v7, val_main_v2, val_main_v1, val_main_v0, modded, normed, scaleOf]
  rw [chunk_at (fun n => c (ix2 b n)) 1 j _ _ rfl, chunk_at (fun n => c (ix2 b n)) 0 j _ _ (by omega)]

theorem v26_apply (b : Fin 32) (r : Fin 4) (n : Fin 7184) : val_main_v26 (F := Ideal) x c g W (ix3 b r n) = inCol x c g W b r n := by
  have e : ∀ j, val_main_v25 (F := Ideal) x c g (ix3 b r j) = _ := v25_apply x c g b r
  pointwise [val_main_v26, inCol, rowMul, e]

/-- The queries, scaled. -/
theorem v42_apply (b : Fin 32) (r : Fin 4) (j : Fin 512) :
    val_main_v42 (F := Ideal) x c g W (ix3 b r j) = inCol x c g W b r ⟨j.val, by omega⟩ * Ideal.ofBits .f32 0x3E000000#32 := by
  have e : ∀ n, val_main_v26 (F := Ideal) x c g W (ix3 b r n) = _ := v26_apply x c g W b r
  pointwise [val_main_v42, val_main_v41, val_main_v40, val_main_cst_3, val_main_v27, e]

theorem v28_apply (b : Fin 32) (r : Fin 4) (j : Fin 512) :
    val_main_v28 (F := Ideal) x c g W (ix3 b r j) = inCol x c g W b r ⟨512 + j.val, by omega⟩ := by
  have e : ∀ n, val_main_v26 (F := Ideal) x c g W (ix3 b r n) = _ := v26_apply x c g W b r
  pointwise [val_main_v28, e]

theorem v29_apply (b : Fin 32) (r : Fin 4) (j : Fin 512) :
    val_main_v29 (F := Ideal) x c g W (ix3 b r j) = inCol x c g W b r ⟨1024 + j.val, by omega⟩ := by
  have e : ∀ n, val_main_v26 (F := Ideal) x c g W (ix3 b r n) = _ := v26_apply x c g W b r
  pointwise [val_main_v29, e]

/-- The recurrent branch's two halves side by side. -/
theorem v43_apply (b : Fin 32) (r : Fin 4) (j : Fin 1024) :
    val_main_v43 (F := Ideal) x c g W (ix3 b r j) = inCol x c g W b r ⟨1536 + j.val, by omega⟩ := by
  have e : ∀ n, val_main_v26 (F := Ideal) x c g W (ix3 b r n) = _ := v26_apply x c g W b r
  pointwise [val_main_v43, val_main_v31, val_main_v30, e]
  split <;> exact congrArg (inCol x c g W b r) (Fin.ext (by first | rfl | (simp only []; omega)))

/-- The gated branch's five parts side by side. -/
theorem v44_apply (b : Fin 32) (r : Fin 4) (j : Fin 1552) :
    val_main_v44 (F := Ideal) x c g W (ix3 b r j) = inCol x c g W b r ⟨2560 + j.val, by omega⟩ := by
  have e : ∀ n, val_main_v26 (F := Ideal) x c g W (ix3 b r n) = _ := v26_apply x c g W b r
  pointwise [val_main_v44, val_main_v36, val_main_v35, val_main_v34, val_main_v33, val_main_v32, e]
  repeat' split
  all_goals exact congrArg (inCol x c g W b r) (Fin.ext (by first | rfl | (simp only []; omega)))

end Cert.Reference4Ideal.Spec
-- ==== Proof.InArray.lean ====
/- The in-projection's result arrays, at the rows of the tokens that are no padding. -/
module

public import proofs.«01_k».proof.Proof.InMix
public import proofs.«01_k».proof.Proof.InRef
public import Idealize.ShloMosaic.Lib.KernelVsHost

@[expose] public section

set_option maxRecDepth 16384

noncomputable section

namespace Cert.Kernel4Ideal.Spec

open Cert.Kernel4Ideal Cert.Kernel4Ideal.Gen
open Idealize.ShloMosaic Idealize.ShloMosaic.TcCoe Idealize.ShloMosaic.Tactic
open Idealize.SL Idealize.SL.Sem
open Cert.Rows
open Cert.Reference4Ideal.Spec (inCol tokenH)

variable (m : (ℓ : Loc nD τ sig) → Buf (Elt Ideal) ℓ)

/-- A column below the widened part is the projection's own. -/
theorem mix_at (W : FVec Ideal S1024x7184 .f32) (k : Fin 1024) (n : Nat) (h : n < 4112) :
    mixOf W (ix2 k (⟨n, by omega⟩ : Fin 4224)) = W (ix2 k (⟨n, by omega⟩ : Fin 7184)) := by
  pointwise [mixOf]
  by_cases h0 : n < 512
  · exact dif_pos h0
  refine (dif_neg h0).trans ?_
  by_cases h1 : n - 512 < 512
  · exact (dif_pos h1).trans (congrArg (fun n => W (ix2 k n)) (Fin.ext (by simp only []; omega)))
  refine (dif_neg h1).trans ?_
  by_cases h2 : n - 512 - 512 < 512
  · exact (dif_pos h2).trans (congrArg (fun n => W (ix2 k n)) (Fin.ext (by simp only []; omega)))
  refine (dif_neg h2).trans ?_
  by_cases h3 : n - 512 - 512 - 512 < 512
  · exact (dif_pos h3).trans (congrArg (fun n => W (ix2 k n)) (Fin.ext (by simp only []; omega)))
  refine (dif_neg h3).trans ?_
  by_cases h4 : n - 512 - 512 - 512 - 512 < 512
  · exact (dif_pos h4).trans (congrArg (fun n => W (ix2 k n)) (Fin.ext (by simp only []; omega)))
  refine (dif_neg h4).trans ?_
  by_cases h5 : n - 512 - 512 - 512 - 512 - 512 < 256
  · exact (dif_pos h5).trans (congrArg (fun n => W (ix2 k n)) (Fin.ext (by simp only []; omega)))
  refine (dif_neg h5).trans ?_
  by_cases h6 : n - 512 - 512 - 512 - 512 - 512 - 256 < 256
  · exact (dif_pos h6).trans (congrArg (fun n => W (ix2 k n)) (Fin.ext (by simp only []; omega)))
  refine (dif_neg h6).trans ?_
  by_cases h7 : n - 512 - 512 - 512 - 512 - 512 - 256 - 256 < 512
  · exact (dif_pos h7).trans (congrArg (fun n => W (ix2 k n)) (Fin.ext (by simp only []; omega)))
  refine (dif_neg h7).trans ?_
  by_cases h8 : n - 512 - 512 - 512 - 512 - 512 - 256 - 256 - 512 < 512
  · exact (dif_pos h8).trans (congrArg (fun n => W (ix2 k n)) (Fin.ext (by simp only []; omega)))
  refine (dif_neg h8).trans ?_
  exact (dif_pos (by omega)).trans (congrArg (fun n => W (ix2 k n)) (Fin.ext (by simp only []; omega)))

/-- The row of the flat arrays that holds token `r` of the batch `b`. -/
abbrev rowOf (b : Fin 32) (r : Fin 4) : Fin 256 := ⟨8 * b.val + r.val, by omega⟩

theorem x_at (x : FVec Ideal S32x4x1024 .f32) (z : FVec Ideal S_ .f32) (b : Fin 32) (r : Fin 4) (k : Fin 1024) :
    (shapeCast S256x1024 (pad S32x8x1024 ![0, 0, 0] ![0, 4, 0] ![0, 0, 0] x z pads_S32x4x1024_S32x8x1024_000_040_000 h_S_ : FVec Ideal S32x8x1024 .f32)
      shapeCasts_S32x8x1024_S256x1024 : FVec Ideal S256x1024 .f32) (ix2 (rowOf b r) k) = x (ix3 b r k) := by
  refine (shapeCast_apply _ _ _ (ix3 b (⟨r.val, by omega⟩ : Fin 8) k) ?_).trans ?_
  · rw [rowMajor_val3 _ 8192 1024 rfl rfl, rowMajor_val2 _ 1024 rfl]
    show b.val * 8192 + r.val * 1024 + k.val = (8 * b.val + r.val) * 1024 + k.val
    omega
  · refine pad_apply_of_inside _ _ _ _ _ _ _ _ _ fun a => ?_
    match a with
    | ⟨0, _⟩ => show b.val = 0 + b.val * (0 + 1); omega
    | ⟨1, _⟩ => show r.val = 0 + r.val * (0 + 1); omega
    | ⟨2, _⟩ => show k.val = 0 + k.val * (0 + 1); omega

theorem c_at (x : FVec Ideal S32x6144 .f32) (b : Fin 32) (r : Fin 4) (p : Fin 6) (k : Fin 1024) :
    (transpose S6x256x1024 [1, 0, 2] (shapeCast S256x6x1024 (broadcastInDim S32x8x6x1024 ![0, 2, 3] bcast_S32x6x1024_S32x8x6x1024_0_2_3
      (shapeCast S32x6x1024 x shapeCasts_S32x6144_S32x6x1024 : FVec Ideal S32x6x1024 .f32) : FVec Ideal S32x8x6x1024 .f32) shapeCasts_S32x8x6x1024_S256x6x1024 :
        FVec Ideal S256x6x1024 .f32) transposes_S256x6x1024_S6x256x1024_1_0_2 : FVec Ideal S6x256x1024 .f32) (ix3 p (rowOf b r) k) =
      chunk (fun n => x (ix2 b n)) p.val k := by
  refine Eq.trans ?_ (chunk_at (fun n => x (ix2 b n)) p.val k (1024 * p.val + k.val) (by omega) rfl)
  refine (?_ : _ = (shapeCast S256x6x1024 (broadcastInDim S32x8x6x1024 ![0, 2, 3] bcast_S32x6x1024_S32x8x6x1024_0_2_3
      (shapeCast S32x6x1024 x shapeCasts_S32x6144_S32x6x1024 : FVec Ideal S32x6x1024 .f32) : FVec Ideal S32x8x6x1024 .f32) shapeCasts_S32x8x6x1024_S256x6x1024 :
        FVec Ideal S256x6x1024 .f32) (ix3 (rowOf b r) p k)).trans ?_
  · generalize (shapeCast S256x6x1024 _ shapeCasts_S32x8x6x1024_S256x6x1024 : FVec Ideal S256x6x1024 .f32) = y
    pointwise
  · refine (shapeCast_apply _ _ _ (ix4 b (⟨r.val, by omega⟩ : Fin 8) p k) ?_).trans ?_
    · rw [rowMajor_val4 _ 49152 6144 1024 rfl rfl rfl, rowMajor_val3 _ 6144 1024 rfl rfl]
      show b.val * 49152 + r.val * 6144 + p.val * 1024 + k.val = (8 * b.val + r.val) * 6144 + p.val * 1024 + k.val
      omega
    · refine (?_ : _ = (shapeCast S32x6x1024 x shapeCasts_S32x6144_S32x6x1024 : FVec Ideal S32x6x1024 .f32) (ix3 b p k)).trans ?_
      · generalize (shapeCast S32x6x1024 x shapeCasts_S32x6144_S32x6x1024 : FVec Ideal S32x6x1024 .f32) = y
        pointwise
      · refine shapeCast_apply _ _ _ _ ?_
        rw [rowMajor_val2 _ 6144 rfl, rowMajor_val3 _ 6144 1024 rfl rfl]
        show b.val * 6144 + (1024 * p.val + k.val) = b.val * 6144 + p.val * 1024 + k.val
        omega

theorem idx_all : ∀ t : Fin grid0.N, win0_0.index t = ![0, 0] ∧ win0_1.index t = ![0, 0, 0] ∧ win0_2.index t = ![0, 0] ∧ win0_3.index t = ![0, 0] ∧
    win0_4.index t = ![0, 0] ∧ win0_5.index t = ![0, 0] ∧ win0_6.index t = ![0, 0] ∧ win0_9.index t = ![0, 0] ∧ win0_10.index t = ![0, 0] := by
  decide +kernel

theorem blk0 (c : Dev nD) (t : Fin cfg0.N) (b : Fin 32) (r : Fin 4) (k : Fin 1024) :
    (iblk m c 0 t : Vec Ideal S256x1024 .f32) (ix2 (rowOf b r) k) = argX m c (ix3 b r k) := by
  have e : (iblk m c 0 t : Vec Ideal S256x1024 .f32) (ix2 (rowOf b r) k) = (V m c main_v14 : FVec Ideal S256x1024 .f32) (ix2 (rowOf b r) k) := by
    blk_ext [iblk, (idx_all t).1]
  rw [e, V14_eq]
  exact x_at _ _ b r k

theorem blk1 (c : Dev nD) (t : Fin cfg0.N) (b : Fin 32) (r : Fin 4) (p : Fin 6) (k : Fin 1024) :
    (iblk m c 1 t : Vec Ideal S6x256x1024 .f32) (ix3 p (rowOf b r) k) = chunk (fun n => argC m c (ix2 b n)) p.val k := by
  have e : (iblk m c 1 t : Vec Ideal S6x256x1024 .f32) (ix3 p (rowOf b r) k) = (V m c main_v18 : FVec Ideal S6x256x1024 .f32) (ix3 p (rowOf b r) k) := by
    blk_ext [iblk, (idx_all t).2.1]
  rw [e, V18_eq]
  exact c_at _ b r p k

theorem blk2 (c : Dev nD) (t : Fin cfg0.N) (k : Fin 1024) : (iblk m c 2 t : Vec Ideal S1x1024 .f32) (ix2 (n0 := 1) 0 k) = argG m c (ix1 k) := by
  have e : (iblk m c 2 t : Vec Ideal S1x1024 .f32) (ix2 (n0 := 1) 0 k) = (V m c main_v19 : FVec Ideal S1x1024 .f32) (ix2 (n0 := 1) 0 k) := by
    blk_ext [iblk, (idx_all t).2.2.1]
  rw [e, V19_eq]
  pointwise

theorem blk3 (c : Dev nD) (t : Fin cfg0.N) (k : Fin 1024) (n : Nat) (h : n < 4112) :
    (iblk m c 3 t : Vec Ideal S1024x4224 .bf16) (ix2 k (⟨n, by omega⟩ : Fin 4224)) = argW m c (ix2 k (⟨n, by omega⟩ : Fin 7184)) := by
  have e : (iblk m c 3 t : Vec Ideal S1024x4224 .bf16) (ix2 k (⟨n, by omega⟩ : Fin 4224)) = (V m c main_v12 : FVec Ideal S1024x4224 .bf16) (ix2 k (⟨n, by omega⟩ : Fin 4224)) := by
    blk_ext [iblk, (idx_all t).2.2.2.1]
  rw [e, V12_eq]
  exact mix_at (argW m c) k n h

theorem blockH_eq (c : Dev nD) (t : Fin cfg0.N) (b : Fin 32) (r : Fin 4) :
    blockH (iblk m c 0 t) (iblk m c 1 t) (iblk m c 2 t) (rowOf b r) = tokenH (argX m c) (argC m c) (argG m c) b r := by
  unfold blockH tokenH
  congr 1
  · funext k; exact blk0 m c t b r k
  · funext k; exact blk2 m c t k
  · funext k; exact blk1 m c t b r 0 k
  · funext k; exact blk1 m c t b r 1 k

theorem row_eq (c : Dev nD) (t : Fin cfg0.N) (b : Fin 32) (r : Fin 4) (n : Nat) (h : n < 4112) :
    rowMul (blockH (iblk m c 0 t) (iblk m c 1 t) (iblk m c 2 t) (rowOf b r)) (fun k n => (iblk m c 3 t : Vec Ideal S1024x4224 .bf16) (ix2 k n)) (⟨n, by omega⟩ : Fin 4224) =
      inCol (argX m c) (argC m c) (argG m c) (argW m c) b r ⟨n, by omega⟩ := by
  rw [blockH_eq]
  exact Finset.sum_congr rfl fun k _ => congrArg (tokenH (argX m c) (argC m c) (argG m c) b r k * ·) (blk3 m c t k n h)

/-- The call's one point. -/
abbrev pt : Fin cfg0.N := ⟨0, by decide⟩

theorem pt_eq : ∀ t : Fin cfg0.N, t = pt := by decide +kernel

theorem arr4_eq (c : Dev nD) : ((dats m 0 c).arrAt 4 cfg0.N : Vec Ideal S256x512 .bf16) = out0_4 (iblk m c 0 pt) (iblk m c 1 pt) (iblk m c 2 pt) (iblk m c 3 pt) := by
  refine (dats m 0 c).arrAt_eq_of_covers 4 _ (by decide +kernel) fun t hf y => ?_
  obtain rfl := pt_eq t
  blk_simp
  rw [after0_4]
  obtain ⟨r, j, rfl⟩ : ∃ (r : Fin 256) (j : Fin 512), y = ix2 r j := ⟨y 0, y 1, (ix2_eta y).symm⟩
  generalize (out0_4 (iblk m c 0 pt) (iblk m c 1 pt) (iblk m c 2 pt) (iblk m c 3 pt) : Vec Ideal S256x512 .bf16) = o
  blk_ext [(idx_all pt).2.2.2.2.1]

theorem arr5_eq (c : Dev nD) : ((dats m 0 c).arrAt 5 cfg0.N : Vec Ideal S256x512 .f32) = out0_5 (iblk m c 0 pt) (iblk m c 1 pt) (iblk m c 2 pt) (iblk m c 3 pt) := by
  refine (dats m 0 c).arrAt_eq_of_covers 5 _ (by decide +kernel) fun t hf y => ?_
  obtain rfl := pt_eq t
  blk_simp
  rw [after0_5]
  obtain ⟨r, j, rfl⟩ : ∃ (r : Fin 256) (j : Fin 512), y = ix2 r j := ⟨y 0, y 1, (ix2_eta y).symm⟩
  generalize (out0_5 (iblk m c 0 pt) (iblk m c 1 pt) (iblk m c 2 pt) (iblk m c 3 pt) : Vec Ideal S256x512 .f32) = o
  blk_ext [(idx_all pt).2.2.2.2.2.1]

theorem arr6_eq (c : Dev nD) : ((dats m 0 c).arrAt 6 cfg0.N : Vec Ideal S256x512 .f32) = out0_6 (iblk m c 0 pt) (iblk m c 1 pt) (iblk m c 2 pt) (iblk m c 3 pt) := by
  refine (dats m 0 c).arrAt_eq_of_covers 6 _ (by decide +kernel) fun t hf y => ?_
  obtain rfl := pt_eq t
  blk_simp
  rw [after0_6]
  obtain ⟨r, j, rfl⟩ : ∃ (r : Fin 256) (j : Fin 512), y = ix2 r j := ⟨y 0, y 1, (ix2_eta y).symm⟩
  generalize (out0_6 (iblk m c 0 pt) (iblk m c 1 pt) (iblk m c 2 pt) (iblk m c 3 pt) : Vec Ideal S256x512 .f32) = o
  blk_ext [(idx_all pt).2.2.2.2.2.2.1]

theorem arr9_eq (c : Dev nD) : ((dats m 0 c).arrAt 9 cfg0.N : Vec Ideal S256x1024 .f32) = out0_9 (iblk m c 0 pt) (iblk m c 1 pt) (iblk m c 2 pt) (iblk m c 3 pt) := by
  refine (dats m 0 c).arrAt_eq_of_covers 9 _ (by decide +kernel) fun t hf y => ?_
  obtain rfl := pt_eq t
  blk_simp
  rw [after0_9]
  obtain ⟨r, j, rfl⟩ : ∃ (r : Fin 256) (j : Fin 1024), y = ix2 r j := ⟨y 0, y 1, (ix2_eta y).symm⟩
  generalize (out0_9 (iblk m c 0 pt) (iblk m c 1 pt) (iblk m c 2 pt) (iblk m c 3 pt) : Vec Ideal S256x1024 .f32) = o
  blk_ext [(idx_all pt).2.2.2.2.2.2.2.1]

theorem arr10_eq (c : Dev nD) : ((dats m 0 c).arrAt 10 cfg0.N : Vec Ideal S256x1664 .f32) = out0_10 (iblk m c 0 pt) (iblk m c 1 pt) (iblk m c 2 pt) (iblk m c 3 pt) := by
  refine (dats m 0 c).arrAt_eq_of_covers 10 _ (by decide +kernel) fun t hf y => ?_
  obtain rfl := pt_eq t
  blk_simp
  rw [after0_10]
  obtain ⟨r, j, rfl⟩ : ∃ (r : Fin 256) (j : Fin 1664), y = ix2 r j := ⟨y 0, y 1, (ix2_eta y).symm⟩
  generalize (out0_10 (iblk m c 0 pt) (iblk m c 1 pt) (iblk m c 2 pt) (iblk m c 3 pt) : Vec Ideal S256x1664 .f32) = o
  blk_ext [(idx_all pt).2.2.2.2.2.2.2.2]

end Cert.Kernel4Ideal.Spec
-- ==== Proof.InTail.lean ====
/- What the in-projection's last host lines leave in its results. -/
module

public import proofs.«01_k».proof.Proof.InArray

@[expose] public section

set_option maxRecDepth 16384

noncomputable section

namespace Cert.Kernel4Ideal.Spec

open Cert.Kernel4Ideal Cert.Kernel4Ideal.Gen
open Idealize.ShloMosaic Idealize.ShloMosaic.TcCoe Idealize.ShloMosaic.Tactic
open Idealize.SL Idealize.SL.Sem
open Cert.Rows
open Cert.Reference4Ideal.Spec (inCol tokenH)

variable (m : (ℓ : Loc nD τ sig) → Buf (Elt Ideal) ℓ)

theorem tail22 (c : Dev nD) : (Pipeline.afterTail₀ cfgs (dats m) 0 (V0 m) [hostOps1] c main_v22 : Vec Ideal S32x4x512 .bf16) =
    (extractStridedSlice S32x4x512 ![0, 0, 0] (shapeCast S32x8x512 ((dats m 0 c).arrAt 4 cfg0.N : Vec Ideal S256x512 .bf16) shapeCasts_S256x512_S32x8x512 : Vec Ideal S32x8x512 .bf16) slices_S32x8x512_S32x4x512_0_0_0 : Vec Ideal S32x4x512 .bf16) := by
  unfold Pipeline.afterTail₀
  simp only [hostOps1, StableHlo.after_cons, StableHlo.after_nil, List.flatten_cons, List.flatten_nil, List.append_nil, List.cons_append, List.nil_append]
  iterate 9 refine (HloOp.result_of_not_mem _ _ (by simp only [StableHlo.unary_writes, StableHlo.reshape_writes, Finset.mem_singleton]; exact StableHlo.devRef_ne_of_ne (by decide))).trans ?_
  refine (StableHlo.unary_result _ _ _ _ _ _).trans ?_
  refine congrArg (fun z : Vec Ideal S32x8x512 .bf16 => (extractStridedSlice S32x4x512 ![0, 0, 0] z slices_S32x8x512_S32x4x512_0_0_0 : Vec Ideal S32x4x512 .bf16)) ?_
  refine (StableHlo.reshape_result _ _ _ _ _ _ _).trans ?_
  refine congrArg (fun z : Vec Ideal S256x512 .bf16 => (shapeCast S32x8x512 z shapeCasts_S256x512_S32x8x512 : Vec Ideal S32x8x512 .bf16)) ?_
  exact Pipeline.withArrays_arr spec0 (by decide) c (V0 m c) _ 4

theorem tail24 (c : Dev nD) : (Pipeline.afterTail₀ cfgs (dats m) 0 (V0 m) [hostOps1] c main_v24 : Vec Ideal S32x4x512 .f32) =
    (extractStridedSlice S32x4x512 ![0, 0, 0] (shapeCast S32x8x512 ((dats m 0 c).arrAt 5 cfg0.N : Vec Ideal S256x512 .f32) shapeCasts_S256x512_S32x8x512 : Vec Ideal S32x8x512 .f32) slices_S32x8x512_S32x4x512_0_0_0 : Vec Ideal S32x4x512 .f32) := by
  unfold Pipeline.afterTail₀
  simp only [hostOps1, StableHlo.after_cons, StableHlo.after_nil, List.flatten_cons, List.flatten_nil, List.append_nil, List.cons_append, List.nil_append]
  iterate 7 refine (HloOp.result_of_not_mem _ _ (by simp only [StableHlo.unary_writes, StableHlo.reshape_writes, Finset.mem_singleton]; exact StableHlo.devRef_ne_of_ne (by decide))).trans ?_
  refine (StableHlo.unary_result _ _ _ _ _ _).trans ?_
  refine congrArg (fun z : Vec Ideal S32x8x512 .f32 => (extractStridedSlice S32x4x512 ![0, 0, 0] z slices_S32x8x512_S32x4x512_0_0_0 : Vec Ideal S32x4x512 .f32)) ?_
  refine (StableHlo.reshape_result _ _ _ _ _ _ _).trans ?_
  refine congrArg (fun z : Vec Ideal S256x512 .f32 => (shapeCast S32x8x512 z shapeCasts_S256x512_S32x8x512 : Vec Ideal S32x8x512 .f32)) ?_
  iterate 2 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 5

theorem tail26 (c : Dev nD) : (Pipeline.afterTail₀ cfgs (dats m) 0 (V0 m) [hostOps1] c main_v26 : Vec Ideal S32x4x512 .f32) =
    (extractStridedSlice S32x4x512 ![0, 0, 0] (shapeCast S32x8x512 ((dats m 0 c).arrAt 6 cfg0.N : Vec Ideal S256x512 .f32) shapeCasts_S256x512_S32x8x512 : Vec Ideal S32x8x512 .f32) slices_S32x8x512_S32x4x512_0_0_0 : Vec Ideal S32x4x512 .f32) := by
  unfold Pipeline.afterTail₀
  simp only [hostOps1, StableHlo.after_cons, StableHlo.after_nil, List.flatten_cons, List.flatten_nil, List.append_nil, List.cons_append, List.nil_append]
  iterate 5 refine (HloOp.result_of_not_mem _ _ (by simp only [StableHlo.unary_writes, StableHlo.reshape_writes, Finset.mem_singleton]; exact StableHlo.devRef_ne_of_ne (by decide))).trans ?_
  refine (StableHlo.unary_result _ _ _ _ _ _).trans ?_
  refine congrArg (fun z : Vec Ideal S32x8x512 .f32 => (extractStridedSlice S32x4x512 ![0, 0, 0] z slices_S32x8x512_S32x4x512_0_0_0 : Vec Ideal S32x4x512 .f32)) ?_
  refine (StableHlo.reshape_result _ _ _ _ _ _ _).trans ?_
  refine congrArg (fun z : Vec Ideal S256x512 .f32 => (shapeCast S32x8x512 z shapeCasts_S256x512_S32x8x512 : Vec Ideal S32x8x512 .f32)) ?_
  iterate 4 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 6

theorem tail28 (c : Dev nD) : (Pipeline.afterTail₀ cfgs (dats m) 0 (V0 m) [hostOps1] c main_v28 : Vec Ideal S32x4x1024 .f32) =
    (extractStridedSlice S32x4x1024 ![0, 0, 0] (shapeCast S32x8x1024 ((dats m 0 c).arrAt 9 cfg0.N : Vec Ideal S256x1024 .f32) shapeCasts_S256x1024_S32x8x1024 : Vec Ideal S32x8x1024 .f32) slices_S32x8x1024_S32x4x1024_0_0_0 : Vec Ideal S32x4x1024 .f32) := by
  unfold Pipeline.afterTail₀
  simp only [hostOps1, StableHlo.after_cons, StableHlo.after_nil, List.flatten_cons, List.flatten_nil, List.append_nil, List.cons_append, List.nil_append]
  iterate 3 refine (HloOp.result_of_not_mem _ _ (by simp only [StableHlo.unary_writes, StableHlo.reshape_writes, Finset.mem_singleton]; exact StableHlo.devRef_ne_of_ne (by decide))).trans ?_
  refine (StableHlo.unary_result _ _ _ _ _ _).trans ?_
  refine congrArg (fun z : Vec Ideal S32x8x1024 .f32 => (extractStridedSlice S32x4x1024 ![0, 0, 0] z slices_S32x8x1024_S32x4x1024_0_0_0 : Vec Ideal S32x4x1024 .f32)) ?_
  refine (StableHlo.reshape_result _ _ _ _ _ _ _).trans ?_
  refine congrArg (fun z : Vec Ideal S256x1024 .f32 => (shapeCast S32x8x1024 z shapeCasts_S256x1024_S32x8x1024 : Vec Ideal S32x8x1024 .f32)) ?_
  iterate 6 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 9

theorem tail31 (c : Dev nD) : (Pipeline.afterTail₀ cfgs (dats m) 0 (V0 m) [hostOps1] c main_v31 : Vec Ideal S32x4x1552 .f32) =
    (extractStridedSlice S32x4x1552 ![0, 0, 0] (extractStridedSlice S32x4x1664 ![0, 0, 0] (shapeCast S32x8x1664 ((dats m 0 c).arrAt 10 cfg0.N : Vec Ideal S256x1664 .f32) shapeCasts_S256x1664_S32x8x1664 : Vec Ideal S32x8x1664 .f32) slices_S32x8x1664_S32x4x1664_0_0_0 : Vec Ideal S32x4x1664 .f32) slices_S32x4x1664_S32x4x1552_0_0_0 : Vec Ideal S32x4x1552 .f32) := by
  unfold Pipeline.afterTail₀
  simp only [hostOps1, StableHlo.after_cons, StableHlo.after_nil, List.flatten_cons, List.flatten_nil, List.append_nil, List.cons_append, List.nil_append]
  refine (StableHlo.unary_result _ _ _ _ _ _).trans ?_
  refine congrArg (fun z : Vec Ideal S32x4x1664 .f32 => (extractStridedSlice S32x4x1552 ![0, 0, 0] z slices_S32x4x1664_S32x4x1552_0_0_0 : Vec Ideal S32x4x1552 .f32)) ?_
  refine (StableHlo.unary_result _ _ _ _ _ _).trans ?_
  refine congrArg (fun z : Vec Ideal S32x8x1664 .f32 => (extractStridedSlice S32x4x1664 ![0, 0, 0] z slices_S32x8x1664_S32x4x1664_0_0_0 : Vec Ideal S32x4x1664 .f32)) ?_
  refine (StableHlo.reshape_result _ _ _ _ _ _ _).trans ?_
  refine congrArg (fun z : Vec Ideal S256x1664 .f32 => (shapeCast S32x8x1664 z shapeCasts_S256x1664_S32x8x1664 : Vec Ideal S32x8x1664 .f32)) ?_
  iterate 8 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 10

end Cert.Kernel4Ideal.Spec
-- ==== Proof.InAgree.lean ====
/- The sample's in-projection and its reference end with the same five results. -/
module

public import proofs.«01_k».proof.Defs
public import proofs.«01_k».proof.Proof.InTail
public import proofs.«01_k».proof.Proof.Gen.Kernel4.Frame
public import proofs.«01_k».proof.Proof.Gen.Kernel4Ideal
public import proofs.«01_k».proof.Proof.Gen.Reference4Ideal
public import proofs.«01_k».proof.Proof.Gen.Reference4Ideal.Run

@[expose] public section

set_option maxRecDepth 16384

noncomputable section

namespace Cert.Kernel4Ideal.Spec

open Cert.Kernel4Ideal Cert.Kernel4Ideal.Gen
open Idealize.ShloMosaic Idealize.ShloMosaic.TcCoe Idealize.SL.Sem
open Cert.Reference4Ideal.Spec (inCol)

theorem frame_reference : @Cert.quiescent_Reference4Ideal Cert.Reference4Ideal.Gen.facts := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- A token's row in the flat array, after the reshape and the slice. -/
theorem part512 (y : S256x512.Idx → EReal) (b : Fin 32) (r : Fin 4) (j : Fin 512) :
    (extractStridedSlice S32x4x512 ![0, 0, 0] (shapeCast S32x8x512 y shapeCasts_S256x512_S32x8x512 : S32x8x512.Idx → EReal) slices_S32x8x512_S32x4x512_0_0_0 : S32x4x512.Idx → EReal) (ix3 b r j) =
      y (ix2 (rowOf b r) j) := by
  refine (?_ : _ = (shapeCast S32x8x512 y shapeCasts_S256x512_S32x8x512 : S32x8x512.Idx → EReal) (ix3 b (⟨r.val, by omega⟩ : Fin 8) j)).trans ?_
  · generalize (shapeCast S32x8x512 y shapeCasts_S256x512_S32x8x512 : S32x8x512.Idx → EReal) = z
    pointwise
  · refine shapeCast_apply _ _ _ _ ?_
    rw [rowMajor_val3 _ 4096 512 rfl rfl, rowMajor_val2 _ 512 rfl]
    show (8 * b.val + r.val) * 512 + j.val = b.val * 4096 + r.val * 512 + j.val
    omega

/-- A token's row in the flat array, after the reshape and the slice. -/
theorem part1024 (y : S256x1024.Idx → EReal) (b : Fin 32) (r : Fin 4) (j : Fin 1024) :
    (extractStridedSlice S32x4x1024 ![0, 0, 0] (shapeCast S32x8x1024 y shapeCasts_S256x1024_S32x8x1024 : S32x8x1024.Idx → EReal) slices_S32x8x1024_S32x4x1024_0_0_0 : S32x4x1024.Idx → EReal) (ix3 b r j) =
      y (ix2 (rowOf b r) j) := by
  refine (?_ : _ = (shapeCast S32x8x1024 y shapeCasts_S256x1024_S32x8x1024 : S32x8x1024.Idx → EReal) (ix3 b (⟨r.val, by omega⟩ : Fin 8) j)).trans ?_
  · generalize (shapeCast S32x8x1024 y shapeCasts_S256x1024_S32x8x1024 : S32x8x1024.Idx → EReal) = z
    pointwise
  · refine shapeCast_apply _ _ _ _ ?_
    rw [rowMajor_val3 _ 8192 1024 rfl rfl, rowMajor_val2 _ 1024 rfl]
    show (8 * b.val + r.val) * 1024 + j.val = b.val * 8192 + r.val * 1024 + j.val
    omega

/-- A token's row in the flat array, after the reshape and the slice. -/
theorem part1664 (y : S256x1664.Idx → EReal) (b : Fin 32) (r : Fin 4) (j : Fin 1664) :
    (extractStridedSlice S32x4x1664 ![0, 0, 0] (shapeCast S32x8x1664 y shapeCasts_S256x1664_S32x8x1664 : S32x8x1664.Idx → EReal) slices_S32x8x1664_S32x4x1664_0_0_0 : S32x4x1664.Idx → EReal) (ix3 b r j) =
      y (ix2 (rowOf b r) j) := by
  refine (?_ : _ = (shapeCast S32x8x1664 y shapeCasts_S256x1664_S32x8x1664 : S32x8x1664.Idx → EReal) (ix3 b (⟨r.val, by omega⟩ : Fin 8) j)).trans ?_
  · generalize (shapeCast S32x8x1664 y shapeCasts_S256x1664_S32x8x1664 : S32x8x1664.Idx → EReal) = z
    pointwise
  · refine shapeCast_apply _ _ _ _ ?_
    rw [rowMajor_val3 _ 13312 1664 rfl rfl, rowMajor_val2 _ 1664 rfl]
    show (8 * b.val + r.val) * 1664 + j.val = b.val * 13312 + r.val * 1664 + j.val
    omega

variable (m : (ℓ : Loc nD τ sig) → Buf (Elt Ideal) ℓ)

theorem result22 (c : Dev nD) : (Pipeline.afterTail₀ cfgs (dats m) 0 (V0 m) [hostOps1] c main_v22 : Vec Ideal S32x4x512 .bf16) =
    Cert.Reference4Ideal.Read.val_main_v42 (F := Ideal) (argX m c) (argC m c) (argG m c) (argW m c) := by
  rw [tail22]
  funext i
  obtain ⟨b, r, j, rfl⟩ : ∃ (b : Fin 32) (r : Fin 4) (j : Fin 512), i = ix3 b r j := ⟨i 0, i 1, i 2, (ix3_eta i).symm⟩
  refine (part512 _ b r j).trans ?_
  rw [arr4_eq]
  refine (out4_apply _ _ _ _ (rowOf b r) j).trans (Eq.trans ?_ (Cert.Reference4Ideal.Spec.v42_apply (argX m c) (argC m c) (argG m c) (argW m c) b r j).symm)
  exact congrArg (· * Ideal.ofBits .f32 0x3E000000#32) (row_eq m c pt b r j.val (by omega))

theorem result24 (c : Dev nD) : (Pipeline.afterTail₀ cfgs (dats m) 0 (V0 m) [hostOps1] c main_v24 : Vec Ideal S32x4x512 .f32) =
    Cert.Reference4Ideal.Read.val_main_v28 (F := Ideal) (argX m c) (argC m c) (argG m c) (argW m c) := by
  rw [tail24]
  funext i
  obtain ⟨b, r, j, rfl⟩ : ∃ (b : Fin 32) (r : Fin 4) (j : Fin 512), i = ix3 b r j := ⟨i 0, i 1, i 2, (ix3_eta i).symm⟩
  refine (part512 _ b r j).trans ?_
  rw [arr5_eq]
  refine (out5_apply _ _ _ _ (rowOf b r) j).trans (Eq.trans ?_ (Cert.Reference4Ideal.Spec.v28_apply (argX m c) (argC m c) (argG m c) (argW m c) b r j).symm)
  exact row_eq m c pt b r (512 + j.val) (by omega)

theorem result26 (c : Dev nD) : (Pipeline.afterTail₀ cfgs (dats m) 0 (V0 m) [hostOps1] c main_v26 : Vec Ideal S32x4x512 .f32) =
    Cert.Reference4Ideal.Read.val_main_v29 (F := Ideal) (argX m c) (argC m c) (argG m c) (argW m c) := by
  rw [tail26]
  funext i
  obtain ⟨b, r, j, rfl⟩ : ∃ (b : Fin 32) (r : Fin 4) (j : Fin 512), i = ix3 b r j := ⟨i 0, i 1, i 2, (ix3_eta i).symm⟩
  refine (part512 _ b r j).trans ?_
  rw [arr6_eq]
  refine (out6_apply _ _ _ _ (rowOf b r) j).trans (Eq.trans ?_ (Cert.Reference4Ideal.Spec.v29_apply (argX m c) (argC m c) (argG m c) (argW m c) b r j).symm)
  exact row_eq m c pt b r (1024 + j.val) (by omega)

theorem result28 (c : Dev nD) : (Pipeline.afterTail₀ cfgs (dats m) 0 (V0 m) [hostOps1] c main_v28 : Vec Ideal S32x4x1024 .f32) =
    Cert.Reference4Ideal.Read.val_main_v43 (F := Ideal) (argX m c) (argC m c) (argG m c) (argW m c) := by
  rw [tail28]
  funext i
  obtain ⟨b, r, j, rfl⟩ : ∃ (b : Fin 32) (r : Fin 4) (j : Fin 1024), i = ix3 b r j := ⟨i 0, i 1, i 2, (ix3_eta i).symm⟩
  refine (part1024 _ b r j).trans ?_
  rw [arr9_eq]
  refine (out9_apply _ _ _ _ (rowOf b r) j).trans (Eq.trans ?_ (Cert.Reference4Ideal.Spec.v43_apply (argX m c) (argC m c) (argG m c) (argW m c) b r j).symm)
  exact row_eq m c pt b r (1536 + j.val) (by omega)

theorem result31 (c : Dev nD) : (Pipeline.afterTail₀ cfgs (dats m) 0 (V0 m) [hostOps1] c main_v31 : Vec Ideal S32x4x1552 .f32) =
    Cert.Reference4Ideal.Read.val_main_v44 (F := Ideal) (argX m c) (argC m c) (argG m c) (argW m c) := by
  rw [tail31]
  funext i
  obtain ⟨b, r, j, rfl⟩ : ∃ (b : Fin 32) (r : Fin 4) (j : Fin 1552), i = ix3 b r j := ⟨i 0, i 1, i 2, (ix3_eta i).symm⟩
  refine (?_ : _ = (extractStridedSlice S32x4x1664 ![0, 0, 0] (shapeCast S32x8x1664 ((dats m 0 c).arrAt 10 cfg0.N : S256x1664.Idx → EReal) shapeCasts_S256x1664_S32x8x1664 : S32x8x1664.Idx → EReal)
    slices_S32x8x1664_S32x4x1664_0_0_0 : S32x4x1664.Idx → EReal) (ix3 b r (⟨j.val, by omega⟩ : Fin 1664))).trans ?_
  · generalize (extractStridedSlice S32x4x1664 ![0, 0, 0] (shapeCast S32x8x1664 ((dats m 0 c).arrAt 10 cfg0.N : S256x1664.Idx → EReal) shapeCasts_S256x1664_S32x8x1664 : S32x8x1664.Idx → EReal)
    slices_S32x8x1664_S32x4x1664_0_0_0 : S32x4x1664.Idx → EReal) = z
    pointwise
  refine (part1664 _ b r _).trans ?_
  rw [arr10_eq]
  refine (out10_apply _ _ _ _ (rowOf b r) (⟨j.val, by omega⟩ : Fin 1664)).trans (Eq.trans ?_ (Cert.Reference4Ideal.Spec.v44_apply (argX m c) (argC m c) (argG m c) (argW m c) b r j).symm)
  exact row_eq m c pt b r (2560 + j.val) (by omega)

theorem algebraic : @Cert.algebraic_Kernel4Ideal_Reference4Ideal Cert.Kernel4Ideal.Gen.facts Cert.Reference4Ideal.Gen.facts := by
  intro m g m' g' hpre hag
  refine ⟨fun c => Cert.Reference4Ideal.Read.val_main_v42 (F := Ideal) (argX m c) (argC m c) (argG m c) (argW m c), fun c => Cert.Reference4Ideal.Read.val_main_v28 (F := Ideal) (argX m c) (argC m c) (argG m c) (argW m c), fun c => Cert.Reference4Ideal.Read.val_main_v29 (F := Ideal) (argX m c) (argC m c) (argG m c) (argW m c), fun c => Cert.Reference4Ideal.Read.val_main_v43 (F := Ideal) (argX m c) (argC m c) (argG m c) (argW m c), fun c => Cert.Reference4Ideal.Read.val_main_v44 (F := Ideal) (argX m c) (argC m c) (argG m c) (argW m c), ?_, ?_⟩
  · exact (θ_run Cert.Kernel4Ideal.defs _ _).mono (fun r h c => ⟨((h c).2 main_v22 (Pipeline.mem_restRefs_of main_v22 (by decide) (by decide))).trans (result22 m c), ((h c).2 main_v24 (Pipeline.mem_restRefs_of main_v24 (by decide) (by decide))).trans (result24 m c), ((h c).2 main_v26 (Pipeline.mem_restRefs_of main_v26 (by decide) (by decide))).trans (result26 m c), ((h c).2 main_v28 (Pipeline.mem_restRefs_of main_v28 (by decide) (by decide))).trans (result28 m c), ((h c).2 main_v31 (Pipeline.mem_restRefs_of main_v31 (by decide) (by decide))).trans (result31 m c), ((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c), ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c)⟩) (run_main (F := Ideal) m g)
  · refine (θ_run Cert.Reference4Ideal.defs _ _).mono (fun r h c => ?_) (Cert.Reference4Ideal.Value.run (F := Ideal) m' g')
    obtain ⟨e0, e1, e2, e3⟩ := hag c
    obtain ⟨h0, h1, h2, h3, h4, ha⟩ := h c
    rw [Cert.Reference4Ideal.Read.val_main_v42_eq, e0, e1, e2, e3] at h0
    rw [Cert.Reference4Ideal.Read.val_main_v28_eq, e0, e1, e2, e3] at h1
    rw [Cert.Reference4Ideal.Read.val_main_v29_eq, e0, e1, e2, e3] at h2
    rw [Cert.Reference4Ideal.Read.val_main_v43_eq, e0, e1, e2, e3] at h3
    rw [Cert.Reference4Ideal.Read.val_main_v44_eq, e0, e1, e2, e3] at h4
    exact ⟨h0, h1, h2, h3, h4, ha⟩

end Cert.Kernel4Ideal.Spec
-- ==== Proof.LastBlock.lean ====
/- What the sample's last feed-forward call's body leaves in its result's block, at an index. -/
module

public import proofs.«01_k».proof.Proof.Parts
public import proofs.«01_k».proof.Proof.Gen.Kernel5Ideal.Frame
public import Idealize.ShloMosaic.Lib.Pipeline.ValueKit

@[expose] public section

set_option maxRecDepth 16384

noncomputable section

namespace Cert.Kernel5Ideal.Spec

open Cert.Kernel5Ideal Cert.Kernel5Ideal.Gen
open Idealize.ShloMosaic Idealize.ShloMosaic.TcCoe
open Cert.Rows

theorem pay1_apply (x : Vec Ideal S256x1024 .f32) (g : Vec Ideal S1x1024 .f32) (sh sc : Vec Ideal S1x256x1024 .f32) (r : Fin 256) (j : Fin 1024) :
    (k0_pay1 x g sh sc : FVec Ideal S256x1024 .bf16) (ix2 r j) =
      modded (fun k => x (ix2 r k)) (fun k => g (ix2 (n0 := 1) 0 k)) (fun k => sh (ix3 (n0 := 1) 0 r k)) (fun k => sc (ix3 (n0 := 1) 0 r k)) j := by
  pointwise [k0_pay1, modded, normed, scaleOf]

theorem pay4_apply (x : Vec Ideal S256x1024 .f32) (gate : Vec Ideal S1x256x1024 .f32) (acc : Vec Ideal S256x1024 .f32) (g : Vec Ideal S1x1024 .f32) (r : Fin 256) (j : Fin 1024) :
    (k0_pay4 x gate acc g : FVec Ideal S256x1024 .f32) (ix2 r j) =
      normed (fun k => x (ix2 r k) + gate (ix3 (n0 := 1) 0 r k) * acc (ix2 r k)) (fun k => g (ix2 (n0 := 1) 0 k)) j := by
  pointwise [k0_pay4, normed, scaleOf]

theorem pay3_apply (h : Vec Ideal S256x1024 .bf16) (Wg Wu : Vec Ideal S1024x2816 .bf16) (Wd : Vec Ideal S2816x1024 .bf16) (r : Fin 256) (j : Fin 1024) :
    (k0_pay3 h Wg Wu (k0_pay2 (F := Ideal)) Wd : FVec Ideal S256x1024 .f32) (ix2 r j) =
      rowMul (gated (fun k => h (ix2 r k)) (fun k f => Wg (ix2 k f)) (fun k f => Wu (ix2 k f))) (fun f k => Wd (ix2 f k)) j := by
  have e0 : Ideal.ofBits .f32 0x00000000#32 = 0 := by simp [Ideal.ofBits, Ideal.ieee]
  pointwise [k0_pay3, k0_pay2, gated, rowMul, e0]

end Cert.Kernel5Ideal.Spec
-- ==== Proof.LastFound.lean ====
/- The block the sample's last feed-forward call's run found, as its stored value. -/
module

public import proofs.«01_k».proof.Proof.LastBlock
public import proofs.«01_k».proof.Proof.Gen.Kernel5Ideal.Frame

@[expose] public section

set_option maxRecDepth 16384

noncomputable section

namespace Cert.Kernel5Ideal.Spec

open Cert.Kernel5Ideal Cert.Kernel5Ideal.Gen
open Idealize.ShloMosaic Idealize.ShloMosaic.TcCoe

theorem zero2 : (![0, 0] : Fin 2 → Nat) = fun _ => 0 := funext fun a => by fin_cases a <;> rfl

/-- A load of a whole buffer after stores to the whole of it reads the last one. -/
theorem readCov_last {S : Shape} {e : EltTy} {sp : Space} (v : View sig .tc sp S e) {off : Fin S.rank → Nat} (h : off = fun _ => 0)
    (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The block's stored value, from the seven windows. -/
def blockOf (x0 : Vec Ideal S256x1024 .f32) (x1 : Vec Ideal S6x256x1024 .f32) (x2 : Vec Ideal S1x1024 .f32) (x3 x4 : Vec Ideal S1024x2816 .bf16)
    (x5 : Vec Ideal S2816x1024 .bf16) (x6 : Vec Ideal S1x1024 .f32) : FVec Ideal S256x1024 .f32 :=
  k0_pay4 x0 (View.ld x1 (Rect.unit (s := S6x256x1024) ![5, 0, 0] S1x256x1024.size inb_S6x256x1024_S1x256x1024_5_0_0))
    (k0_pay3 (k0_pay1 x0 x2 (View.ld x1 (Rect.unit (s := S6x256x1024) ![3, 0, 0] S1x256x1024.size inb_S6x256x1024_S1x256x1024_3_0_0))
      (View.ld x1 (Rect.unit (s := S6x256x1024) ![4, 0, 0] S1x256x1024.size inb_S6x256x1024_S1x256x1024_4_0_0))) x3 x4 (k0_pay2 (F := Ideal)) x5) x6

variable (m : (ℓ : Loc nD τ sig) → Buf (Elt Ideal) ℓ)

theorem found_eq (c : Dev nD) (t : Fin cfg0.N) :
    outsAt0 m c t = blockOf (iblk m c 0 t) (iblk m c 1 t) (iblk m c 2 t) (iblk m c 3 t) (iblk m c 4 t) (iblk m c 5 t) (iblk m c 6 t) := by
  unfold outsAt0 out0_A_7
  rw [View.read_writes_eq_canon _ _ _ (cover0_A_7 c _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread]
  rw [View.canon_unit_zero (S := S256x1024) zero2]
  simp only [View.readCov_unit_zero (S := S256x1024) _ zero2, View.ld_unit_zero (S := S256x1024) zero2, View.ld_unit_zero (S := S1x1024) zero2,
    View.ld_unit_zero (S := S1024x2816) zero2, View.ld_unit_zero (S := S2816x1024) zero2]
  rw [readCov_last (S := S256x1024) _ zero2]
  rfl

end Cert.Kernel5Ideal.Spec
-- ==== Proof.LastRef.lean ====
/- The reference of the sample's last feed-forward part, read at an index. -/
module

public import proofs.«01_k».proof.Proof.Parts
public import proofs.«01_k».proof.Proof.Gen.Reference5Ideal.Read

@[expose] public section

set_option maxRecDepth 16384

noncomputable section

namespace Cert.Reference5Ideal.Spec

open Cert.Reference5Ideal Cert.Reference5Ideal.Read
open Idealize.ShloMosaic Idealize.ShloMosaic.TcCoe
open Cert.Rows

theorem v25_apply (x : FVec Ideal S32x4x1024 .f32) (c : FVec Ideal S32x6144 .f32) (g : FVec Ideal S1024 .f32) (b : Fin 32) (r : Fin 4) (j : Fin 1024) :
    val_main_v25 (F := Ideal) x c g (ix3 b r j) =
      modded (fun k => x (ix3 b r k)) (fun k => g (ix1 k)) (chunk (fun n => c (ix2 b n)) 3) (chunk (fun n => c (ix2 b n)) 4) j := by
  pointwise [val_main_v25, val_main_v24, val_main_v23, val_main_v22, val_main_v21, val_main_v20, val_main_cst_2, val_main_v19, val_main_v18, val_main_v17,
    val_main_v16, val_main_v15, val_main_v14, val_main_v13, val_main_v12, val_main_cst_1, val_main_v11, val_main_v10, val_main_cst_0, val_main_v9, val_main_v8,
    val_main_cst, val_main_v7, val_main_v5, val_main_v4, val_main_v0, modded, normed, scaleOf]
  rw [chunk_at (fun n => c (ix2 b n)) 4 j _ _ rfl, chunk_at (fun n => c (ix2 b n)) 3 j _ _ rfl]

theorem v29_apply (x : FVec Ideal S32x4x1024 .f32) (c : FVec Ideal S32x6144 .f32) (g : FVec Ideal S1024 .f32) (Wg Wu : FVec Ideal S1024x2816 .f32)
    (b : Fin 32) (r : Fin 4) (f : Fin 2816) :
    val_main_v29 (F := Ideal) x c g Wg Wu (ix3 b r f) =
      gated (modded (fun k => x (ix3 b r k)) (fun k => g (ix1 k)) (chunk (fun n => c (ix2 b n)) 3) (chunk (fun n => c (ix2 b n)) 4)) (fun k f => Wg (ix2 k f)) (fun k f => Wu (ix2 k f)) f := by
  have e : ∀ j, val_main_v25 (F := Ideal) x c g (ix3 b r j) = _ := v25_apply x c g b r
  pointwise [val_main_v29, val_main_v28, val_main_v27, val_main_call0_v5, val_main_call0_v4, val_main_call0_v3, val_main_call0_v2, val_main_call0_cst,
    val_main_call0_cst_0, val_main_call0_v1, val_main_call0_v0, val_main_v26, gated, rowMul, Ideal.logistic, e]

theorem v33_apply (x : FVec Ideal S32x4x1024 .f32) (c : FVec Ideal S32x6144 .f32) (g : FVec Ideal S1024 .f32) (Wg Wu : FVec Ideal S1024x2816 .f32)
    (Wd : FVec Ideal S2816x1024 .f32) (b : Fin 32) (r : Fin 4) (j : Fin 1024) :
    val_main_v33 (F := Ideal) x c g Wg Wu Wd (ix3 b r j) =
      stepped (fun k => x (ix3 b r k)) (fun k => g (ix1 k)) (chunk (fun n => c (ix2 b n)) 3) (chunk (fun n => c (ix2 b n)) 4) (chunk (fun n => c (ix2 b n)) 5) (fun k f => Wg (ix2 k f)) (fun k f => Wu (ix2 k f))
        (fun f k => Wd (ix2 f k)) j := by
  have e : ∀ f, val_main_v29 (F := Ideal) x c g Wg Wu (ix3 b r f) = _ := v29_apply x c g Wg Wu b r
  pointwise [val_main_v33, val_main_v32, val_main_v31, val_main_v30, val_main_v6, val_main_v0, stepped, rowMul, e]
  rw [chunk_at (fun n => c (ix2 b n)) 5 j _ _ rfl]

theorem v46_apply (x : FVec Ideal S32x4x1024 .f32) (c : FVec Ideal S32x6144 .f32) (g : FVec Ideal S1024 .f32) (Wg Wu : FVec Ideal S1024x2816 .f32)
    (Wd : FVec Ideal S2816x1024 .f32) (gl : FVec Ideal S1024 .f32) (b : Fin 32) (r : Fin 4) (j : Fin 1024) :
    val_main_v46 (F := Ideal) x c g Wg Wu Wd gl (ix3 b r j) =
      normed (stepped (fun k => x (ix3 b r k)) (fun k => g (ix1 k)) (chunk (fun n => c (ix2 b n)) 3) (chunk (fun n => c (ix2 b n)) 4) (chunk (fun n => c (ix2 b n)) 5) (fun k f => Wg (ix2 k f)) (fun k f => Wu (ix2 k f))
        (fun f k => Wd (ix2 f k))) (fun k => gl (ix1 k)) j := by
  have e : ∀ j, val_main_v33 (F := Ideal) x c g Wg Wu Wd (ix3 b r j) = _ := v33_apply x c g Wg Wu Wd b r
  pointwise [val_main_v46, val_main_v45, val_main_v44, val_main_v43, val_main_v42, val_main_v41, val_main_v40, val_main_v39, val_main_cst_5, val_main_v38,
    val_main_v37, val_main_cst_4, val_main_v36, val_main_v35, val_main_cst_3, val_main_v34, normed, scaleOf, e]

/-- The row the last feed-forward part and the last norm make of a token's row. -/
def lastRow (x : FVec Ideal S32x4x1024 .f32) (c : FVec Ideal S32x6144 .f32) (g : FVec Ideal S1024 .f32) (Wg Wu : FVec Ideal S1024x2816 .f32)
    (Wd : FVec Ideal S2816x1024 .f32) (gl : FVec Ideal S1024 .f32) (b : Fin 32) (r : Fin 4) (j : Fin 1024) : EReal :=
  normed (stepped (fun k => x (ix3 b r k)) (fun k => g (ix1 k)) (chunk (fun n => c (ix2 b n)) 3) (chunk (fun n => c (ix2 b n)) 4) (chunk (fun n => c (ix2 b n)) 5)
    (fun k f => Wg (ix2 k f)) (fun k f => Wu (ix2 k f)) (fun f k => Wd (ix2 f k))) (fun k => gl (ix1 k)) j

end Cert.Reference5Ideal.Spec
-- ==== Proof.LastArray.lean ====
/- The sample's last feed-forward call's result array, at the rows of the tokens that are no padding. -/
module

public import proofs.«01_k».proof.Proof.LastFound
public import proofs.«01_k».proof.Proof.LastRef
public import proofs.«01_k».proof.Proof.InArray
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel5Ideal.Spec

open Cert.Kernel5Ideal Cert.Kernel5Ideal.Gen
open Idealize.ShloMosaic Idealize.ShloMosaic.TcCoe Idealize.ShloMosaic.Tactic
open Idealize.SL Idealize.SL.Sem
open Cert.Rows
open Cert.Kernel4Ideal.Spec (rowOf x_at c_at)
open Cert.Reference5Ideal.Spec (lastRow)

variable (m : (ℓ : Loc nD τ sig) → Buf (Elt Ideal) ℓ)

/-- The seven arguments as device `c` holds them. -/
def argX (c : Dev nD) : FVec Ideal S32x4x1024 .f32 := m ((c.tc : Thread nD τ).loc main_arg0)
def argC (c : Dev nD) : FVec Ideal S32x6144 .f32 := m ((c.tc : Thread nD τ).loc main_arg1)
def argG (c : Dev nD) : FVec Ideal S1024 .f32 := m ((c.tc : Thread nD τ).loc main_arg2)
def argWg (c : Dev nD) : FVec Ideal S1024x2816 .f32 := m ((c.tc : Thread nD τ).loc main_arg3)
def argWu (c : Dev nD) : FVec Ideal S1024x2816 .f32 := m ((c.tc : Thread nD τ).loc main_arg4)
def argWd (c : Dev nD) : FVec Ideal S2816x1024 .f32 := m ((c.tc : Thread nD τ).loc main_arg5)
def argL (c : Dev nD) : FVec Ideal S1024 .f32 := m ((c.tc : Thread nD τ).loc main_arg6)

theorem V1_eq (c : Dev nD) : V m c main_v1 = (shapeCast S256x1024 (pad S32x8x1024 ![0, 0, 0] ![0, 4, 0] ![0, 0, 0] (argX m c) (sitofp .f32 (constantI S_ 32 0#32) : FVec Ideal S_ .f32) pads_S32x4x1024_S32x8x1024_000_040_000 h_S_ : FVec Ideal S32x8x1024 .f32) shapeCasts_S32x8x1024_S256x1024 : FVec Ideal S256x1024 .f32) := by
  entry_read
  rfl

theorem V5_eq (c : Dev nD) : V m c main_v5 = (transpose S6x256x1024 [1, 0, 2] (shapeCast S256x6x1024 (broadcastInDim S32x8x6x1024 ![0, 2, 3] bcast_S32x6x1024_S32x8x6x1024_0_2_3 (shapeCast S32x6x1024 (argC m c) shapeCasts_S32x6144_S32x6x1024 : FVec Ideal S32x6x1024 .f32) : FVec Ideal S32x8x6x1024 .f32) shapeCasts_S32x8x6x1024_S256x6x1024 : FVec Ideal S256x6x1024 .f32) transposes_S256x6x1024_S6x256x1024_1_0_2 : FVec Ideal S6x256x1024 .f32) := by
  entry_read
  rfl

theorem V6_eq (c : Dev nD) : V m c main_v6 = (shapeCast S1x1024 (argG m c) shapeCasts_S1024_S1x1024 : FVec Ideal S1x1024 .f32) := by
  entry_read
  rfl
theorem V7_eq (c : Dev nD) : V m c main_v7 = (truncf .bf16 (argWg m c) bitsLt_bf16_f32 : FVec Ideal S1024x2816 .bf16) := by
  entry_read
  rfl
theorem V8_eq (c : Dev nD) : V m c main_v8 = (truncf .bf16 (argWu m c) bitsLt_bf16_f32 : FVec Ideal S1024x2816 .bf16) := by
  entry_read
  rfl
theorem V9_eq (c : Dev nD) : V m c main_v9 = (truncf .bf16 (argWd m c) bitsLt_bf16_f32 : FVec Ideal S2816x1024 .bf16) := by
  entry_read
  rfl
theorem V10_eq (c : Dev nD) : V m c main_v10 = (shapeCast S1x1024 (argL m c) shapeCasts_S1024_S1x1024 : FVec Ideal S1x1024 .f32) := by
  entry_read
  rfl

theorem idx_all : ∀ t : Fin grid0.N, win0_0.index t = ![0, 0] ∧ win0_1.index t = ![0, 0, 0] ∧ win0_2.index t = ![0, 0] ∧ win0_3.index t = ![0, 0] ∧
    win0_4.index t = ![0, 0] ∧ win0_5.index t = ![0, 0] ∧ win0_6.index t = ![0, 0] ∧ win0_7.index t = ![0, 0] := by
  decide +kernel

theorem blk0 (c : Dev nD) (t : Fin cfg0.N) (b : Fin 32) (r : Fin 4) (k : Fin 1024) :
    (iblk m c 0 t : Vec Ideal S256x1024 .f32) (ix2 (rowOf b r) k) = argX m c (ix3 b r k) := by
  have e : (iblk m c 0 t : Vec Ideal S256x1024 .f32) (ix2 (rowOf b r) k) = (V m c main_v1 : FVec Ideal S256x1024 .f32) (ix2 (rowOf b r) k) := by
    blk_ext [iblk, (idx_all t).1]
  rw [e, V1_eq]
  exact x_at _ _ b r k

theorem blk1 (c : Dev nD) (t : Fin cfg0.N) (b : Fin 32) (r : Fin 4) (p : Fin 6) (k : Fin 1024) :
    (iblk m c 1 t : Vec Ideal S6x256x1024 .f32) (ix3 p (rowOf b r) k) = chunk (fun n => argC m c (ix2 b n)) p.val k := by
  have e : (iblk m c 1 t : Vec Ideal S6x256x1024 .f32) (ix3 p (rowOf b r) k) = (V m c main_v5 : FVec Ideal S6x256x1024 .f32) (ix3 p (rowOf b r) k) := by
    blk_ext [iblk, (idx_all t).2.1]
  rw [e, V5_eq]
  exact c_at _ b r p k

theorem blk2 (c : Dev nD) (t : Fin cfg0.N) (k : Fin 1024) : (iblk m c 2 t : Vec Ideal S1x1024 .f32) (ix2 (n0 := 1) 0 k) = argG m c (ix1 k) := by
  have e : (iblk m c 2 t : Vec Ideal S1x1024 .f32) (ix2 (n0 := 1) 0 k) = (V m c main_v6 : FVec Ideal S1x1024 .f32) (ix2 (n0 := 1) 0 k) := by
    blk_ext [iblk, (idx_all t).2.2.1]
  rw [e, V6_eq]
  pointwise

theorem blk3 (c : Dev nD) (t : Fin cfg0.N) (k : Fin 1024) (f : Fin 2816) :
    (iblk m c 3 t : Vec Ideal S1024x2816 .bf16) (ix2 k f) = argWg m c (ix2 k f) := by
  have e : (iblk m c 3 t : Vec Ideal S1024x2816 .bf16) (ix2 k f) = (V m c main_v7 : FVec Ideal S1024x2816 .bf16) (ix2 k f) := by
    blk_ext [iblk, (idx_all t).2.2.2.1]
  rw [e, V7_eq]
  rfl

theorem blk4 (c : Dev nD) (t : Fin cfg0.N) (k : Fin 1024) (f : Fin 2816) :
    (iblk m c 4 t : Vec Ideal S1024x2816 .bf16) (ix2 k f) = argWu m c (ix2 k f) := by
  have e : (iblk m c 4 t : Vec Ideal S1024x2816 .bf16) (ix2 k f) = (V m c main_v8 : FVec Ideal S1024x2816 .bf16) (ix2 k f) := by
    blk_ext [iblk, (idx_all t).2.2.2.2.1]
  rw [e, V8_eq]
  rfl

theorem blk5 (c : Dev nD) (t : Fin cfg0.N) (f : Fin 2816) (k : Fin 1024) :
    (iblk m c 5 t : Vec Ideal S2816x1024 .bf16) (ix2 f k) = argWd m c (ix2 f k) := by
  have e : (iblk m c 5 t : Vec Ideal S2816x1024 .bf16) (ix2 f k) = (V m c main_v9 : FVec Ideal S2816x1024 .bf16) (ix2 f k) := by
    blk_ext [iblk, (idx_all t).2.2.2.2.2.1]
  rw [e, V9_eq]
  rfl

theorem blk6 (c : Dev nD) (t : Fin cfg0.N) (k : Fin 1024) : (iblk m c 6 t : Vec Ideal S1x1024 .f32) (ix2 (n0 := 1) 0 k) = argL m c (ix1 k) := by
  have e : (iblk m c 6 t : Vec Ideal S1x1024 .f32) (ix2 (n0 := 1) 0 k) = (V m c main_v10 : FVec Ideal S1x1024 .f32) (ix2 (n0 := 1) 0 k) := by
    blk_ext [iblk, (idx_all t).2.2.2.2.2.2.1]
  rw [e, V10_eq]
  pointwise

/-- One part of the conditioning's block, loaded by itself. -/
theorem ld_part (x1 : Vec Ideal S6x256x1024 .f32) (n : Nat) (h : n < 6) (inb : ∀ a, (![n, 0, 0] : Fin 3 → Nat) a + (![1, 256, 1024] : Fin 3 → Nat) a ≤ S6x256x1024.size a)
    (r : Fin 256) (k : Fin 1024) :
    (View.ld x1 (Rect.unit (s := S6x256x1024) ![n, 0, 0] ![1, 256, 1024] inb) : Vec Ideal S1x256x1024 .f32) (ix3 (n0 := 1) 0 r k) =
      x1 (ix3 (⟨n, h⟩ : Fin 6) r k) := by
  refine congrArg x1 (funext fun a => Fin.ext ?_)
  match a with
  | ⟨0, _⟩ => rfl
  | ⟨1, _⟩ => show 0 + 1 * r.val = r.val; omega
  | ⟨2, _⟩ => show 0 + 1 * k.val = k.val; omega

/-- The three payloads one after the other, at an index. -/
theorem pays_apply (x0 : Vec Ideal S256x1024 .f32) (x2 x6 : Vec Ideal S1x1024 .f32) (x3 x4 : Vec Ideal S1024x2816 .bf16) (x5 : Vec Ideal S2816x1024 .bf16)
    (sh sc gt : Vec Ideal S1x256x1024 .f32) (r : Fin 256) (j : Fin 1024) :
    (k0_pay4 x0 gt (k0_pay3 (k0_pay1 x0 x2 sh sc) x3 x4 (k0_pay2 (F := Ideal)) x5) x6 : FVec Ideal S256x1024 .f32) (ix2 r j) =
      normed (stepped (fun k => x0 (ix2 r k)) (fun k => x2 (ix2 (n0 := 1) 0 k)) (fun k => sh (ix3 (n0 := 1) 0 r k))
        (fun k => sc (ix3 (n0 := 1) 0 r k)) (fun k => gt (ix3 (n0 := 1) 0 r k)) (fun k f => x3 (ix2 k f)) (fun k f => x4 (ix2 k f))
        (fun f k => x5 (ix2 f k))) (fun k => x6 (ix2 (n0 := 1) 0 k)) j := by
  rw [pay4_apply]
  simp only [pay3_apply, pay1_apply]
  rfl

theorem block_apply (c : Dev nD) (t : Fin cfg0.N) (b : Fin 32) (r : Fin 4) (j : Fin 1024) :
    (outsAt0 m c t : Vec Ideal S256x1024 .f32) (ix2 (rowOf b r) j) =
      lastRow (argX m c) (argC m c) (argG m c) (argWg m c) (argWu m c) (argWd m c) (argL m c) b r j := by
  have h3 := fun k => (ld_part (iblk m c 1 t) 3 (by decide) inb_S6x256x1024_S1x256x1024_3_0_0 (rowOf b r) k).trans (blk1 m c t b r 3 k)
  have h4 := fun k => (ld_part (iblk m c 1 t) 4 (by decide) inb_S6x256x1024_S1x256x1024_4_0_0 (rowOf b r) k).trans (blk1 m c t b r 4 k)
  have h5 := fun k => (ld_part (iblk m c 1 t) 5 (by decide) inb_S6x256x1024_S1x256x1024_5_0_0 (rowOf b r) k).trans (blk1 m c t b r 5 k)
  rw [found_eq]
  refine (pays_apply _ _ _ _ _ _ _ _ _ (rowOf b r) j).trans ?_
  simp only [blk0, blk2, blk3, blk4, blk5, blk6]
  exact congr (congrArg normed (congr (congr (congr (congr (congr (congrArg (stepped _ _) (funext h3)) (funext h4)) (funext h5)) rfl) rfl) rfl)) rfl |> fun h => congrFun h j

/-- The call's one point. -/
abbrev pt : Fin cfg0.N := ⟨0, by decide⟩

theorem pt_eq : ∀ t : Fin cfg0.N, t = pt := by decide +kernel

theorem arr_eq (c : Dev nD) : ((dats m 0 c).arrAt 7 cfg0.N : Vec Ideal S256x1024 .f32) = outsAt0 m c pt := by
  refine (dats m 0 c).arrAt_eq_of_covers 7 _ (by decide +kernel) fun t hf y => ?_
  obtain rfl := pt_eq t
  blk_simp
  rw [after0_7]
  obtain ⟨r, j, rfl⟩ : ∃ (r : Fin 256) (j : Fin 1024), y = ix2 r j := ⟨y 0, y 1, (ix2_eta y).symm⟩
  generalize (outsAt0 m c pt : Vec Ideal S256x1024 .f32) = o
  blk_ext [(idx_all pt).2.2.2.2.2.2.2]

theorem tail13 (c : Dev nD) : (Pipeline.afterTail₀ cfgs (dats m) 0 (V0 m) [hostOps1] c main_v13 : Vec Ideal S32x4x1024 .f32) =
    (extractStridedSlice S32x4x1024 ![0, 0, 0] (shapeCast S32x8x1024 ((dats m 0 c).arrAt 7 cfg0.N : Vec Ideal S256x1024 .f32) shapeCasts_S256x1024_S32x8x1024 : Vec Ideal S32x8x1024 .f32) slices_S32x8x1024_S32x4x1024_0_0_0 : Vec Ideal S32x4x1024 .f32) := by
  unfold Pipeline.afterTail₀
  simp only [hostOps1, StableHlo.after_cons, StableHlo.after_nil, List.flatten_cons, List.flatten_nil, List.append_nil, List.cons_append, List.nil_append]
  refine (StableHlo.unary_result _ _ _ _ _ _).trans ?_
  refine congrArg (fun z : Vec Ideal S32x8x1024 .f32 => (extractStridedSlice S32x4x1024 ![0, 0, 0] z slices_S32x8x1024_S32x4x1024_0_0_0 : Vec Ideal S32x4x1024 .f32)) ?_
  refine (StableHlo.reshape_result _ _ _ _ _ _ _).trans ?_
  refine congrArg (fun z : Vec Ideal S256x1024 .f32 => (shapeCast S32x8x1024 z shapeCasts_S256x1024_S32x8x1024 : Vec Ideal S32x8x1024 .f32)) ?_
  exact Pipeline.withArrays_arr spec0 (by decide) c (V0 m c) _ 7

end Cert.Kernel5Ideal.Spec
-- ==== Proof.LastAgree.lean ====
/- The sample's last feed-forward call and its reference end with the same result. -/
module

public import proofs.«01_k».proof.Defs
public import proofs.«01_k».proof.Proof.LastArray
public import proofs.«01_k».proof.Proof.InAgree
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run

@[expose] public section

set_option maxRecDepth 16384

noncomputable section

namespace Cert.Kernel5Ideal.Spec

open Cert.Kernel5Ideal Cert.Kernel5Ideal.Gen
open Idealize.ShloMosaic Idealize.ShloMosaic.TcCoe Idealize.SL.Sem
open Cert.Reference5Ideal.Spec (lastRow)
open Cert.Kernel4Ideal.Spec (rowOf part1024)

theorem frame_reference : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run (F := Ideal) m ρ)

variable (m : (ℓ : Loc nD τ sig) → Buf (Elt Ideal) ℓ)

theorem result13 (c : Dev nD) : (Pipeline.afterTail₀ cfgs (dats m) 0 (V0 m) [hostOps1] c main_v13 : Vec Ideal S32x4x1024 .f32) =
    Cert.Reference5Ideal.Read.val_main_v46 (F := Ideal) (argX m c) (argC m c) (argG m c) (argWg m c) (argWu m c) (argWd m c) (argL m c) := by
  rw [tail13]
  funext i
  obtain ⟨b, r, j, rfl⟩ : ∃ (b : Fin 32) (r : Fin 4) (j : Fin 1024), i = ix3 b r j := ⟨i 0, i 1, i 2, (ix3_eta i).symm⟩
  refine (part1024 _ b r j).trans ?_
  rw [arr_eq]
  exact (block_apply m c pt b r j).trans (Cert.Reference5Ideal.Spec.v46_apply (argX m c) (argC m c) (argG m c) (argWg m c) (argWu m c) (argWd m c) (argL m c) b r j).symm

theorem algebraic : @Cert.algebraic_Kernel5Ideal_Reference5Ideal Cert.Kernel5Ideal.Gen.facts Cert.Reference5Ideal.Gen.facts := by
  intro m g m' g' hpre hag
  refine ⟨fun c => Cert.Reference5Ideal.Read.val_main_v46 (F := Ideal) (argX m c) (argC m c) (argG m c) (argWg m c) (argWu m c) (argWd m c) (argL m c), ?_, ?_⟩
  · exact (θ_run Cert.Kernel5Ideal.defs _ _).mono (fun r h c => ⟨((h c).2 main_v13 (Pipeline.mem_restRefs_of main_v13 (by decide) (by decide))).trans (result13 m c), ((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c), ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c), ((h c).2 main_arg4 (Pipeline.mem_restRefs_of main_arg4 (by decide) (by decide))).trans (W_main_arg4 m (dats m) c), ((h c).2 main_arg5 (Pipeline.mem_restRefs_of main_arg5 (by decide) (by decide))).trans (W_main_arg5 m (dats m) c), ((h c).2 main_arg6 (Pipeline.mem_restRefs_of main_arg6 (by decide) (by decide))).trans (W_main_arg6 m (dats m) c)⟩) (run_main (F := Ideal) m g)
  · refine (θ_run Cert.Reference5Ideal.defs _ _).mono (fun r h c => ⟨(h c).1.trans ?_, (h c).2⟩) (Cert.Reference5Ideal.Value.run (F := Ideal) m' g')
    obtain ⟨e0, e1, e2, e3, e4, e5, e6⟩ := hag c
    rw [Cert.Reference5Ideal.Read.val_main_v46_eq, e0, e1, e2, e3, e4, e5, e6]
    rfl

end Cert.Kernel5Ideal.Spec
-- ==== Proof.SlabBlock.lean ====
/- What the prompt's in-projection leaves in its results' blocks, at an index. -/
module

public import proofs.«01_k».proof.Proof.Parts
public import proofs.«01_k».proof.Proof.Gen.Kernel6Ideal.Frame
public import Idealize.ShloMosaic.Lib.Pipeline.ValueKit

@[expose] public section

set_option maxRecDepth 16384

noncomputable section

namespace Cert.Kernel6Ideal.Spec

open Cert.Kernel6Ideal Cert.Kernel6Ideal.Gen
open Idealize.ShloMosaic Idealize.ShloMosaic.TcCoe
open Cert.Rows

/-- The norm of a block's row, with the batch's scale and shift. -/
theorem pay5_apply (x : Vec Ideal S512x1024 .f32) (g : Vec Ideal S1x1024 .f32) (sh sc : Vec Ideal S1x1x1024 .f32) (r : Fin 512) (j : Fin 1024) :
    (k0_pay5 x g sh sc : FVec Ideal S512x1024 .bf16) (ix2 r j) =
      modded (fun k => x (ix2 r k)) (fun k => g (ix2 (n0 := 1) 0 k)) (fun k => sh (ix3 (n0 := 1) (n1 := 1) 0 0 k)) (fun k => sc (ix3 (n0 := 1) (n1 := 1) 0 0 k)) j := by
  pointwise [k0_pay5, modded, normed, scaleOf]

theorem pay7_apply (x : Vec Ideal S512x1024 .f32) (g : Vec Ideal S1x1024 .f32) (sh sc : Vec Ideal S1x1x1024 .f32) (W : Vec Ideal S1024x512 .bf16)
    (r : Fin 512) (j : Fin 512) :
    (k0_pay7 x g sh sc W : FVec Ideal S512x512 .f32) (ix2 r j) =
      rowMul (fun k => (k0_pay5 x g sh sc : FVec Ideal S512x1024 .bf16) (ix2 r k)) (fun k f => W (ix2 k f)) j := by
  have e0 : Ideal.ofBits .f32 0x00000000#32 = 0 := by simp [Ideal.ofBits, Ideal.ieee]
  unfold k0_pay7
  generalize (k0_pay5 x g sh sc : FVec Ideal S512x1024 .bf16) = h
  pointwise [rowMul, e0]

theorem pay8_apply (h : FVec Ideal S512x1024 .bf16) (W : Vec Ideal S1024x512 .bf16) (r : Fin 512) (j : Fin 512) :
    (k0_pay8 h W : FVec Ideal S512x512 .f32) (ix2 r j) = rowMul (fun k => h (ix2 r k)) (fun k f => W (ix2 k f)) j := by
  have e0 : Ideal.ofBits .f32 0x00000000#32 = 0 := by simp [Ideal.ofBits, Ideal.ieee]
  pointwise [k0_pay8, rowMul, e0]

/-- A block of the slab is the product turned around. -/
theorem pay11_apply (y : FVec Ideal S512x512 .f32) (n r : Fin 512) :
    (k0_pay11 y : FVec Ideal S1x1x512x512 .f32) (ix4 (n0 := 1) (n1 := 1) 0 0 n r) = y (ix2 r n) := by
  pointwise [k0_pay11]

theorem pay12_apply (h : FVec Ideal S512x1024 .bf16) (W : Vec Ideal S1024x512 .bf16) (n r : Fin 512) :
    (k0_pay12 h W : FVec Ideal S1x1x512x512 .f32) (ix4 (n0 := 1) (n1 := 1) 0 0 n r) = (k0_pay8 h W : FVec Ideal S512x512 .f32) (ix2 r n) := by
  unfold k0_pay12
  generalize (k0_pay8 h W : FVec Ideal S512x512 .f32) = y
  pointwise

theorem pay3_apply (h : FVec Ideal S512x1024 .bf16) (W : Vec Ideal S1024x1024 .bf16) (r : Fin 512) (j : Fin 1024) :
    (k0_pay3 h W : FVec Ideal S512x1024 .f32) (ix2 r j) = rowMul (fun k => h (ix2 r k)) (fun k f => W (ix2 k f)) j := by
  have e0 : Ideal.ofBits .f32 0x00000000#32 = 0 := by simp [Ideal.ofBits, Ideal.ieee]
  pointwise [k0_pay3, rowMul, e0]

theorem pay4_apply (h : FVec Ideal S512x1024 .bf16) (W : Vec Ideal S1024x1664 .bf16) (r : Fin 512) (j : Fin 1664) :
    (k0_pay4 h W : FVec Ideal S512x1664 .f32) (ix2 r j) = rowMul (fun k => h (ix2 r k)) (fun k f => W (ix2 k f)) j := by
  have e0 : Ideal.ofBits .f32 0x00000000#32 = 0 := by simp [Ideal.ofBits, Ideal.ieee]
  pointwise [k0_pay4, rowMul, e0]

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The row `n` of the conditioning's block, loaded by itself. -/
theorem ld_row (x1 : Vec Ideal S1x6x1024 .f32) (n : Nat) (h : n < 6) (inb : ∀ a, (![0, n, 0] : Fin 3 → Nat) a + (![1, 1, 1024] : Fin 3 → Nat) a ≤ S1x6x1024.size a) (k : Fin 1024) :
    (View.ld x1 (Rect.unit (s := S1x6x1024) ![0, n, 0] ![1, 1, 1024] inb) : Vec Ideal S1x1x1024 .f32) (ix3 (n0 := 1) (n1 := 1) 0 0 k) =
      x1 (ix3 (n0 := 1) 0 (⟨n, h⟩ : Fin 6) k) := by
  refine congrArg x1 (funext fun a => Fin.ext ?_)
  match a with
  | ⟨0, _⟩ => rfl
  | ⟨1, _⟩ => rfl
  | ⟨2, _⟩ => show 0 + 1 * k.val = k.val; omega

/-- Some of the projection's columns, loaded by themselves. -/
theorem ld_cols (x3 : Vec Ideal S1024x4224 .bf16) (n w : Nat) (h : n + w ≤ 4224) (inb : ∀ a, (![0, n] : Fin 2 → Nat) a + (![1024, w] : Fin 2 → Nat) a ≤ S1024x4224.size a)
    (k : Fin 1024) (f : Fin w) :
    (View.ld x3 (Rect.unit (s := S1024x4224) ![0, n] ![1024, w] inb) : (⟨2, ![1024, w]⟩ : Shape).Idx → EReal) (ix2 k f) = x3 (ix2 k (⟨n + f.val, by omega⟩ : Fin 4224)) := by
  refine congrArg x3 (funext fun a => Fin.ext ?_)
  match a with
  | ⟨0, _⟩ => show 0 + 1 * k.val = k.val; omega
  | ⟨1, _⟩ => show n + 1 * f.val = n + f.val; omega

section
variable (x0 : Vec Ideal S512x1024 .f32) (x1 : Vec Ideal S1x6x1024 .f32) (x2 : Vec Ideal S1x1024 .f32) (x3 : Vec Ideal S1024x4224 .bf16)
  (x4 x5 : Vec Ideal S256x256 .bf16)

/-- A block's row of the modulated norm. -/
def blockH (r : Fin 512) : Fin 1024 → EReal :=
  modded (fun k => x0 (ix2 r k)) (fun k => x2 (ix2 (n0 := 1) 0 k)) (fun k => x1 (ix3 (n0 := 1) (n1 := 6) 0 0 k)) (fun k => x1 (ix3 (n0 := 1) (n1 := 6) 0 1 k))

theorem rowH_eq (r : Fin 512) :
    (fun k => (k0_pay5 (View.ld x0 r0_0) (View.ld x2 r0_1) (View.ld x1 r0_2) (View.ld x1 r0_3) : FVec Ideal S512x1024 .bf16) (ix2 r k)) = blockH x0 x1 x2 r := by
  funext j
  have e0 : View.ld x0 r0_0 = x0 := View.ld_unit_zero (S := S512x1024) zero2 _ _
  have e2 : View.ld x2 r0_1 = x2 := View.ld_unit_zero (S := S1x1024) zero2 _ _
  rw [pay5_apply, e0, e2]
  unfold blockH
  congr 1
  · funext k; exact ld_row x1 0 (by decide) _ k
  · funext k; exact ld_row x1 1 (by decide) _ k

theorem out7_apply (n r : Fin 512) :
    (out0_7 x0 x1 x2 x3 x4 x5 : Vec Ideal S1x1x512x512 .f32) (ix4 (n0 := 1) (n1 := 1) 0 0 n r) = rowMul (blockH x0 x1 x2 r) (fun k n => x3 (ix2 k n)) ⟨512 + n.val, by omega⟩ := by
  unfold out0_7 k0_pay19
  rw [View.canon_unit_zero (S := S1x1x512x512) zero4, pay11_apply, pay7_apply, rowH_eq]
  exact Finset.sum_congr rfl fun k _ => congrArg (blockH x0 x1 x2 r k * ·) (ld_cols x3 512 512 (by decide) _ k n)

theorem out8_apply (n r : Fin 512) :
    (out0_8 x0 x1 x2 x3 x4 x5 : Vec Ideal S1x1x512x512 .f32) (ix4 (n0 := 1) (n1 := 1) 0 0 n r) = rowMul (blockH x0 x1 x2 r) (fun k n => x3 (ix2 k n)) ⟨1024 + n.val, by omega⟩ := by
  unfold out0_8 k0_pay18
  rw [View.canon_unit_zero (S := S1x1x512x512) zero4, pay12_apply, pay8_apply, rowH_eq]
  exact Finset.sum_congr rfl fun k _ => congrArg (blockH x0 x1 x2 r k * ·) (ld_cols x3 1024 512 (by decide) _ k n)

theorem out11_apply (r : Fin 512) (j : Fin 1024) :
    (out0_11 x0 x1 x2 x3 x4 x5 : Vec Ideal S512x1024 .f32) (ix2 r j) = rowMul (blockH x0 x1 x2 r) (fun k n => x3 (ix2 k n)) ⟨1536 + j.val, by omega⟩ := by
  unfold out0_11 k0_pay18
  rw [View.canon_unit_zero (S := S512x1024) zero2, pay3_apply, rowH_eq]
  exact Finset.sum_congr rfl fun k _ => congrArg (blockH x0 x1 x2 r k * ·) (ld_cols x3 1536 1024 (by decide) _ k j)

theorem out12_apply (r : Fin 512) (j : Fin 1664) :
    (out0_12 x0 x1 x2 x3 x4 x5 : Vec Ideal S512x1664 .f32) (ix2 r j) = rowMul (blockH x0 x1 x2 r) (fun k n => x3 (ix2 k n)) ⟨2560 + j.val, by omega⟩ := by
  unfold out0_12 k0_pay18
  rw [View.canon_unit_zero (S := S512x1664) zero2, pay4_apply, rowH_eq]
  exact Finset.sum_congr rfl fun k _ => congrArg (blockH x0 x1 x2 r k * ·) (ld_cols x3 2560 1664 (by decide) _ k j)

end

end Cert.Kernel6Ideal.Spec
-- ==== Proof.SlabMix.lean ====
/- The prompt's in-projection's matrix as the region finds it: the columns of the three branches side by side. -/
module

public import proofs.«01_k».proof.Proof.Gen.Kernel6Ideal.Frame
public import proofs.«01_k».proof.Proof.Parts
public import Idealize.ShloMosaic.Lib.Pipeline.ValueKit
public import Idealize.ShloMosaic.Lib.StableHlo.ReadAt
public import Idealize.ShloMosaic.Lib.Claim

@[expose] public section

set_option maxRecDepth 16384

noncomputable section

namespace Cert.Kernel6Ideal.Spec

open Cert.Kernel6Ideal Cert.Kernel6Ideal.Gen
open Idealize.ShloMosaic Idealize.ShloMosaic.TcCoe Idealize.ShloMosaic.Tactic
open Idealize.SL Idealize.SL.Sem
open Cert.Rows

variable (m : (ℓ : Loc nD τ sig) → Buf (Elt Ideal) ℓ)

/-- The arguments as device `c` holds them. -/
def argX (c : Dev nD) : FVec Ideal S16x2048x1024 .f32 := m ((c.tc : Thread nD τ).loc main_arg0)
def argC (c : Dev nD) : FVec Ideal S16x6144 .f32 := m ((c.tc : Thread nD τ).loc main_arg1)
def argG (c : Dev nD) : FVec Ideal S1024 .f32 := m ((c.tc : Thread nD τ).loc main_arg2)
def argW (c : Dev nD) : FVec Ideal S1024x7184 .f32 := m ((c.tc : Thread nD τ).loc main_arg3)

/-- The columns of the branches side by side, the last ones widened. -/
def mixOf (W : FVec Ideal S1024x7184 .f32) : FVec Ideal S1024x4224 .f32 :=
  concatenate S1024x4224 1 [⟨S1024x512, extractStridedSlice S1024x512 ![0, 0] W slices_S1024x7184_S1024x512_0_0⟩,
    ⟨S1024x512, extractStridedSlice S1024x512 ![0, 512] W slices_S1024x7184_S1024x512_0_512⟩,
    ⟨S1024x512, extractStridedSlice S1024x512 ![0, 1024] W slices_S1024x7184_S1024x512_0_1024⟩,
    ⟨S1024x512, extractStridedSlice S1024x512 ![0, 1536] W slices_S1024x7184_S1024x512_0_1536⟩,
    ⟨S1024x512, extractStridedSlice S1024x512 ![0, 2048] W slices_S1024x7184_S1024x512_0_2048⟩,
    ⟨S1024x256, extractStridedSlice S1024x256 ![0, 2560] W slices_S1024x7184_S1024x256_0_2560⟩,
    ⟨S1024x256, extractStridedSlice S1024x256 ![0, 2816] W slices_S1024x7184_S1024x256_0_2816⟩,
    ⟨S1024x512, extractStridedSlice S1024x512 ![0, 3072] W slices_S1024x7184_S1024x512_0_3072⟩,
    ⟨S1024x512, extractStridedSlice S1024x512 ![0, 3584] W slices_S1024x7184_S1024x512_0_3584⟩,
    ⟨S1024x128, pad S1024x128 ![0, 0] ![0, 112] ![0, 0] (extractStridedSlice S1024x16 ![0, 4096] W slices_S1024x7184_S1024x16_0_4096)
      (sitofp .f32 (constantI S_ 32 0#32) : FVec Ideal S_ .f32) pads_S1024x16_S1024x128_000_01120 h_S_⟩] concatenates_S1024x512_S1024x512_S1024x512_S1024x512_S1024x512_S1024x256_S1024x256_S1024x512_S1024x512_S1024x128_S1024x4224_d1

theorem cat10 {t s u w : Shape} (a : Fin t.rank) {x0 x0' : s.Idx → EReal} {x1 x1' : s.Idx → EReal} {x2 x2' : s.Idx → EReal} {x3 x3' : s.Idx → EReal} {x4 x4' : s.Idx → EReal} {x5 x5' : u.Idx → EReal} {x6 x6' : u.Idx → EReal} {x7 x7' : s.Idx → EReal} {x8 x8' : s.Idx → EReal} {x9 x9' : w.Idx → EReal}
    (e0 : x0 = x0') (e1 : x1 = x1') (e2 : x2 = x2') (e3 : x3 = x3') (e4 : x4 = x4') (e5 : x5 = x5') (e6 : x6 = x6') (e7 : x7 = x7') (e8 : x8 = x8') (e9 : x9 = x9') (h : Shape.Concatenates [s, s, s, s, s, u, u, s, s, w] t a) :
    (concatenate t a [⟨s, x0⟩, ⟨s, x1⟩, ⟨s, x2⟩, ⟨s, x3⟩, ⟨s, x4⟩, ⟨u, x5⟩, ⟨u, x6⟩, ⟨s, x7⟩, ⟨s, x8⟩, ⟨w, x9⟩] h : t.Idx → EReal) =
      concatenate t a [⟨s, x0'⟩, ⟨s, x1'⟩, ⟨s, x2'⟩, ⟨s, x3'⟩, ⟨s, x4'⟩, ⟨u, x5'⟩, ⟨u, x6'⟩, ⟨s, x7'⟩, ⟨s, x8'⟩, ⟨w, x9'⟩] h := by
  subst e0 e1 e2 e3 e4 e5 e6 e7 e8 e9
  rfl

theorem V12_eq (c : Dev nD) : V m c main_v12 = (truncf .bf16 (mixOf (argW m c)) bitsLt_bf16_f32 : FVec Ideal S1024x4224 .bf16) := by
  unfold V V0 hostOps0 hostOps0_1 hostOps0_2
  simp only [StableHlo.after_cons, StableHlo.after_nil, List.flatten_cons, List.flatten_nil, List.append_nil, List.cons_append, List.nil_append]
  iterate 4 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
  refine (StableHlo.unary_result _ _ _ _ _ _).trans ?_
  refine congrArg (fun z : FVec Ideal S1024x4224 .f32 => (truncf .bf16 z bitsLt_bf16_f32 : FVec Ideal S1024x4224 .bf16)) ?_
  refine (StableHlo.nary_result _ _ _ _ _ _).trans ?_
  refine cat10 (t := S1024x4224) (s := S1024x512) (u := S1024x256) (w := S1024x128) 1 ?_ ?_ ?_ ?_ ?_ ?_ ?_ ?_ ?_ ?_ concatenates_S1024x512_S1024x512_S1024x512_S1024x512_S1024x512_S1024x256_S1024x256_S1024x512_S1024x512_S1024x128_S1024x4224_d1
  · iterate 8 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 0] W slices_S1024x7184_S1024x512_0_0) ?_
    iterate 5 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 7 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 512] W slices_S1024x7184_S1024x512_0_512) ?_
    iterate 6 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 6 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 1024] W slices_S1024x7184_S1024x512_0_1024) ?_
    iterate 7 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 5 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 1536] W slices_S1024x7184_S1024x512_0_1536) ?_
    iterate 8 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 4 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 2048] W slices_S1024x7184_S1024x512_0_2048) ?_
    iterate 9 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 3 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x256 ![0, 2560] W slices_S1024x7184_S1024x256_0_2560) ?_
    iterate 10 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 2 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x256 ![0, 2816] W slices_S1024x7184_S1024x256_0_2816) ?_
    iterate 11 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 1 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.unary_result _ _ _ _ _ _).trans ?_
    refine congrArg (fun W : FVec Ideal S1024x7184 .f32 => extractStridedSlice S1024x512 ![0, 3072] W slices_S1024x7184_S1024x512_0_3072) ?_
    iterate 12 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · refine (StableHlo.unary_result _ _ _ _ _ _).trans ?_
    refine congrArg (fun W : FVec Ideal S1024x7184 .f32 => extractStridedSlice S1024x512 ![0, 3584] W slices_S1024x7184_S1024x512_0_3584) ?_
    iterate 13 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    rfl
  · iterate 9 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
    refine (StableHlo.binary_result _ _ _ _ _ _ _ _).trans ?_
    refine congrArg₂ (fun (x : FVec Ideal S1024x16 .f32) (v : FVec Ideal S_ .f32) => pad S1024x128 ![0, 0] ![0, 112] ![0, 0] x v pads_S1024x16_S1024x128_000_01120 h_S_) ?_ ?_
    · iterate 2 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
      refine (StableHlo.unary_result _ _ _ _ _ _).trans ?_
      refine congrArg (fun W : FVec Ideal S1024x7184 .f32 => extractStridedSlice S1024x16 ![0, 4096] W slices_S1024x7184_S1024x16_0_4096) ?_
      iterate 1 refine (HloOp.result_of_not_mem _ _ (by simp only [StableHlo.nullary_writes, StableHlo.unary_writes, StableHlo.binary_writes, StableHlo.reshape_writes, StableHlo.nary_writes, Finset.mem_singleton]; exact StableHlo.devRef_ne_of_ne (by decide))).trans ?_
      rfl
    · refine (StableHlo.unary_result _ _ _ _ _ _).trans ?_
      refine congrArg (fun z => (sitofp .f32 z : FVec Ideal S_ .f32)) ?_
      exact StableHlo.nullary_result _ _ _ _

theorem V13_eq (c : Dev nD) : V m c main_v13 = (shapeCast S32768x1024 (argX m c) shapeCasts_S16x2048x1024_S32768x1024 : FVec Ideal S32768x1024 .f32) := by
  entry_read
  rfl
theorem V14_eq (c : Dev nD) : V m c main_v14 = (shapeCast S16x6x1024 (argC m c) shapeCasts_S16x6144_S16x6x1024 : FVec Ideal S16x6x1024 .f32) := by
  entry_read
  rfl
theorem V15_eq (c : Dev nD) : V m c main_v15 = (shapeCast S1x1024 (argG m c) shapeCasts_S1024_S1x1024 : FVec Ideal S1x1024 .f32) := by
  entry_read
  rfl

/-- A column below the widened part is the projection's own. -/
theorem mix_at (W : FVec Ideal S1024x7184 .f32) (k : Fin 1024) (n : Nat) (h : n < 4112) :
    mixOf W (ix2 k (⟨n, by omega⟩ : Fin 4224)) = W (ix2 k (⟨n, by omega⟩ : Fin 7184)) := by
  pointwise [mixOf]
  by_cases h0 : n < 512
  · exact dif_pos h0
  refine (dif_neg h0).trans ?_
  by_cases h1 : n - 512 < 512
  · exact (dif_pos h1).trans (congrArg (fun n => W (ix2 k n)) (Fin.ext (by simp only []; omega)))
  refine (dif_neg h1).trans ?_
  by_cases h2 : n - 512 - 512 < 512
  · exact (dif_pos h2).trans (congrArg (fun n => W (ix2 k n)) (Fin.ext (by simp only []; omega)))
  refine (dif_neg h2).trans ?_
  by_cases h3 : n - 512 - 512 - 512 < 512
  · exact (dif_pos h3).trans (congrArg (fun n => W (ix2 k n)) (Fin.ext (by simp only []; omega)))
  refine (dif_neg h3).trans ?_
  by_cases h4 : n - 512 - 512 - 512 - 512 < 512
  · exact (dif_pos h4).trans (congrArg (fun n => W (ix2 k n)) (Fin.ext (by simp only []; omega)))
  refine (dif_neg h4).trans ?_
  by_cases h5 : n - 512 - 512 - 512 - 512 - 512 < 256
  · exact (dif_pos h5).trans (congrArg (fun n => W (ix2 k n)) (Fin.ext (by simp only []; omega)))
  refine (dif_neg h5).trans ?_
  by_cases h6 : n - 512 - 512 - 512 - 512 - 512 - 256 < 256
  · exact (dif_pos h6).trans (congrArg (fun n => W (ix2 k n)) (Fin.ext (by simp only []; omega)))
  refine (dif_neg h6).trans ?_
  by_cases h7 : n - 512 - 512 - 512 - 512 - 512 - 256 - 256 < 512
  · exact (dif_pos h7).trans (congrArg (fun n => W (ix2 k n)) (Fin.ext (by simp only []; omega)))
  refine (dif_neg h7).trans ?_
  by_cases h8 : n - 512 - 512 - 512 - 512 - 512 - 256 - 256 - 512 < 512
  · exact (dif_pos h8).trans (congrArg (fun n => W (ix2 k n)) (Fin.ext (by simp only []; omega)))
  refine (dif_neg h8).trans ?_
  exact (dif_pos (by omega)).trans (congrArg (fun n => W (ix2 k n)) (Fin.ext (by simp only []; omega)))

end Cert.Kernel6Ideal.Spec
-- ==== Proof.SlabRef.lean ====
/- The reference of the prompt's in-projection, read at an index. -/
module

public import proofs.«01_k».proof.Proof.Parts
public import proofs.«01_k».proof.Proof.Gen.Reference6Ideal.Read

@[expose] public section

set_option maxRecDepth 16384

noncomputable section

namespace Cert.Reference6Ideal.Spec

open Cert.Reference6Ideal Cert.Reference6Ideal.Read
open Idealize.ShloMosaic Idealize.ShloMosaic.TcCoe
open Cert.Rows

variable (x : FVec Ideal S16x2048x1024 .f32) (c : FVec Ideal S16x6144 .f32) (g : FVec Ideal S1024 .f32) (W : FVec Ideal S1024x7184 .f32)

/-- A token's row of the modulated norm. -/
abbrev tokenH (b : Fin 16) (r : Fin 2048) : Fin 1024 → EReal :=
  modded (fun k => x (ix3 b r k)) (fun k => g (ix1 k)) (chunk (fun n => c (ix2 b n)) 0) (chunk (fun n => c (ix2 b n)) 1)

/-- An entry of a token's row, projected. -/
def inCol (b : Fin 16) (r : Fin 2048) (n : Fin 7184) : EReal := rowMul (tokenH x c g b r) (fun k n => W (ix2 k n)) n

theorem v25_apply (b : Fin 16) (r : Fin 2048) (j : Fin 1024) : val_main_v25 (F := Ideal) x c g (ix3 b r j) = tokenH x c g b r j := by
  pointwise [val_main_v25, val_main_v24, val_main_v23, val_main_v22, val_main_v21, val_main_v20, val_main_cst_2, val_main_v19, val_main_v18, val_main_v17,
    val_main_v16, val_main_v15, val_main_v14, val_main_v13, val_main_v12, val_main_cst_1, val_main_v11, val_main_v10, val_main_cst_0, val_main_v9, val_main_v8,
    val_main_cst, val_main_v7, val_main_v2, val_main_v1, val_main_v0, modded, normed, scaleOf]
  rw [chunk_at (fun n => c (ix2 b n)) 1 j _ _ rfl, chunk_at (fun n => c (ix2 b n)) 0 j _ _ (by omega)]

theorem v26_apply (b : Fin 16) (r : Fin 2048) (n : Fin 7184) : val_main_v26 (F := Ideal) x c g W (ix3 b r n) = inCol x c g W b r n := by
  have e : ∀ j, val_main_v25 (F := Ideal) x c g (ix3 b r j) = _ := v25_apply x c g b r
  pointwise [val_main_v26, inCol, rowMul, e]

theorem v28_apply (b : Fin 16) (r : Fin 2048) (j : Fin 512) :
    val_main_v28 (F := Ideal) x c g W (ix3 b r j) = inCol x c g W b r ⟨512 + j.val, by omega⟩ := by
  have e : ∀ n, val_main_v26 (F := Ideal) x c g W (ix3 b r n) = _ := v26_apply x c g W b r
  pointwise [val_main_v28, e]

theorem v29_apply (b : Fin 16) (r : Fin 2048) (j : Fin 512) :
    val_main_v29 (F := Ideal) x c g W (ix3 b r j) = inCol x c g W b r ⟨1024 + j.val, by omega⟩ := by
  have e : ∀ n, val_main_v26 (F := Ideal) x c g W (ix3 b r n) = _ := v26_apply x c g W b r
  pointwise [val_main_v29, e]

/-- The recurrent branch's two halves side by side. -/
theorem v42_apply (b : Fin 16) (r : Fin 2048) (j : Fin 1024) :
    val_main_v42 (F := Ideal) x c g W (ix3 b r j) = inCol x c g W b r ⟨1536 + j.val, by omega⟩ := by
  have e : ∀ n, val_main_v26 (F := Ideal) x c g W (ix3 b r n) = _ := v26_apply x c g W b r
  pointwise [val_main_v42, val_main_v31, val_main_v30, e]
  split <;> exact congrArg (inCol x c g W b r) (Fin.ext (by first | rfl | (simp only []; omega)))

/-- The gated branch's five parts side by side. -/
theorem v43_apply (b : Fin 16) (r : Fin 2048) (j : Fin 1552) :
    val_main_v43 (F := Ideal) x c g W (ix3 b r j) = inCol x c g W b r ⟨2560 + j.val, by omega⟩ := by
  have e : ∀ n, val_main_v26 (F := Ideal) x c g W (ix3 b r n) = _ := v26_apply x c g W b r
  pointwise [val_main_v43, val_main_v36, val_main_v35, val_main_v34, val_main_v33, val_main_v32, e]
  repeat' split
  all_goals exact congrArg (inCol x c g W b r) (Fin.ext (by first | rfl | (simp only []; omega)))

/-- The keys, by heads. -/
theorem v40_apply (b : Fin 16) (r : Fin 2048) (h : Fin 8) (e : Fin 64) :
    val_main_v40 (F := Ideal) x c g W (ix4 b r h e) = inCol x c g W b r ⟨512 + (h.val * 64 + e.val), by omega⟩ := by
  unfold val_main_v40
  refine (shapeCast_apply _ _ _ (ix3 b r (⟨h.val * 64 + e.val, by omega⟩ : Fin 512)) ?_).trans (v28_apply x c g W b r _)
  rw [rowMajor_val3 _ 1048576 512 rfl rfl, rowMajor_val4 _ 1048576 512 64 rfl rfl rfl]
  show b.val * 1048576 + r.val * 512 + (h.val * 64 + e.val) = b.val * 1048576 + r.val * 512 + h.val * 64 + e.val
  omega

/-- The values, by heads. -/
theorem v41_apply (b : Fin 16) (r : Fin 2048) (h : Fin 8) (e : Fin 64) :
    val_main_v41 (F := Ideal) x c g W (ix4 b r h e) = inCol x c g W b r ⟨1024 + (h.val * 64 + e.val), by omega⟩ := by
  unfold val_main_v41
  refine (shapeCast_apply _ _ _ (ix3 b r (⟨h.val * 64 + e.val, by omega⟩ : Fin 512)) ?_).trans (v29_apply x c g W b r _)
  rw [rowMajor_val3 _ 1048576 512 rfl rfl, rowMajor_val4 _ 1048576 512 64 rfl rfl rfl]
  show b.val * 1048576 + r.val * 512 + (h.val * 64 + e.val) = b.val * 1048576 + r.val * 512 + h.val * 64 + e.val
  omega

theorem inCol_congr {b b' : Fin 16} {r r' : Fin 2048} {n n' : Fin 7184} (hb : b.val = b'.val) (hr : r.val = r'.val) (hn : n.val = n'.val) :
    inCol x c g W b r n = inCol x c g W b' r' n' := by
  obtain rfl := Fin.ext hb; obtain rfl := Fin.ext hr; obtain rfl := Fin.ext hn
  rfl

end Cert.Reference6Ideal.Spec
-- ==== Proof.SlabArray.lean ====
/- The prompt's in-projection's result arrays, at a token's row. -/
module

public import proofs.«01_k».proof.Proof.SlabBlock
public import proofs.«01_k».proof.Proof.SlabMix
public import proofs.«01_k».proof.Proof.SlabRef
public import Idealize.ShloMosaic.Lib.KernelVsHost

@[expose] public section

set_option maxRecDepth 16384

noncomputable section

namespace Cert.Kernel6Ideal.Spec

open Cert.Kernel6Ideal Cert.Kernel6Ideal.Gen
open Idealize.ShloMosaic Idealize.ShloMosaic.TcCoe Idealize.ShloMosaic.Tactic
open Idealize.SL Idealize.SL.Sem
open Cert.Rows
open Cert.Reference6Ideal.Spec (inCol tokenH inCol_congr)

variable (m : (ℓ : Loc nD τ sig) → Buf (Elt Ideal) ℓ)

theorem idx_all : ∀ t : Fin grid0.N, win0_0.index t = ![(grid0.coords t 0).val, 0] ∧ win0_1.index t = ![(grid0.coords t 0).val / 4, 0, 0] ∧
    win0_2.index t = ![0, 0] ∧ win0_3.index t = ![0, 0] ∧
    win0_7.index t = ![0, (grid0.coords t 0).val / 4, 0, (grid0.coords t 0).val % 4] ∧ win0_8.index t = ![0, (grid0.coords t 0).val / 4, 0, (grid0.coords t 0).val % 4] ∧
    win0_11.index t = ![(grid0.coords t 0).val, 0] ∧ win0_12.index t = ![(grid0.coords t 0).val, 0] := by
  decide +kernel

theorem lt64 (t : Fin cfg0.N) : (grid0.coords t 0).val < 64 := (grid0.coords t 0).isLt

/-- The batch of a point of the grid. -/
abbrev bOf (t : Fin cfg0.N) : Fin 16 := ⟨(grid0.coords t 0).val / 4, by have := lt64 t; omega⟩

/-- The row within the batch of row `r` of a point's block. -/
abbrev rOf (t : Fin cfg0.N) (r : Fin 512) : Fin 2048 := ⟨(grid0.coords t 0).val % 4 * 512 + r.val, by omega⟩

theorem blk0 (c : Dev nD) (t : Fin cfg0.N) (r : Fin 512) (k : Fin 1024) :
    (iblk m c 0 t : Vec Ideal S512x1024 .f32) (ix2 r k) = argX m c (ix3 (bOf t) (rOf t r) k) := by
  have := lt64 t
  have e : (iblk m c 0 t : Vec Ideal S512x1024 .f32) (ix2 r k) = (V m c main_v13 : FVec Ideal S32768x1024 .f32)
      (ix2 (⟨(grid0.coords t 0).val * 512 + r.val, by omega⟩ : Fin 32768) k) := by
    blk_ext [iblk, (idx_all t).1]
  rw [e, V13_eq]
  refine shapeCast_apply _ _ _ _ ?_
  rw [rowMajor_val3 _ 2097152 1024 rfl rfl, rowMajor_val2 _ 1024 rfl]
  show (grid0.coords t 0).val / 4 * 2097152 + ((grid0.coords t 0).val % 4 * 512 + r.val) * 1024 + k.val = ((grid0.coords t 0).val * 512 + r.val) * 1024 + k.val
  omega

theorem blk1 (c : Dev nD) (t : Fin cfg0.N) (p : Fin 6) (k : Fin 1024) :
    (iblk m c 1 t : Vec Ideal S1x6x1024 .f32) (ix3 (n0 := 1) 0 p k) = chunk (fun n => argC m c (ix2 (bOf t) n)) p.val k := by
  have e : (iblk m c 1 t : Vec Ideal S1x6x1024 .f32) (ix3 (n0 := 1) 0 p k) = (V m c main_v14 : FVec Ideal S16x6x1024 .f32) (ix3 (bOf t) p k) := by
    blk_ext [iblk, (idx_all t).2.1]
  rw [e, V14_eq]
  refine (shapeCast_apply _ _ _ (ix2 (bOf t) (⟨1024 * p.val + k.val, by omega⟩ : Fin 6144)) ?_).trans
    (chunk_at (fun n => argC m c (ix2 (bOf t) n)) _ _ _ _ rfl)
  rw [rowMajor_val2 _ 6144 rfl, rowMajor_val3 _ 6144 1024 rfl rfl]
  show (bOf t).val * 6144 + (1024 * p.val + k.val) = (bOf t).val * 6144 + p.val * 1024 + k.val
  omega

theorem blk2 (c : Dev nD) (t : Fin cfg0.N) (k : Fin 1024) : (iblk m c 2 t : Vec Ideal S1x1024 .f32) (ix2 (n0 := 1) 0 k) = argG m c (ix1 k) := by
  have e : (iblk m c 2 t : Vec Ideal S1x1024 .f32) (ix2 (n0 := 1) 0 k) = (V m c main_v15 : FVec Ideal S1x1024 .f32) (ix2 (n0 := 1) 0 k) := by
    blk_ext [iblk, (idx_all t).2.2.1]
  rw [e, V15_eq]
  pointwise

theorem blk3 (c : Dev nD) (t : Fin cfg0.N) (k : Fin 1024) (n : Fin 4224) :
    (iblk m c 3 t : Vec Ideal S1024x4224 .bf16) (ix2 k n) = mixOf (argW m c) (ix2 k n) := by
  have e : (iblk m c 3 t : Vec Ideal S1024x4224 .bf16) (ix2 k n) = (V m c main_v12 : FVec Ideal S1024x4224 .bf16) (ix2 k n) := by
    blk_ext [iblk, (idx_all t).2.2.2.1]
  rw [e, V12_eq]
  rfl

theorem blockH_eq (c : Dev nD) (t : Fin cfg0.N) (r : Fin 512) :
    blockH (iblk m c 0 t) (iblk m c 1 t) (iblk m c 2 t) r = tokenH (argX m c) (argC m c) (argG m c) (bOf t) (rOf t r) := by
  unfold blockH tokenH
  congr 1
  · funext k; exact blk0 m c t r k
  · funext k; exact blk2 m c t k
  · funext k; exact blk1 m c t 0 k
  · funext k; exact blk1 m c t 1 k

/-- A token's row times a column of the widened matrix. -/
def colAt (c : Dev nD) (b : Fin 16) (r : Fin 2048) (n : Fin 4224) : EReal :=
  rowMul (tokenH (argX m c) (argC m c) (argG m c) b r) (fun k n => mixOf (argW m c) (ix2 k n)) n

theorem colAt_congr (c : Dev nD) {b b' : Fin 16} {r r' : Fin 2048} {n n' : Fin 4224} (hb : b.val = b'.val) (hr : r.val = r'.val) (hn : n.val = n'.val) :
    colAt m c b r n = colAt m c b' r' n' := by
  obtain rfl := Fin.ext hb; obtain rfl := Fin.ext hr; obtain rfl := Fin.ext hn
  rfl

theorem colAt_eq (c : Dev nD) (b : Fin 16) (r : Fin 2048) (n : Nat) (h : n < 4112) :
    colAt m c b r ⟨n, by omega⟩ = inCol (argX m c) (argC m c) (argG m c) (argW m c) b r ⟨n, by omega⟩ := by
  unfold colAt inCol
  exact Finset.sum_congr rfl fun k _ => congrArg (tokenH (argX m c) (argC m c) (argG m c) b r k * ·) (mix_at (argW m c) k n h)

theorem cols_eq (c : Dev nD) (t : Fin cfg0.N) (r : Fin 512) (n : Fin 4224) :
    rowMul (blockH (iblk m c 0 t) (iblk m c 1 t) (iblk m c 2 t) r) (fun k n => (iblk m c 3 t : Vec Ideal S1024x4224 .bf16) (ix2 k n)) n =
      colAt m c (bOf t) (rOf t r) n := by
  rw [blockH_eq]
  exact Finset.sum_congr rfl fun k _ => congrArg (tokenH (argX m c) (argC m c) (argG m c) (bOf t) (rOf t r) k * ·) (blk3 m c t k n)

/-- The first layer's keys in the slab: column `n` of the branch at token `r`. -/
theorem slab7_at (c : Dev nD) (b : Fin 16) (n : Fin 512) (r : Fin 2048) :
    ((dats m 0 c).arrAt 7 cfg0.N : Vec Ideal S2x16x512x2048 .f32) (ix4 (n0 := 2) 0 b n r) =
      inCol (argX m c) (argC m c) (argG m c) (argW m c) b r ⟨512 + n.val, by omega⟩ := by
  refine ((dats m 0 c).arrAt_apply_of_coversWhere 7
    (fun i : S2x16x512x2048.Idx => inCol (argX m c) (argC m c) (argG m c) (argW m c) ⟨(i 1).val, (i 1).isLt⟩ ⟨(i 3).val, (i 3).isLt⟩
      ⟨512 + (i 2).val, by have : (i 2).val < 512 := (i 2).isLt; omega⟩)
    (P := fun i : S2x16x512x2048.Idx => (i 0).val / 1 = 0) (fun β => β (0 : Fin _) = 0) (by decide +kernel) (fun t hf y => ?_) (fun j => Iff.rfl) _).trans ?_
  · blk_simp
    rw [after0_7]
    obtain ⟨a0, a1, n, r, rfl⟩ : ∃ (a0 a1 : Fin 1) (n r : Fin 512), y = ix4 a0 a1 n r := ⟨y 0, y 1, y 2, y 3, (ix4_eta y).symm⟩
    obtain rfl : a0 = 0 := Subsingleton.elim _ _
    obtain rfl : a1 = 0 := Subsingleton.elim _ _
    refine (out7_apply _ _ _ _ _ _ n r).trans (((cols_eq m c t r _).trans (colAt_eq m c (bOf t) (rOf t r) (512 + n.val) (by omega))).trans ?_)
    have h1 : win0_7.index t 1 = (grid0.coords t 0).val / 4 := congrFun (idx_all t).2.2.2.2.1 1
    have h2 : win0_7.index t 2 = 0 := congrFun (idx_all t).2.2.2.2.1 2
    have h3 : win0_7.index t 3 = (grid0.coords t 0).val % 4 := congrFun (idx_all t).2.2.2.2.1 3
    refine inCol_congr _ _ _ _ ?_ ?_ ?_
    · show (grid0.coords t 0).val / 4 = win0_7.index t 1
      omega
    · show (grid0.coords t 0).val % 4 * 512 + r.val = win0_7.index t 3 * 512 + r.val
      omega
    · show 512 + n.val = 512 + (win0_7.index t 2 * 512 + n.val)
      omega
  · refine (if_pos (Nat.zero_div 1)).trans ?_
    exact inCol_congr _ _ _ _ rfl rfl rfl

/-- The first layer's values in the slab: column `n` of the branch at token `r`. -/
theorem slab8_at (c : Dev nD) (b : Fin 16) (n : Fin 512) (r : Fin 2048) :
    ((dats m 0 c).arrAt 8 cfg0.N : Vec Ideal S2x16x512x2048 .f32) (ix4 (n0 := 2) 0 b n r) =
      inCol (argX m c) (argC m c) (argG m c) (argW m c) b r ⟨1024 + n.val, by omega⟩ := by
  refine ((dats m 0 c).arrAt_apply_of_coversWhere 8
    (fun i : S2x16x512x2048.Idx => inCol (argX m c) (argC m c) (argG m c) (argW m c) ⟨(i 1).val, (i 1).isLt⟩ ⟨(i 3).val, (i 3).isLt⟩
      ⟨1024 + (i 2).val, by have : (i 2).val < 512 := (i 2).isLt; omega⟩)
    (P := fun i : S2x16x512x2048.Idx => (i 0).val / 1 = 0) (fun β => β (0 : Fin _) = 0) (by decide +kernel) (fun t hf y => ?_) (fun j => Iff.rfl) _).trans ?_
  · blk_simp
    rw [after0_8]
    obtain ⟨a0, a1, n, r, rfl⟩ : ∃ (a0 a1 : Fin 1) (n r : Fin 512), y = ix4 a0 a1 n r := ⟨y 0, y 1, y 2, y 3, (ix4_eta y).symm⟩
    obtain rfl : a0 = 0 := Subsingleton.elim _ _
    obtain rfl : a1 = 0 := Subsingleton.elim _ _
    refine (out8_apply _ _ _ _ _ _ n r).trans (((cols_eq m c t r _).trans (colAt_eq m c (bOf t) (rOf t r) (1024 + n.val) (by omega))).trans ?_)
    have h1 : win0_8.index t 1 = (grid0.coords t 0).val / 4 := congrFun (idx_all t).2.2.2.2.2.1 1
    have h2 : win0_8.index t 2 = 0 := congrFun (idx_all t).2.2.2.2.2.1 2
    have h3 : win0_8.index t 3 = (grid0.coords t 0).val % 4 := congrFun (idx_all t).2.2.2.2.2.1 3
    refine inCol_congr _ _ _ _ ?_ ?_ ?_
    · show (grid0.coords t 0).val / 4 = win0_8.index t 1
      omega
    · show (grid0.coords t 0).val % 4 * 512 + r.val = win0_8.index t 3 * 512 + r.val
      omega
    · show 1024 + n.val = 1024 + (win0_8.index t 2 * 512 + n.val)
      omega
  · refine (if_pos (Nat.zero_div 1)).trans ?_
    exact inCol_congr _ _ _ _ rfl rfl rfl

/-- The flat array's rows. -/
theorem flat11_eq (c : Dev nD) :
    ((dats m 0 c).arrAt 11 cfg0.N : Vec Ideal S32768x1024 .f32) = fun i : S32768x1024.Idx =>
      colAt m c ⟨(i 0).val / 2048, by have : (i 0).val < 32768 := (i 0).isLt; omega⟩ ⟨(i 0).val % 2048, Nat.mod_lt _ (by decide)⟩ (⟨1536 + (i 1).val, by have : (i 1).val < 1024 := (i 1).isLt; omega⟩ : Fin 4224) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, (ix2_eta y).symm⟩
  refine (out11_apply _ _ _ _ _ _ r j).trans ((cols_eq m c t r _).trans ?_)
  have h0 : win0_11.index t 0 = (grid0.coords t 0).val := congrFun (idx_all t).2.2.2.2.2.2.1 0
  have h1 : win0_11.index t 1 = 0 := congrFun (idx_all t).2.2.2.2.2.2.1 1
  have := lt64 t
  refine colAt_congr m c ?_ ?_ ?_
  · show (grid0.coords t 0).val / 4 = (win0_11.index t 0 * 512 + r.val) / 2048
    omega
  · show (grid0.coords t 0).val % 4 * 512 + r.val = (win0_11.index t 0 * 512 + r.val) % 2048
    omega
  · show 1536 + j.val = 1536 + (win0_11.index t 1 * 1024 + j.val)
    omega

/-- The flat array's rows. -/
theorem flat12_eq (c : Dev nD) :
    ((dats m 0 c).arrAt 12 cfg0.N : Vec Ideal S32768x1664 .f32) = fun i : S32768x1664.Idx =>
      colAt m c ⟨(i 0).val / 2048, by have : (i 0).val < 32768 := (i 0).isLt; omega⟩ ⟨(i 0).val % 2048, Nat.mod_lt _ (by decide)⟩ (⟨2560 + (i 1).val, by have : (i 1).val < 1664 := (i 1).isLt; omega⟩ : Fin 4224) := by
  refine (dats m 0 c).arrAt_eq_of_covers 12 _ (by decide +kernel) fun t hf y => ?_
  blk_simp
  rw [after0_12]
  obtain ⟨r, j, rfl⟩ : ∃ (r : Fin 512) (j : Fin 1664), y = ix2 r j := ⟨y 0, y 1, (ix2_eta y).symm⟩
  refine (out12_apply _ _ _ _ _ _ r j).trans ((cols_eq m c t r _).trans ?_)
  have h0 : win0_12.index t 0 = (grid0.coords t 0).val := congrFun (idx_all t).2.2.2.2.2.2.2 0
  have h1 : win0_12.index t 1 = 0 := congrFun (idx_all t).2.2.2.2.2.2.2 1
  have := lt64 t
  refine colAt_congr m c ?_ ?_ ?_
  · show (grid0.coords t 0).val / 4 = (win0_12.index t 0 * 512 + r.val) / 2048
    omega
  · show (grid0.coords t 0).val % 4 * 512 + r.val = (win0_12.index t 0 * 512 + r.val) % 2048
    omega
  · show 2560 + j.val = 2560 + (win0_12.index t 1 * 1664 + j.val)
    omega

end Cert.Kernel6Ideal.Spec
-- ==== Proof.SlabTail.lean ====
/- What the prompt's in-projection's last host lines leave in its results. -/
module

public import proofs.«01_k».proof.Proof.SlabArray

@[expose] public section

set_option maxRecDepth 16384

noncomputable section

namespace Cert.Kernel6Ideal.Spec

open Cert.Kernel6Ideal Cert.Kernel6Ideal.Gen
open Idealize.ShloMosaic Idealize.ShloMosaic.TcCoe Idealize.ShloMosaic.Tactic
open Idealize.SL Idealize.SL.Sem
open Cert.Rows
open Cert.Reference6Ideal.Spec (inCol)

variable (m : (ℓ : Loc nD τ sig) → Buf (Elt Ideal) ℓ)

/-- The first layer's part of a slab, by tokens and heads. -/
def byHeads (z : Vec Ideal S2x16x512x2048 .f32) : Vec Ideal S16x2048x8x64 .f32 :=
  transpose S16x2048x8x64 [0, 3, 1, 2] (shapeCast S16x8x64x2048 (shapeCast S16x512x2048 (extractStridedSlice S1x16x512x2048 ![0, 0, 0, 0] z slices_S2x16x512x2048_S1x16x512x2048_0_0_0_0 : Vec Ideal S1x16x512x2048 .f32)
    shapeCasts_S1x16x512x2048_S16x512x2048 : Vec Ideal S16x512x2048 .f32) shapeCasts_S16x512x2048_S16x8x64x2048 : Vec Ideal S16x8x64x2048 .f32) transposes_S16x8x64x2048_S16x2048x8x64_0_3_1_2

theorem byHeads_apply (z : Vec Ideal S2x16x512x2048 .f32) (b : Fin 16) (r : Fin 2048) (h : Fin 8) (e : Fin 64) :
    byHeads z (ix4 b r h e) = z (ix4 (n0 := 2) 0 b (⟨h.val * 64 + e.val, by omega⟩ : Fin 512) r) := by
  unfold byHeads
  refine (?_ : _ = (shapeCast S16x8x64x2048 (shapeCast S16x512x2048 (extractStridedSlice S1x16x512x2048 ![0, 0, 0, 0] z slices_S2x16x512x2048_S1x16x512x2048_0_0_0_0 : Vec Ideal S1x16x512x2048 .f32)
    shapeCasts_S1x16x512x2048_S16x512x2048 : Vec Ideal S16x512x2048 .f32) shapeCasts_S16x512x2048_S16x8x64x2048 : Vec Ideal S16x8x64x2048 .f32) (ix4 b h e r)).trans ?_
  · generalize (shapeCast S16x8x64x2048 _ shapeCasts_S16x512x2048_S16x8x64x2048 : Vec Ideal S16x8x64x2048 .f32) = y
    pointwise
  refine (shapeCast_apply _ _ _ (ix3 b (⟨h.val * 64 + e.val, by omega⟩ : Fin 512) r) ?_).trans ?_
  · rw [rowMajor_val3 _ 1048576 2048 rfl rfl, rowMajor_val4 _ 1048576 131072 2048 rfl rfl rfl]
    show b.val * 1048576 + (h.val * 64 + e.val) * 2048 + r.val = b.val * 1048576 + h.val * 131072 + e.val * 2048 + r.val
    omega
  refine (shapeCast_apply _ _ _ (ix4 (n0 := 1) 0 b (⟨h.val * 64 + e.val, by omega⟩ : Fin 512) r) ?_).trans ?_
  · rw [rowMajor_val3 _ 1048576 2048 rfl rfl, rowMajor_val4 _ 16777216 1048576 2048 rfl rfl rfl]
    show 0 * 16777216 + b.val * 1048576 + (h.val * 64 + e.val) * 2048 + r.val = b.val * 1048576 + (h.val * 64 + e.val) * 2048 + r.val
    omega
  pointwise

theorem tail21 (c : Dev nD) : (Pipeline.afterTail₀ cfgs (dats m) 0 (V0 m) [hostOps1] c main_v21 : Vec Ideal S16x2048x8x64 .f32) =
    byHeads ((dats m 0 c).arrAt 7 cfg0.N : Vec Ideal S2x16x512x2048 .f32) := by
  unfold Pipeline.afterTail₀ byHeads
  simp only [hostOps1, StableHlo.after_cons, StableHlo.after_nil, List.flatten_cons, List.flatten_nil, List.append_nil, List.cons_append, List.nil_append]
  iterate 7 refine (HloOp.result_of_not_mem _ _ (by simp only [StableHlo.unary_writes, StableHlo.reshape_writes, Finset.mem_singleton]; exact StableHlo.devRef_ne_of_ne (by decide))).trans ?_
  refine (StableHlo.unary_result _ _ _ _ _ _).trans ?_
  refine congrArg (fun z : Vec Ideal S16x8x64x2048 .f32 => (transpose S16x2048x8x64 [0, 3, 1, 2] z transposes_S16x8x64x2048_S16x2048x8x64_0_3_1_2 : Vec Ideal S16x2048x8x64 .f32)) ?_
  refine (StableHlo.reshape_result _ _ _ _ _ _ _).trans ?_
  refine congrArg (fun z : Vec Ideal S16x512x2048 .f32 => (shapeCast S16x8x64x2048 z shapeCasts_S16x512x2048_S16x8x64x2048 : Vec Ideal S16x8x64x2048 .f32)) ?_
  refine (StableHlo.reshape_result _ _ _ _ _ _ _).trans ?_
  refine congrArg (fun z : Vec Ideal S1x16x512x2048 .f32 => (shapeCast S16x512x2048 z shapeCasts_S1x16x512x2048_S16x512x2048 : Vec Ideal S16x512x2048 .f32)) ?_
  refine (StableHlo.unary_result _ _ _ _ _ _).trans ?_
  refine congrArg (fun z : Vec Ideal S2x16x512x2048 .f32 => (extractStridedSlice S1x16x512x2048 ![0, 0, 0, 0] z slices_S2x16x512x2048_S1x16x512x2048_0_0_0_0 : Vec Ideal S1x16x512x2048 .f32)) ?_
  exact Pipeline.withArrays_arr spec0 (by decide) c (V0 m c) _ 7

theorem tail25 (c : Dev nD) : (Pipeline.afterTail₀ cfgs (dats m) 0 (V0 m) [hostOps1] c main_v25 : Vec Ideal S16x2048x8x64 .f32) =
    byHeads ((dats m 0 c).arrAt 8 cfg0.N : Vec Ideal S2x16x512x2048 .f32) := by
  unfold Pipeline.afterTail₀ byHeads
  simp only [hostOps1, StableHlo.after_cons, StableHlo.after_nil, List.flatten_cons, List.flatten_nil, List.append_nil, List.cons_append, List.nil_append]
  iterate 3 refine (HloOp.result_of_not_mem _ _ (by simp only [StableHlo.unary_writes, StableHlo.reshape_writes, Finset.mem_singleton]; exact StableHlo.devRef_ne_of_ne (by decide))).trans ?_
  refine (StableHlo.unary_result _ _ _ _ _ _).trans ?_
  refine congrArg (fun z : Vec Ideal S16x8x64x2048 .f32 => (transpose S16x2048x8x64 [0, 3, 1, 2] z transposes_S16x8x64x2048_S16x2048x8x64_0_3_1_2 : Vec Ideal S16x2048x8x64 .f32)) ?_
  refine (StableHlo.reshape_result _ _ _ _ _ _ _).trans ?_
  refine congrArg (fun z : Vec Ideal S16x512x2048 .f32 => (shapeCast S16x8x64x2048 z shapeCasts_S16x512x2048_S16x8x64x2048 : Vec Ideal S16x8x64x2048 .f32)) ?_
  refine (StableHlo.reshape_result _ _ _ _ _ _ _).trans ?_
  refine congrArg (fun z : Vec Ideal S1x16x512x2048 .f32 => (shapeCast S16x512x2048 z shapeCasts_S1x16x512x2048_S16x512x2048 : Vec Ideal S16x512x2048 .f32)) ?_
  refine (StableHlo.unary_result _ _ _ _ _ _).trans ?_
  refine congrArg (fun z : Vec Ideal S2x16x512x2048 .f32 => (extractStridedSlice S1x16x512x2048 ![0, 0, 0, 0] z slices_S2x16x512x2048_S1x16x512x2048_0_0_0_0 : Vec Ideal S1x16x512x2048 .f32)) ?_
  iterate 4 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 8

theorem tail26 (c : Dev nD) : (Pipeline.afterTail₀ cfgs (dats m) 0 (V0 m) [hostOps1] c main_v26 : Vec Ideal S16x2048x1024 .f32) =
    (shapeCast S16x2048x1024 ((dats m 0 c).arrAt 11 cfg0.N : Vec Ideal S32768x1024 .f32) shapeCasts_S32768x1024_S16x2048x1024 : Vec Ideal S16x2048x1024 .f32) := by
  unfold Pipeline.afterTail₀
  simp only [hostOps1, StableHlo.after_cons, StableHlo.after_nil, List.flatten_cons, List.flatten_nil, List.append_nil, List.cons_append, List.nil_append]
  iterate 2 refine (HloOp.result_of_not_mem _ _ (by simp only [StableHlo.unary_writes, StableHlo.reshape_writes, Finset.mem_singleton]; exact StableHlo.devRef_ne_of_ne (by decide))).trans ?_
  refine (StableHlo.reshape_result _ _ _ _ _ _ _).trans ?_
  refine congrArg (fun z : Vec Ideal S32768x1024 .f32 => (shapeCast S16x2048x1024 z shapeCasts_S32768x1024_S16x2048x1024 : Vec Ideal S16x2048x1024 .f32)) ?_
  iterate 8 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 11

theorem tail28 (c : Dev nD) : (Pipeline.afterTail₀ cfgs (dats m) 0 (V0 m) [hostOps1] c main_v28 : Vec Ideal S16x2048x1552 .f32) =
    (extractStridedSlice S16x2048x1552 ![0, 0, 0] (shapeCast S16x2048x1664 ((dats m 0 c).arrAt 12 cfg0.N : Vec Ideal S32768x1664 .f32) shapeCasts_S32768x1664_S16x2048x1664 : Vec Ideal S16x2048x1664 .f32) slices_S16x2048x1664_S16x2048x1552_0_0_0 : Vec Ideal S16x2048x1552 .f32) := by
  unfold Pipeline.afterTail₀
  simp only [hostOps1, StableHlo.after_cons, StableHlo.after_nil, List.flatten_cons, List.flatten_nil, List.append_nil, List.cons_append, List.nil_append]
  refine (StableHlo.unary_result _ _ _ _ _ _).trans ?_
  refine congrArg (fun z : Vec Ideal S16x2048x1664 .f32 => (extractStridedSlice S16x2048x1552 ![0, 0, 0] z slices_S16x2048x1664_S16x2048x1552_0_0_0 : Vec Ideal S16x2048x1552 .f32)) ?_
  refine (StableHlo.reshape_result _ _ _ _ _ _ _).trans ?_
  refine congrArg (fun z : Vec Ideal S32768x1664 .f32 => (shapeCast S16x2048x1664 z shapeCasts_S32768x1664_S16x2048x1664 : Vec Ideal S16x2048x1664 .f32)) ?_
  iterate 9 refine (HloOp.result_of_not_mem _ _ (by simp only [StableHlo.unary_writes, StableHlo.reshape_writes, Finset.mem_singleton]; exact StableHlo.devRef_ne_of_ne (by decide))).trans ?_
  exact Pipeline.withArrays_arr spec0 (by decide) c (V0 m c) _ 12

end Cert.Kernel6Ideal.Spec
-- ==== Proof.SlabAgree.lean ====
/- The prompt's in-projection and its reference end with the same four results. -/
module

public import proofs.«01_k».proof.Defs
public import proofs.«01_k».proof.Proof.SlabTail
public import proofs.«01_k».proof.Proof.Gen.Kernel6.Frame
public import proofs.«01_k».proof.Proof.Gen.Kernel6Ideal
public import proofs.«01_k».proof.Proof.Gen.Reference6Ideal
public import proofs.«01_k».proof.Proof.Gen.Reference6Ideal.Run

@[expose] public section

set_option maxRecDepth 16384

noncomputable section

namespace Cert.Kernel6Ideal.Spec

open Cert.Kernel6Ideal Cert.Kernel6Ideal.Gen
open Idealize.ShloMosaic Idealize.ShloMosaic.TcCoe Idealize.SL.Sem

theorem frame_reference : @Cert.quiescent_Reference6Ideal Cert.Reference6Ideal.Gen.facts := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

variable (m : (ℓ : Loc nD τ sig) → Buf (Elt Ideal) ℓ)

theorem result21 (c : Dev nD) : (Pipeline.afterTail₀ cfgs (dats m) 0 (V0 m) [hostOps1] c main_v21 : Vec Ideal S16x2048x8x64 .f32) =
    Cert.Reference6Ideal.Read.val_main_v40 (F := Ideal) (argX m c) (argC m c) (argG m c) (argW m c) := by
  rw [tail21]
  funext i
  obtain ⟨b, r, h, e, rfl⟩ : ∃ (b : Fin 16) (r : Fin 2048) (h : Fin 8) (e : Fin 64), i = ix4 b r h e := ⟨i 0, i 1, i 2, i 3, (ix4_eta i).symm⟩
  exact (byHeads_apply _ b r h e).trans ((slab7_at m c b _ r).trans (Cert.Reference6Ideal.Spec.v40_apply (argX m c) (argC m c) (argG m c) (argW m c) b r h e).symm)

theorem result25 (c : Dev nD) : (Pipeline.afterTail₀ cfgs (dats m) 0 (V0 m) [hostOps1] c main_v25 : Vec Ideal S16x2048x8x64 .f32) =
    Cert.Reference6Ideal.Read.val_main_v41 (F := Ideal) (argX m c) (argC m c) (argG m c) (argW m c) := by
  rw [tail25]
  funext i
  obtain ⟨b, r, h, e, rfl⟩ : ∃ (b : Fin 16) (r : Fin 2048) (h : Fin 8) (e : Fin 64), i = ix4 b r h e := ⟨i 0, i 1, i 2, i 3, (ix4_eta i).symm⟩
  exact (byHeads_apply _ b r h e).trans ((slab8_at m c b _ r).trans (Cert.Reference6Ideal.Spec.v41_apply (argX m c) (argC m c) (argG m c) (argW m c) b r h e).symm)

/-- A token's row in the flat array, after the reshape. -/
theorem flat1024 (y : S32768x1024.Idx → EReal) (b : Fin 16) (r : Fin 2048) (j : Fin 1024) :
    (shapeCast S16x2048x1024 y shapeCasts_S32768x1024_S16x2048x1024 : S16x2048x1024.Idx → EReal) (ix3 b r j) = y (ix2 (⟨b.val * 2048 + r.val, by omega⟩ : Fin 32768) j) := by
  refine shapeCast_apply _ _ _ _ ?_
  rw [rowMajor_val3 _ 2097152 1024 rfl rfl, rowMajor_val2 _ 1024 rfl]
  show (b.val * 2048 + r.val) * 1024 + j.val = b.val * 2097152 + r.val * 1024 + j.val
  omega

theorem result26 (c : Dev nD) : (Pipeline.afterTail₀ cfgs (dats m) 0 (V0 m) [hostOps1] c main_v26 : Vec Ideal S16x2048x1024 .f32) =
    Cert.Reference6Ideal.Read.val_main_v42 (F := Ideal) (argX m c) (argC m c) (argG m c) (argW m c) := by
  rw [tail26]
  funext i
  obtain ⟨b, r, j, rfl⟩ : ∃ (b : Fin 16) (r : Fin 2048) (j : Fin 1024), i = ix3 b r j := ⟨i 0, i 1, i 2, (ix3_eta i).symm⟩
  refine (flat1024 _ b r _).trans ?_
  rw [flat11_eq]
  refine Eq.trans ?_ ((colAt_eq m c b r (1536 + j.val) (by omega)).trans (Cert.Reference6Ideal.Spec.v42_apply (argX m c) (argC m c) (argG m c) (argW m c) b r j).symm)
  refine colAt_congr m c ?_ ?_ ?_
  · show (b.val * 2048 + r.val) / 2048 = b.val
    omega
  · show (b.val * 2048 + r.val) % 2048 = r.val
    omega
  · rfl

/-- A token's row in the flat array, after the reshape. -/
theorem flat1664 (y : S32768x1664.Idx → EReal) (b : Fin 16) (r : Fin 2048) (j : Fin 1664) :
    (shapeCast S16x2048x1664 y shapeCasts_S32768x1664_S16x2048x1664 : S16x2048x1664.Idx → EReal) (ix3 b r j) = y (ix2 (⟨b.val * 2048 + r.val, by omega⟩ : Fin 32768) j) := by
  refine shapeCast_apply _ _ _ _ ?_
  rw [rowMajor_val3 _ 3407872 1664 rfl rfl, rowMajor_val2 _ 1664 rfl]
  show (b.val * 2048 + r.val) * 1664 + j.val = b.val * 3407872 + r.val * 1664 + j.val
  omega

theorem result28 (c : Dev nD) : (Pipeline.afterTail₀ cfgs (dats m) 0 (V0 m) [hostOps1] c main_v28 : Vec Ideal S16x2048x1552 .f32) =
    Cert.Reference6Ideal.Read.val_main_v43 (F := Ideal) (argX m c) (argC m c) (argG m c) (argW m c) := by
  rw [tail28]
  funext i
  obtain ⟨b, r, j, rfl⟩ : ∃ (b : Fin 16) (r : Fin 2048) (j : Fin 1552), i = ix3 b r j := ⟨i 0, i 1, i 2, (ix3_eta i).symm⟩
  refine (?_ : _ = (shapeCast S16x2048x1664 ((dats m 0 c).arrAt 12 cfg0.N : S32768x1664.Idx → EReal) shapeCasts_S32768x1664_S16x2048x1664 : S16x2048x1664.Idx → EReal) (ix3 b r (⟨j.val, by omega⟩ : Fin 1664))).trans ?_
  · generalize (shapeCast S16x2048x1664 ((dats m 0 c).arrAt 12 cfg0.N : S32768x1664.Idx → EReal) shapeCasts_S32768x1664_S16x2048x1664 : S16x2048x1664.Idx → EReal) = z
    pointwise
  refine (flat1664 _ b r _).trans ?_
  rw [flat12_eq]
  refine Eq.trans ?_ ((colAt_eq m c b r (2560 + j.val) (by omega)).trans (Cert.Reference6Ideal.Spec.v43_apply (argX m c) (argC m c) (argG m c) (argW m c) b r j).symm)
  refine colAt_congr m c ?_ ?_ ?_
  · show (b.val * 2048 + r.val) / 2048 = b.val
    omega
  · show (b.val * 2048 + r.val) % 2048 = r.val
    omega
  · rfl

theorem algebraic : @Cert.algebraic_Kernel6Ideal_Reference6Ideal Cert.Kernel6Ideal.Gen.facts Cert.Reference6Ideal.Gen.facts := by
  intro m g m' g' hpre hag
  refine ⟨fun c => Cert.Reference6Ideal.Read.val_main_v40 (F := Ideal) (argX m c) (argC m c) (argG m c) (argW m c), fun c => Cert.Reference6Ideal.Read.val_main_v41 (F := Ideal) (argX m c) (argC m c) (argG m c) (argW m c), fun c => Cert.Reference6Ideal.Read.val_main_v42 (F := Ideal) (argX m c) (argC m c) (argG m c) (argW m c), fun c => Cert.Reference6Ideal.Read.val_main_v43 (F := Ideal) (argX m c) (argC m c) (argG m c) (argW m c), ?_, ?_⟩
  · exact (θ_run Cert.Kernel6Ideal.defs _ _).mono (fun r h c => ⟨((h c).2 main_v21 (Pipeline.mem_restRefs_of main_v21 (by decide) (by decide))).trans (result21 m c), ((h c).2 main_v25 (Pipeline.mem_restRefs_of main_v25 (by decide) (by decide))).trans (result25 m c), ((h c).2 main_v26 (Pipeline.mem_restRefs_of main_v26 (by decide) (by decide))).trans (result26 m c), ((h c).2 main_v28 (Pipeline.mem_restRefs_of main_v28 (by decide) (by decide))).trans (result28 m c), ((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c), ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c)⟩) (run_main (F := Ideal) m g)
  · refine (θ_run Cert.Reference6Ideal.defs _ _).mono (fun r h c => ?_) (Cert.Reference6Ideal.Value.run (F := Ideal) m' g')
    obtain ⟨e0, e1, e2, e3⟩ := hag c
    obtain ⟨h0, h1, h2, h3, ha⟩ := h c
    rw [Cert.Reference6Ideal.Read.val_main_v40_eq, e0, e1, e2, e3] at h0
    rw [Cert.Reference6Ideal.Read.val_main_v41_eq, e0, e1, e2, e3] at h1
    rw [Cert.Reference6Ideal.Read.val_main_v42_eq, e0, e1, e2, e3] at h2
    rw [Cert.Reference6Ideal.Read.val_main_v43_eq, e0, e1, e2, e3] at h3
    exact ⟨h0, h1, h2, h3, ha⟩

end Cert.Kernel6Ideal.Spec
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Frames
public import proofs.«01_k».proof.Proof.Agree
public import proofs.«01_k».proof.Proof.FfnAgree
public import proofs.«01_k».proof.Proof.MergeAgree
public import proofs.«01_k».proof.Proof.InAgree
public import proofs.«01_k».proof.Proof.LastAgree
public import proofs.«01_k».proof.Proof.SlabAgree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.KernelIdeal.Spec.preFacts,
  Cert.KernelIdeal.Spec.frame_kernel, Cert.KernelIdeal.Spec.frame_ideal, fun m ρ _ => Cert.KernelIdeal.Spec.frame_ideal m ρ True.intro,
  Cert.KernelIdeal.Spec.frame_reference, fun m ρ _ => Cert.KernelIdeal.Spec.frame_reference m ρ True.intro,
  fun m ρ _ => Cert.Kernel2.Gen.frame m ρ, fun m ρ _ => Cert.Kernel2Ideal.Gen.frame m ρ, Cert.Kernel2Ideal.Spec.frame_reference, fun m ρ _ => Cert.Kernel3.Gen.frame m ρ, fun m ρ _ => Cert.Kernel3Ideal.Gen.frame m ρ, Cert.Kernel3Ideal.Spec.frame_reference,
  fun m ρ _ => Cert.Kernel4.Gen.frame m ρ, fun m ρ _ => Cert.Kernel4Ideal.Gen.frame m ρ, Cert.Kernel4Ideal.Spec.frame_reference,
  fun m ρ _ => Cert.Kernel5.Gen.frame m ρ, fun m ρ _ => Cert.Kernel5Ideal.Gen.frame m ρ, Cert.Kernel5Ideal.Spec.frame_reference,
  fun m ρ _ => Cert.Kernel6.Gen.frame m ρ, fun m ρ _ => Cert.Kernel6Ideal.Gen.frame m ρ, Cert.Kernel6Ideal.Spec.frame_reference,
  True.intro, Cert.KernelIdeal.Spec.algebraic, True.intro, Cert.Kernel2Ideal.Spec.algebraic, True.intro, Cert.Kernel3Ideal.Spec.algebraic,
  True.intro, Cert.Kernel4Ideal.Spec.algebraic, True.intro, Cert.Kernel5Ideal.Spec.algebraic,
  True.intro, Cert.Kernel6Ideal.Spec.algebraic⟩

end Cert.Proof

end
